-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pack.Statement Cert.KernelIdeal.S40x256
  ∧ IdealRules.bf16_pack.Statement Cert.KernelIdeal.S40x128
  ∧ IdealRules.bf16_pack.Statement Cert.KernelIdeal.S64x128
  ∧ IdealRules.named_const.Statement Cert.KernelIdeal.κ "log2e_scale" .f32 0x3E0293EE#32 (((Real.log 2)⁻¹ * (Real.sqrt 128)⁻¹ : ℝ) : EReal)
  ∧ IdealRules.bf16_pack.Statement Cert.KernelIdeal.S128x128

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_4)) (v4 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_4) = v3 c
          ∧ r.2.mem ((c.tc : Thread Cert.KernelIdeal.nD Cert.KernelIdeal.τ).loc Cert.KernelIdeal.main_v4_6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S12x2048x20x128 : Shape := ⟨4, ![12, 2048, 20, 128]⟩
abbrev S12x2048x10x128 : Shape := ⟨4, ![12, 2048, 10, 128]⟩
abbrev S12x2048x10x40 : Shape := ⟨4, ![12, 2048, 10, 40]⟩
abbrev S_ : Shape := ⟨0, ![]⟩

class Facts : Prop where
  bitsLt_bf16_f32 : FTy.bits .bf16 < FTy.bits .f32
  bcast_S_S12x2048x20x128 : S_.BroadcastsInDim S12x2048x20x128 (![] : Fin 0 → Fin S12x2048x20x128.rank)
  reducesTo_S12x2048x20x128_S_d0_1_2_3 : S12x2048x20x128.ReducesTo [0, 1, 2, 3] S_
  h_S_ : 0 < S_.numel
  bcast_S_S12x2048x10x128 : S_.BroadcastsInDim S12x2048x10x128 (![] : Fin 0 → Fin S12x2048x10x128.rank)
  reducesTo_S12x2048x10x128_S_d0_1_2_3 : S12x2048x10x128.ReducesTo [0, 1, 2, 3] S_
  bcast_S_S12x2048x10x40 : S_.BroadcastsInDim S12x2048x10x40 (![] : Fin 0 → Fin S12x2048x10x40.rank)
  reducesTo_S12x2048x10x40_S_d0_1_2_3 : S12x2048x10x40.ReducesTo [0, 1, 2, 3] S_

variable [Facts]

def fn_part1 {F : FTy → Type} [FloatOps F] (main_v16 : IVec S_ 1) (main_v17 : FVec F S12x2048x10x40 .f32) : IVec S_ 1 :=
  let main_v18 : FVec F S12x2048x10x40 .f32 := Host.absf main_v17
  let main_cst_4 : FVec F S_ .f32 := constant S_ .f32 0x41130000#32
  let main_v19 : FVec F S12x2048x10x40 .f32 := broadcastInDim S12x2048x10x40 ![] bcast_S_S12x2048x10x40 main_cst_4
  let main_v20 : IVec S12x2048x10x40 1 := cmpf .ole main_v18 main_v19
  let main_c_5 : IVec S_ 1 := constantI S_ 1 1#1
  let main_v21 : IVec S_ 1 := (fun x v => Host.reduce IntOp.andi x v reducesTo_S12x2048x10x40_S_d0_1_2_3 h_S_) main_v20 main_c_5
  let main_v22 : IVec S_ 1 := andi main_v16 main_v21
  main_v22

def fn {F : FTy → Type} [FloatOps F] (main_arg0 : FVec F S12x2048x20x128 .bf16) (main_arg1 : FVec F S12x2048x10x128 .bf16) (main_arg2 : FVec F S12x2048x10x128 .bf16) (main_arg3 : FVec F S12x2048x10x40 .bf16) : IVec S_ 1 :=
  let main_v0 : FVec F S12x2048x20x128 .f32 := (extf .f32 · bitsLt_bf16_f32) main_arg0
  let main_v1 : FVec F S12x2048x20x128 .f32 := Host.absf main_v0
  let main_cst : FVec F S_ .f32 := constant S_ .f32 0x7F7F0000#32
  let main_v2 : FVec F S12x2048x20x128 .f32 := broadcastInDim S12x2048x20x128 ![] bcast_S_S12x2048x20x128 main_cst
  let main_v3 : IVec S12x2048x20x128 1 := cmpf .ole main_v1 main_v2
  let main_c : IVec S_ 1 := constantI S_ 1 1#1
  let main_v4 : IVec S_ 1 := (fun x v => Host.reduce IntOp.andi x v reducesTo_S12x2048x20x128_S_d0_1_2_3 h_S_) main_v3 main_c
  let main_v5 : FVec F S12x2048x10x128 .f32 := (extf .f32 · bitsLt_bf16_f32) main_arg1
  let main_v6 : FVec F S12x2048x10x128 .f32 := Host.absf main_v5
  let main_cst_0 : FVec F S_ .f32 := constant S_ .f32 0x7F7F0000#32
  let main_v7 : FVec F S12x2048x10x128 .f32 := broadcastInDim S12x2048x10x128 ![] bcast_S_S12x2048x10x128 main_cst_0
  let main_v8 : IVec S12x2048x10x128 1 := cmpf .ole main_v6 main_v7
  let main_c_1 : IVec S_ 1 := constantI S_ 1 1#1
  let main_v9 : IVec S_ 1 := (fun x v => Host.reduce IntOp.andi x v reducesTo_S12x2048x10x128_S_d0_1_2_3 h_S_) main_v8 main_c_1
  let main_v10 : FVec F S12x2048x10x128 .f32 := (extf .f32 · bitsLt_bf16_f32) main_arg2
  let main_v11 : FVec F S12x2048x10x128 .f32 := Host.absf main_v10
  let main_cst_2 : FVec F S_ .f32 := constant S_ .f32 0x7F7F0000#32
  let main_v12 : FVec F S12x2048x10x128 .f32 := broadcastInDim S12x2048x10x128 ![] bcast_S_S12x2048x10x128 main_cst_2
  let main_v13 : IVec S12x2048x10x128 1 := cmpf .ole main_v11 main_v12
  let main_c_3 : IVec S_ 1 := constantI S_ 1 1#1
  let main_v14 : IVec S_ 1 := (fun x v => Host.reduce IntOp.andi x v reducesTo_S12x2048x10x128_S_d0_1_2_3 h_S_) main_v13 main_c_3
  let main_v15 : IVec S_ 1 := andi main_v4 main_v9
  let main_v16 : IVec S_ 1 := andi main_v15 main_v14
  let main_v17 : FVec F S12x2048x10x40 .f32 := (extf .f32 · bitsLt_bf16_f32) main_arg3
  fn_part1 (F := F) main_v16 main_v17
-- ==== Kernel.lean ====
abbrev S12x2048x20x128 : Shape := ⟨4, ![12, 2048, 20, 128]⟩
abbrev S12x2048x10x128 : Shape := ⟨4, ![12, 2048, 10, 128]⟩
abbrev S12x2048x10x40 : Shape := ⟨4, ![12, 2048, 10, 40]⟩
abbrev S12x20x2048x128 : Shape := ⟨4, ![12, 20, 2048, 128]⟩
abbrev S12x10x2048x128 : Shape := ⟨4, ![12, 10, 2048, 128]⟩
abbrev S12x10x40x2048 : Shape := ⟨4, ![12, 10, 40, 2048]⟩
abbrev S12x10x40x128 : Shape := ⟨4, ![12, 10, 40, 128]⟩
abbrev S12x20x32 : Shape := ⟨3, ![12, 20, 32]⟩
abbrev S10x12x32 : Shape := ⟨3, ![10, 12, 32]⟩
abbrev S1x2x2048x128 : Shape := ⟨4, ![1, 2, 2048, 128]⟩
abbrev S1x1x2048x128 : Shape := ⟨4, ![1, 1, 2048, 128]⟩
abbrev S1x1x40x2048 : Shape := ⟨4, ![1, 1, 40, 2048]⟩
abbrev S1x1x40x128 : Shape := ⟨4, ![1, 1, 40, 128]⟩
abbrev S256x256 : Shape := ⟨2, ![256, 256]⟩
abbrev S40x2048 : Shape := ⟨2, ![40, 2048]⟩
abbrev S96x128 : Shape := ⟨2, ![96, 128]⟩
abbrev S32x120x128 : Shape := ⟨3, ![32, 120, 128]⟩
abbrev S32x240x128 : Shape := ⟨3, ![32, 240, 128]⟩
abbrev S1x1x40x256 : Shape := ⟨4, ![1, 1, 40, 256]⟩
abbrev S40x256 : Shape := ⟨2, ![40, 256]⟩
abbrev S120x256 : Shape := ⟨2, ![120, 256]⟩
abbrev S2048x128 : Shape := ⟨2, ![2048, 128]⟩
abbrev S64x128 : Shape := ⟨2, ![64, 128]⟩
abbrev S4x16x128 : Shape := ⟨3, ![4, 16, 128]⟩
abbrev S16x128 : Shape := ⟨2, ![16, 128]⟩
abbrev S128 : Shape := ⟨1, ![128]⟩
abbrev S1x128 : Shape := ⟨2, ![1, 128]⟩
abbrev S96 : Shape := ⟨1, ![96]⟩
abbrev S96x1 : Shape := ⟨2, ![96, 1]⟩
abbrev S32x128 : Shape := ⟨2, ![32, 128]⟩
abbrev S1x32 : Shape := ⟨2, ![1, 32]⟩
abbrev S1x1x32 : Shape := ⟨3, ![1, 1, 32]⟩
abbrev S1x1x64x128 : Shape := ⟨4, ![1, 1, 64, 128]⟩
abbrev S40x128 : Shape := ⟨2, ![40, 128]⟩
abbrev S40x1 : Shape := ⟨2, ![40, 1]⟩
abbrev S120x128 : Shape := ⟨2, ![120, 128]⟩
abbrev S1x1x128x128 : Shape := ⟨4, ![1, 1, 128, 128]⟩
abbrev S128x128 : Shape := ⟨2, ![128, 128]⟩
abbrev S64x256 : Shape := ⟨2, ![64, 256]⟩
abbrev S128x256 : Shape := ⟨2, ![128, 256]⟩
abbrev S1x120x128 : Shape := ⟨3, ![1, 120, 128]⟩
abbrev S8x128 : Shape := ⟨2, ![8, 128]⟩
abbrev S240x128 : Shape := ⟨2, ![240, 128]⟩
abbrev S1x240x128 : Shape := ⟨3, ![1, 240, 128]⟩
abbrev S120x384 : Shape := ⟨2, ![120, 384]⟩
abbrev S384x256 : Shape := ⟨2, ![384, 256]⟩
abbrev S256x128 : Shape := ⟨2, ![256, 128]⟩
abbrev S240x256 : Shape := ⟨2, ![240, 256]⟩
abbrev S128x240 : Shape := ⟨2, ![128, 240]⟩
abbrev S128x384 : Shape := ⟨2, ![128, 384]⟩

abbrev nBuf : Space → Nat
  | .hbm => 15
  | .vmem => 28
  | .smem => 0
  | _ => 0

abbrev bufTy : (tb : Table) → Fin (tcTables nBuf tb) → BufTy
  | .hbm, ⟨0, _⟩ => ⟨S12x2048x20x128, .bf16⟩
  | .hbm, ⟨1, _⟩ => ⟨S12x2048x10x128, .bf16⟩
  | .hbm, ⟨2, _⟩ => ⟨S12x2048x10x128, .bf16⟩
  | .hbm, ⟨3, _⟩ => ⟨S12x2048x10x40, .bf16⟩
  | .hbm, ⟨4, _⟩ => ⟨S12x20x2048x128, .bf16⟩
  | .hbm, ⟨5, _⟩ => ⟨S12x10x2048x128, .bf16⟩
  | .hbm, ⟨6, _⟩ => ⟨S12x10x2048x128, .bf16⟩
  | .hbm, ⟨7, _⟩ => ⟨S12x10x40x2048, .bf16⟩
  | .hbm, ⟨8, _⟩ => ⟨S12x20x2048x128, .bf16⟩
  | .hbm, ⟨9, _⟩ => ⟨S12x10x40x128, .f32⟩
  | .hbm, ⟨10, _⟩ => ⟨S12x10x40x128, .f32⟩
  | .hbm, ⟨11, _⟩ => ⟨S12x20x2048x128, .fp8e4m3⟩
  | .hbm, ⟨12, _⟩ => ⟨S12x20x32, .f32⟩
  | .hbm, ⟨13, _⟩ => ⟨S12x10x2048x128, .fp8e4m3⟩
  | .hbm, ⟨14, _⟩ => ⟨S10x12x32, .f32⟩
  | .local _ .vmem, ⟨0, _⟩ => ⟨S1x2x2048x128, .bf16⟩
  | .local _ .vmem, ⟨1, _⟩ => ⟨S1x2x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x40x2048, .bf16⟩
  | .local _ .vmem, ⟨7, _⟩ => ⟨S1x1x40x2048, .bf16⟩
  | .local _ .vmem, ⟨8, _⟩ => ⟨S1x2x2048x128, .bf16⟩
  | .local _ .vmem, ⟨9, _⟩ => ⟨S1x2x2048x128, .bf16⟩
  | .local _ .vmem, ⟨10, _⟩ => ⟨S1x1x40x128, .f32⟩
  | .local _ .vmem, ⟨11, _⟩ => ⟨S1x1x40x128, .f32⟩
  | .local _ .vmem, ⟨12, _⟩ => ⟨S1x1x40x128, .f32⟩
  | .local _ .vmem, ⟨13, _⟩ => ⟨S1x1x40x128, .f32⟩
  | .local _ .vmem, ⟨14, _⟩ => ⟨S1x2x2048x128, .fp8e4m3⟩
  | .local _ .vmem, ⟨15, _⟩ => ⟨S1x2x2048x128, .fp8e4m3⟩
  | .local _ .vmem, ⟨16, _⟩ => ⟨S12x20x32, .f32⟩
  | .local _ .vmem, ⟨17, _⟩ => ⟨S1x1x2048x128, .fp8e4m3⟩
  | .local _ .vmem, ⟨18, _⟩ => ⟨S1x1x2048x128, .fp8e4m3⟩
  | .local _ .vmem, ⟨19, _⟩ => ⟨S10x12x32, .f32⟩
  | .local _ .vmem, ⟨20, _⟩ => ⟨S256x256, .bf16⟩
  | .local _ .vmem, ⟨21, _⟩ => ⟨S40x2048, .f32⟩
  | .local _ .vmem, ⟨22, _⟩ => ⟨S40x2048, .f32⟩
  | .local _ .vmem, ⟨23, _⟩ => ⟨S96x128, .f32⟩
  | .local _ .vmem, ⟨24, _⟩ => ⟨S96x128, .f32⟩
  | .local _ .vmem, ⟨25, _⟩ => ⟨S96x128, .f32⟩
  | .local _ .vmem, ⟨26, _⟩ => ⟨S32x120x128, .bf16⟩
  | .local _ .vmem, ⟨27, _⟩ => ⟨S32x240x128, .bf16⟩
  | _, _ => ⟨S12x2048x20x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [BitOps F]

abbrev grid0 : Pipeline.Grid := ⟨2, ![12, 10], ![false, false]⟩

def k0_off1 (i : grid0.Coords) (c0_i32_1046 : BitVec 32) : Fin 3 → Nat :=
  let arg0 : BitVec 32 := BitVec.ofNat 32 (i 0).val
  let v1859 : Index := Scalar.indexCast arg0
  let c2_i32_1045 : BitVec 32 := 2#32
  let arg1 : BitVec 32 := BitVec.ofNat 32 (i 1).val
  let v1857 : BitVec 32 := Scalar.muli c2_i32_1045 arg1
  let v1858 : BitVec 32 := Scalar.addi v1857 c0_i32_1046
  let v1860 : Index := Scalar.indexCast v1858
  let c0_1047 : Index := 0#32
  ![v1859.toNat, v1860.toNat, 0]
def k0_off2 (i : grid0.Coords) : Fin 3 → Nat :=
  let arg1 : BitVec 32 := BitVec.ofNat 32 (i 1).val
  let v1883 : Index := Scalar.indexCast arg1
  let arg0 : BitVec 32 := BitVec.ofNat 32 (i 0).val
  let v1884 : Index := Scalar.indexCast arg0
  let c0_1055 : Index := 0#32
  ![v1883.toNat, v1884.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x40x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2048x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S12x20x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x2048x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S10x12x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "log2e_scale" => some (((Real.log 2)⁻¹ * (Real.sqrt 128)⁻¹ : ℝ) : EReal)
  | _ => none
-- ==== ReferenceIdeal.lean ====
abbrev S12x2048x20x128 : Shape := ⟨4, ![12, 2048, 20, 128]⟩
abbrev S12x2048x10x128 : Shape := ⟨4, ![12, 2048, 10, 128]⟩
abbrev S12x2048x10x40 : Shape := ⟨4, ![12, 2048, 10, 40]⟩
abbrev S12x32x64x20x128 : Shape := ⟨5, ![12, 32, 64, 20, 128]⟩
abbrev S_ : Shape := ⟨0, ![]⟩
abbrev S12x32x20 : Shape := ⟨3, ![12, 32, 20]⟩
abbrev S12x32x1x20x1 : Shape := ⟨5, ![12, 32, 1, 20, 1]⟩
abbrev S12x32x64x10x128 : Shape := ⟨5, ![12, 32, 64, 10, 128]⟩
abbrev S12x32x10 : Shape := ⟨3, ![12, 32, 10]⟩
abbrev S12x32x1x10x1 : Shape := ⟨5, ![12, 32, 1, 10, 1]⟩
abbrev S12x2048x10x2x128 : Shape := ⟨5, ![12, 2048, 10, 2, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1x1 : Shape := ⟨5, ![1, 2048, 2048, 1, 1]⟩
abbrev S12x1x2048x10x40 : Shape := ⟨5, ![12, 1, 2048, 10, 40]⟩
abbrev S12x2048x2048x10x40 : Shape := ⟨5, ![12, 2048, 2048, 10, 40]⟩
abbrev S12x2048x1x10x40 : Shape := ⟨5, ![12, 2048, 1, 10, 40]⟩
abbrev S12x10x40x128 : Shape := ⟨4, ![12, 10, 40, 128]⟩
abbrev S12x10x2048x2048x2 : Shape := ⟨5, ![12, 10, 2048, 2048, 2]⟩
abbrev S12x10x2x2048x2048 : Shape := ⟨5, ![12, 10, 2, 2048, 2048]⟩
abbrev S12x10x2048x40x2 : Shape := ⟨5, ![12, 10, 2048, 40, 2]⟩
abbrev S12x10x2x2048x40 : Shape := ⟨5, ![12, 10, 2, 2048, 40]⟩
abbrev S12x10x2x2048 : Shape := ⟨4, ![12, 10, 2, 2048]⟩
abbrev S12x10x2x2048x1 : Shape := ⟨5, ![12, 10, 2, 2048, 1]⟩
abbrev S12x10x128x2x2048 : Shape := ⟨5, ![12, 10, 128, 2, 2048]⟩
abbrev S12x20x2048x128 : Shape := ⟨4, ![12, 20, 2048, 128]⟩
abbrev S12x20x32 : Shape := ⟨3, ![12, 20, 32]⟩
abbrev S10x12x32 : Shape := ⟨3, ![10, 12, 32]⟩

abbrev nBuf : Space → Nat
  | .hbm => 186
  | .vmem => 0
  | .smem => 0
  | _ => 0

abbrev hbmTy0_0 (i : Nat) : BufTy := match i % 128 with
  | 0 => ⟨S12x2048x20x128, .bf16⟩
  | 1 => ⟨S12x2048x10x128, .bf16⟩
  | 2 => ⟨S12x2048x10x128, .bf16⟩
  | 3 => ⟨S12x2048x10x40, .bf16⟩
  | 4 => ⟨S12x2048x20x128, .f32⟩
  | 5 => ⟨S12x32x64x20x128, .f32⟩
  | 6 => ⟨S12x32x64x20x128, .f32⟩
  | 7 => ⟨S_, .f32⟩
  | 8 => ⟨S12x32x20, .f32⟩
  | 9 => ⟨S_, .f32⟩
  | 10 => ⟨S12x32x20, .f32⟩
  | 11 => ⟨S12x32x20, .f32⟩
  | 12 => ⟨S12x32x20, .f32⟩
  | 13 => ⟨S_, .f32⟩
  | 14 => ⟨S_, .f32⟩
  | 15 => ⟨S12x32x20, .f32⟩
  | 16 => ⟨S12x32x20, .f32⟩
  | 17 => ⟨S12x32x20, .f32⟩
  | 18 => ⟨S_, .f32⟩
  | 19 => ⟨S12x32x20, .f32⟩
  | 20 => ⟨S12x32x20, .f32⟩
  | 21 => ⟨S_, .f32⟩
  | 22 => ⟨S12x32x20, .f32⟩
  | 23 => ⟨S12x32x20, .f32⟩
  | 24 => ⟨S_, .f32⟩
  | 25 => ⟨S12x32x20, .f32⟩
  | 26 => ⟨S12x32x20, .i1⟩
  | 27 => ⟨S_, .f32⟩
  | 28 => ⟨S12x32x20, .f32⟩
  | 29 => ⟨S12x32x20, .f32⟩
  | 30 => ⟨S_, .f32⟩
  | 31 => ⟨S_, .f32⟩
  | 32 => ⟨S12x32x20, .f32⟩
  | 33 => ⟨S12x32x20, .f32⟩
  | 34 => ⟨S12x32x1x20x1, .f32⟩
  | 35 => ⟨S12x32x64x20x128, .f32⟩
  | 36 => ⟨S12x32x64x20x128, .f32⟩
  | 37 => ⟨S_, .f32⟩
  | 38 => ⟨S_, .f32⟩
  | 39 => ⟨S_, .f32⟩
  | 40 => ⟨S12x32x64x20x128, .f32⟩
  | 41 => ⟨S12x32x64x20x128, .f32⟩
  | 42 => ⟨S_, .f32⟩
  | 43 => ⟨S12x32x64x20x128, .f32⟩
  | 44 => ⟨S12x32x64x20x128, .f32⟩
  | 45 => ⟨S12x32x1x20x1, .f32⟩
  | 46 => ⟨S12x32x64x20x128, .f32⟩
  | 47 => ⟨S12x32x64x20x128, .f32⟩
  | 48 => ⟨S12x2048x20x128, .f32⟩
  | 49 => ⟨S12x2048x10x128, .f32⟩
  | 50 => ⟨S12x32x64x10x128, .f32⟩
  | 51 => ⟨S12x32x64x10x128, .f32⟩
  | 52 => ⟨S_, .f32⟩
  | 53 => ⟨S12x32x10, .f32⟩
  | 54 => ⟨S_, .f32⟩
  | 55 => ⟨S12x32x10, .f32⟩
  | 56 => ⟨S12x32x10, .f32⟩
  | 57 => ⟨S12x32x10, .f32⟩
  | 58 => ⟨S_, .f32⟩
  | 59 => ⟨S_, .f32⟩
  | 60 => ⟨S12x32x10, .f32⟩
  | 61 => ⟨S12x32x10, .f32⟩
  | 62 => ⟨S12x32x10, .f32⟩
  | 63 => ⟨S_, .f32⟩
  | 64 => ⟨S12x32x10, .f32⟩
  | 65 => ⟨S12x32x10, .f32⟩
  | 66 => ⟨S_, .f32⟩
  | 67 => ⟨S12x32x10, .f32⟩
  | 68 => ⟨S12x32x10, .f32⟩
  | 69 => ⟨S_, .f32⟩
  | 70 => ⟨S12x32x10, .f32⟩
  | 71 => ⟨S12x32x10, .i1⟩
  | 72 => ⟨S_, .f32⟩
  | 73 => ⟨S12x32x10, .f32⟩
  | 74 => ⟨S12x32x10, .f32⟩
  | 75 => ⟨S_, .f32⟩
  | 76 => ⟨S_, .f32⟩
  | 77 => ⟨S12x32x10, .f32⟩
  | 78 => ⟨S12x32x10, .f32⟩
  | 79 => ⟨S12x32x1x10x1, .f32⟩
  | 80 => ⟨S12x32x64x10x128, .f32⟩
  | 81 => ⟨S12x32x64x10x128, .f32⟩
  | 82 => ⟨S_, .f32⟩
  | 83 => ⟨S_, .f32⟩
  | 84 => ⟨S_, .f32⟩
  | 85 => ⟨S12x32x64x10x128, .f32⟩
  | 86 => ⟨S12x32x64x10x128, .f32⟩
  | 87 => ⟨S_, .f32⟩
  | 88 => ⟨S12x32x64x10x128, .f32⟩
  | 89 => ⟨S12x32x64x10x128, .f32⟩
  | 90 => ⟨S12x32x1x10x1, .f32⟩
  | 91 => ⟨S12x32x64x10x128, .f32⟩
  | 92 => ⟨S12x32x64x10x128, .f32⟩
  | 93 => ⟨S12x2048x10x128, .f32⟩
  | 94 => ⟨S12x2048x10x2x128, .f32⟩
  | 95 => ⟨S12x2048x10x128, .f32⟩
  | 96 => ⟨S12x2048x10x40, .f32⟩
  | 97 => ⟨S12x2048x10x40, .f32⟩
  | 98 => ⟨S_, .f32⟩
  | 99 => ⟨S12x2048x10x40, .f32⟩
  | 100 => ⟨S12x2048x10x40, .f32⟩
  | 101 => ⟨S12x2048x10x40, .f32⟩
  | 102 => ⟨S12x2048x10x40, .f32⟩
  | 103 => ⟨S12x2048x10x40, .i1⟩
  | 104 => ⟨S12x2048x10x40, .f32⟩
  | 105 => ⟨S12x2048x10x40, .f32⟩
  | 106 => ⟨S12x2048x10x40, .f32⟩
  | 107 => ⟨S12x2048x10x40, .f32⟩
  | 108 => ⟨S12x2048x10x40, .f32⟩
  | 109 => ⟨S12x2048x10x40, .f32⟩
  | 110 => ⟨S12x2048x10x40, .f32⟩
  | 111 => ⟨S12x2048x10x40, .f32⟩
  | 112 => ⟨S12x2048x10x40, .f32⟩
  | 113 => ⟨S_, .f32⟩
  | 114 => ⟨S12x2048x10x40, .f32⟩
  | 115 => ⟨S12x2048x10x40, .f32⟩
  | 116 => ⟨S12x2048x10x40, .f32⟩
  | 117 => ⟨S12x2048x10x40, .f32⟩
  | 118 => ⟨S2048, .i32⟩
  | 119 => ⟨S2048x1, .i32⟩
  | 120 => ⟨S2048, .i32⟩
  | 121 => ⟨S1x2048, .i32⟩
  | 122 => ⟨S2048x2048, .i32⟩
  | 123 => ⟨S2048x2048, .i32⟩
  | 124 => ⟨S2048x2048, .i1⟩
  | 125 => ⟨S1x2048x2048x1x1, .i1⟩
  | 126 => ⟨S12x1x2048x10x40, .f32⟩
  | 127 => ⟨S_, .f32⟩
  | _ => ⟨S12x2048x20x128, .bf16⟩

abbrev hbmTy0_1 (i : Nat) : BufTy := match i % 128 with
  | 0 => ⟨S_, .f32⟩
  | 1 => ⟨S12x2048x2048x10x40, .i1⟩
  | 2 => ⟨S12x2048x2048x10x40, .f32⟩
  | 3 => ⟨S12x2048x2048x10x40, .f32⟩
  | 4 => ⟨S12x2048x2048x10x40, .f32⟩
  | 5 => ⟨S_, .f32⟩
  | 6 => ⟨S12x2048x10x40, .f32⟩
  | 7 => ⟨S12x2048x1x10x40, .f32⟩
  | 8 => ⟨S12x1x2048x10x40, .f32⟩
  | 9 => ⟨S12x2048x2048x10x40, .f32⟩
  | 10 => ⟨S12x2048x2048x10x40, .f32⟩
  | 11 => ⟨S12x2048x2048x10x40, .f32⟩
  | 12 => ⟨S12x2048x2048x10x40, .f32⟩
  | 13 => ⟨S12x1x2048x10x40, .f32⟩
  | 14 => ⟨S12x2048x2048x10x40, .f32⟩
  | 15 => ⟨S12x2048x2048x10x40, .f32⟩
  | 16 => ⟨S_, .f32⟩
  | 17 => ⟨S_, .f32⟩
  | 18 => ⟨S12x2048x2048x10x40, .i1⟩
  | 19 => ⟨S12x2048x2048x10x40, .f32⟩
  | 20 => ⟨S12x2048x2048x10x40, .f32⟩
  | 21 => ⟨S12x1x2048x10x40, .f32⟩
  | 22 => ⟨S12x2048x10x40, .f32⟩
  | 23 => ⟨S12x10x40x128, .f32⟩
  | 24 => ⟨S12x1x2048x10x40, .f32⟩
  | 25 => ⟨S12x2048x10x40, .f32⟩
  | 26 => ⟨S12x10x40x128, .f32⟩
  | 27 => ⟨S12x10x2048x2048x2, .f32⟩
  | 28 => ⟨S12x10x2x2048x2048, .f32⟩
  | 29 => ⟨S12x10x2048x40x2, .f32⟩
  | 30 => ⟨S12x10x2x2048x40, .f32⟩
  | 31 => ⟨S_, .f32⟩
  | 32 => ⟨S_, .f32⟩
  | 33 => ⟨S12x10x2x2048x40, .f32⟩
  | 34 => ⟨S12x10x2x2048x40, .f32⟩
  | 35 => ⟨S_, .f32⟩
  | 36 => ⟨S12x10x2x2048, .f32⟩
  | 37 => ⟨S_, .f32⟩
  | 38 => ⟨S12x10x2x2048, .f32⟩
  | 39 => ⟨S12x10x2x2048, .f32⟩
  | 40 => ⟨S12x10x2x2048x1, .f32⟩
  | 41 => ⟨S12x10x2x2048x40, .f32⟩
  | 42 => ⟨S12x10x2x2048x40, .f32⟩
  | 43 => ⟨S12x10x2x2048x40, .f32⟩
  | 44 => ⟨S_, .f32⟩
  | 45 => ⟨S12x10x2x2048, .f32⟩
  | 46 => ⟨S12x10x2x2048x1, .f32⟩
  | 47 => ⟨S12x10x2x2048x40, .f32⟩
  | 48 => ⟨S12x10x2x2048x40, .f32⟩
  | 49 => ⟨S12x10x2048x2048x2, .f32⟩
  | 50 => ⟨S12x10x2x2048x2048, .f32⟩
  | 51 => ⟨S12x10x128x2x2048, .f32⟩
  | 52 => ⟨S12x2048x10x2x128, .f32⟩
  | 53 => ⟨S12x2048x20x128, .f32⟩
  | 54 => ⟨S12x2048x20x128, .bf16⟩
  | 55 => ⟨S12x20x2048x128, .bf16⟩
  | 56 => ⟨S12x20x32, .f32⟩
  | 57 => ⟨S10x12x32, .f32⟩
  | _ => ⟨S12x2048x20x128, .bf16⟩

abbrev hbmTy (i : Nat) : BufTy := match i / 128 with
  | 0 => hbmTy0_0 i
  | 1 => hbmTy0_1 i
  | _ => ⟨S12x2048x20x128, .bf16⟩

abbrev bufTy : (tb : Table) → Fin (tcTables nBuf tb) → BufTy
  | .hbm, ⟨i, _⟩ => hbmTy i
  | _, _ => ⟨S12x2048x20x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_cst_16 : Ref sig .tc := ⟨.hbm, 75, rfl⟩
abbrev main_call2_v0 : Ref sig .tc := ⟨.hbm, 76, rfl⟩
abbrev main_call2_v1 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_17 : Ref sig .tc := ⟨.hbm, 82, rfl⟩
abbrev main_cst_18 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call4_v0 : Ref sig .tc := ⟨.hbm, 97, rfl⟩
abbrev main_call4_call0_cst : Ref sig .tc := ⟨.hbm, 98, rfl⟩
abbrev main_call4_call0_v0 : Ref sig .tc := ⟨.hbm, 99, rfl⟩
abbrev main_call4_call0_v1 : Ref sig .tc := ⟨.hbm, 100, rfl⟩
abbrev main_call4_call0_v2 : Ref sig .tc := ⟨.hbm, 101, rfl⟩
abbrev main_call4_call0_v3 : Ref sig .tc := ⟨.hbm, 102, rfl⟩
abbrev main_call4_call0_v4 : Ref sig .tc := ⟨.hbm, 103, rfl⟩
abbrev main_call4_call0_v5 : Ref sig .tc := ⟨.hbm, 104, rfl⟩
abbrev main_call4_call0_v6 : Ref sig .tc := ⟨.hbm, 105, rfl⟩
abbrev main_call4_call0_v7 : Ref sig .tc := ⟨.hbm, 106, rfl⟩
abbrev main_call4_call0_v8 : Ref sig .tc := ⟨.hbm, 107, rfl⟩
abbrev main_call4_call0_v9 : Ref sig .tc := ⟨.hbm, 108, rfl⟩
abbrev main_call4_call0_v10 : Ref sig .tc := ⟨.hbm, 109, rfl⟩
abbrev main_call4_call0_v11 : Ref sig .tc := ⟨.hbm, 110, rfl⟩
abbrev main_call4_v1 : Ref sig .tc := ⟨.hbm, 111, rfl⟩
abbrev main_v59 : Ref sig .tc := ⟨.hbm, 112, rfl⟩
abbrev main_cst_19 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_20 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_v73 : Ref sig .tc := ⟨.hbm, 132, rfl⟩
abbrev main_cst_21 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_cst_22 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_23 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_24 : Ref sig .tc := ⟨.hbm, 163, rfl⟩
abbrev main_v98 : Ref sig .tc := ⟨.hbm, 164, rfl⟩
abbrev main_cst_25 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_26 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩

abbrev nD : Nat := 1
abbrev τ : Topo := Topo.v7x

variable {F : FTy → Type} [FloatOps F]
-- ==== Proof.Run.Kernel.Runs.lean ====
/- What the runs of the kernel share: the conditions, the idle points, the memrefs of the stages and of the scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 120 = 0 :=
  (fun t => by
    have ht : t.val < 120 := Nat.lt_of_lt_of_eq t.isLt N_0
    have e0 : (grid0.coords t 0).val = t.val / 10 % 12 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 120 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x2x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x40x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x40x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x40x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2048x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x20x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x2048x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S10x12x32 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x256 .bf16 := Memref.whole cc0_scratch0
abbrev scM0_1 : Memref sig .tc .vmem S40x2048 .f32 := Memref.whole cc0_scratch1
abbrev scM0_2 : Memref sig .tc .vmem S40x2048 .f32 := Memref.whole cc0_scratch2
abbrev scM0_3 : Memref sig .tc .vmem S96x128 .f32 := Memref.whole cc0_scratch3
abbrev scM0_4 : Memref sig .tc .vmem S96x128 .f32 := Memref.whole cc0_scratch4
abbrev scM0_5 : Memref sig .tc .vmem S96x128 .f32 := Memref.whole cc0_scratch5
abbrev scM0_6 : Memref sig .tc .vmem S32x120x128 .bf16 := Memref.whole cc0_scratch6
abbrev scM0_7 : Memref sig .tc .vmem S32x240x128 .bf16 := Memref.whole cc0_scratch7
/-- The scratch `arg13` the kernel carries between points, as a view: what it holds is stated through it. -/
abbrev VS0_0 : View sig .tc .vmem S256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.Run.Kernel.RunA.lean ====
/- The run of the whole body at the first grid point, where the triangle of ones is written. -/
module

public import proofs.«01_k».proof.Proof.Run.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 12328000 in set_option sl_exec.squeezeSlice true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 9, 10) at anything, handed back at some contents nothing names. -/
noncomputable def kernelRun0_A (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) :
    { LS0 : List (View.Piece (Elt F) S256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_gated_slot_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_gated_slot_attention_eq_skeleton]; unfold cc0_gated_slot_attention_skel
    simp only [k0_part289_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part290_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part291_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part292_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.Run.Kernel.RunB.lean ====
/- The run of the whole body at every later grid point. -/
module

public import proofs.«01_k».proof.Proof.Run.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 12308000 in set_option sl_exec.squeezeSlice true in
/-- What the body's stores leave in each output's staging memref, as pieces (last first) IN CASE B (`scf.if` 0 not taken: points 1, 2, … 119: 119 of 120), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8, 9, 10) at anything, handed back at some contents nothing names. -/
noncomputable def kernelRun0_B (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) :
    { LS0 : List (View.Piece (Elt F) S256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_gated_slot_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨[], fun E K => ?run⟩
  case run =>
    simp only [cc0_gated_slot_attention_eq_skeleton]; unfold cc0_gated_slot_attention_skel
    simp only [k0_part289_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part290_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part291_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part292_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _; isplitr; · ipureintro; exact harg13.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.Run.Kernel.Frame.lean ====
/- What the outputs and the carried scratch hold after each point, and the run of the whole program. -/
module

public import proofs.«01_k».proof.Proof.Run.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: 1 piece of `S256x256` tiling it (Lib/Ring.lean `Piece.tiledL`). -/
theorem scover0_A_0 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) (y : S256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1 S256x256.size (by sl_kernel_rfl) y

/-- What case A leaves in scratch `arg13`: its pieces read back over junk. -/
def sout0_A_0 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) : Vec F S256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1)

/-- Case B stores nothing into scratch `arg13`: it holds what the point before left. -/
def sout0_B_0 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) : Vec F S256x256 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 120 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a point of case A: that case's contents. -/
theorem outsAt0_A (c : Dev nD) (t : Fin cfg0.N) (h0 : t.val % 120 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 120 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- The output windows this certificate FORGETS (4, 5, 6, 7, 8, 9, 10): nothing reads what the kernel leaves in them, so nothing
    of it is named (Lib/Pipeline/Dat.lean `Dat.toRForget`). -/
def forgets0 : Fin 11 → Bool := fun w => w.val == 4 || w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 120 := lt_of_lt_of_eq t.isLt (show cfg0.N = 120 from N_0)
  by_cases h0 : t.val % 120 = 0
  · by_cases hz : t.val = 0
    · rw [PhiS_castSucc m c t, PhiS_zero m c _ _ hz, PhiA0_eq]
      rw [outsAt0_A m c t h0]
      unfold sout0_A_0
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, ⟨%es0, HS0⟩, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          isplitl [HS4]
          · iexact HS4
          isplitl [HS5]
          · iexact HS5
          isplitl [HS6]
          · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; have hN : t.val < 120 := lt_of_lt_of_eq t.isLt (show cfg0.N = 120 from N_0); omega
  · by_cases hz : t.val = 0
    · exfalso; have hN : t.val < 120 := lt_of_lt_of_eq t.isLt (show cfg0.N = 120 from N_0); omega
    · rw [PhiS_castSucc m c t, PhiS_pos m c _ _ hz]
      rw [outsAt0_B m c t h0]
      unfold sout0_B_0
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 120 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Run.KernelIdeal.Runs.lean ====
/- What the runs of the kernel share: the conditions, the idle points, the memrefs of the stages and of the scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 120 = 0 :=
  (fun t => by
    have ht : t.val < 120 := Nat.lt_of_lt_of_eq t.isLt N_0
    have e0 : (grid0.coords t 0).val = t.val / 10 % 12 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 120 = 0)

/-! ## The kernel body on any staging memrefs: a subtype the run finds -/

/-- One staging buffer of output window 4, through which its contents are stated (`View.read_writes_of_cover`: the
    choice does not matter). -/
abbrev VO0_4 : View sig .tc .vmem S1x2x2048x128 .bf16 := (Memref.whole cc0_stg4_0 : Memref sig .tc .vmem S1x2x2048x128 .bf16).view
/-- One staging buffer of output window 5, through which its contents are stated (`View.read_writes_of_cover`: the
    choice does not matter). -/
abbrev VO0_5 : View sig .tc .vmem S1x1x40x128 .f32 := (Memref.whole cc0_stg5_0 : Memref sig .tc .vmem S1x1x40x128 .f32).view
/-- One staging buffer of output window 6, through which its contents are stated (`View.read_writes_of_cover`: the
    choice does not matter). -/
abbrev VO0_6 : View sig .tc .vmem S1x1x40x128 .f32 := (Memref.whole cc0_stg6_0 : Memref sig .tc .vmem S1x1x40x128 .f32).view
/-- Each window's current staging memref at point `t`, spelled as the pipeline passes it (`bodyAt0`), and its wholeness. -/
abbrev ms0_0 (t : Fin cfg0.N) : Memref sig .tc .vmem S1x2x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x40x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x40x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x40x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2048x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x20x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x2048x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S10x12x32 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x256 .bf16 := Memref.whole cc0_scratch0
abbrev scM0_1 : Memref sig .tc .vmem S40x2048 .f32 := Memref.whole cc0_scratch1
abbrev scM0_2 : Memref sig .tc .vmem S40x2048 .f32 := Memref.whole cc0_scratch2
abbrev scM0_3 : Memref sig .tc .vmem S96x128 .f32 := Memref.whole cc0_scratch3
abbrev scM0_4 : Memref sig .tc .vmem S96x128 .f32 := Memref.whole cc0_scratch4
abbrev scM0_5 : Memref sig .tc .vmem S96x128 .f32 := Memref.whole cc0_scratch5
abbrev scM0_6 : Memref sig .tc .vmem S32x120x128 .bf16 := Memref.whole cc0_scratch6
abbrev scM0_7 : Memref sig .tc .vmem S32x240x128 .bf16 := Memref.whole cc0_scratch7
/-- The scratch `arg13` the kernel carries between points, as a view: what it holds is stated through it. -/
abbrev VS0_0 : View sig .tc .vmem S256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.Run.KernelIdeal.RunA.lean ====
/- The run of the whole body at the first grid point, where the triangle of ones is written. -/
module

public import proofs.«01_k».proof.Proof.Run.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 15568000 in set_option sl_exec.squeezeSlice true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the scales' buffers (8, 10) at given contents, handed back with their pieces written over them, and the FORGOTTEN outputs' (7, 9) at anything, handed back at some contents nothing names. -/
noncomputable def kernelRun0_A (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) :
    Σ' (L4 : List (View.Piece (Elt F) S1x2x2048x128 .bf16)), Σ' (L5 : List (View.Piece (Elt F) S1x1x40x128 .f32)), Σ' (L6 : List (View.Piece (Elt F) S1x1x40x128 .f32)), Σ' (LS0 : List (View.Piece (Elt F) S256x256 .bf16)), Σ' (LT1 : List (View.Piece (Elt F) S40x2048 .f32)), Σ' (LT2 : List (View.Piece (Elt F) S40x2048 .f32)), Σ' (LT3 : List (View.Piece (Elt F) S96x128 .f32)), Σ' (LT4 : List (View.Piece (Elt F) S96x128 .f32)), Σ' (LT6 : List (View.Piece (Elt F) S32x120x128 .bf16)), Σ' (L8 : List (View.Piece (Elt F) S12x20x32 .f32)), Σ' (L10 : List (View.Piece (Elt F) S10x12x32 .f32)), { LT7 : List (View.Piece (Elt F) S32x240x128 .bf16) //
      ∀ (x8 : Vec F S12x20x32 .f32) (x10 : Vec F S10x12x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x8 ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (arg10.view.loc (c : Thread nD τ) ↦[arg10.view.set]{fullShare} arg10.view.writes (Elt F) (harg10.unread x8) L8) ∗ (∃ d, owns (c : Thread nD τ) arg11 fullShare d) ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3) ∗ (∃ f, arg17.view.loc (c : Thread nD τ) ↦[arg17.view.set]{fullShare} arg17.view.writes (Elt F) f LT4) ∗ (∃ d, owns (c : Thread nD τ) arg18 fullShare d) ∗ (∃ f, arg19.view.loc (c : Thread nD τ) ↦[arg19.view.set]{fullShare} arg19.view.writes (Elt F) f LT6) ∗ (∃ f, arg20.view.loc (c : Thread nD τ) ↦[arg20.view.set]{fullShare} arg20.view.writes (Elt F) f LT7)) -∗ K ⟨⟩))
          ⊢ wp frame (wpE (defs₀ (F := F)) Variants.none c none) E (cc0_gated_slot_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, ?_, ?_, fun x8 x10 E K => ?run⟩
  case run =>
    simp only [cc0_gated_slot_attention_eq_skeleton]; unfold cc0_gated_slot_attention_skel
    simp only [k0_part276_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part277_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part278_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part279_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part280_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%d9, %f9, -, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg10.eq_unread hf8; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]
    · iexists _, _; isplitr; swap; · iexact H7
      ipureintro; rfl
    isplitl [H8]; · iexact H8
    isplitl [H9]
    · iexists _, _; isplitr; swap; · iexact H9
      ipureintro; rfl
    isplitl [H10]; · iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]
    · iexists _, _; isplitr; swap; · iexact HS5
      ipureintro; rfl
    isplitl [HS6]; · iexists _; iexact HS6
    iexists _; iexact HS7

end Cert.KernelIdeal.Gen

end
-- ==== Proof.Run.KernelIdeal.RunB.lean ====
/- The run of the whole body at every later grid point. -/
module

public import proofs.«01_k».proof.Proof.Run.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 15548000 in set_option sl_exec.squeezeSlice true in
/-- What the body's stores leave in each output's staging memref, as pieces (last first) IN CASE B (`scf.if` 0 not taken: points 1, 2, … 119: 119 of 120), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the scales' buffers (8, 10) at given contents, handed back with their pieces written over them, and the FORGOTTEN outputs' (7, 9) at anything, handed back at some contents nothing names. -/
noncomputable def kernelRun0_B (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) :
    Σ' (L4 : List (View.Piece (Elt F) S1x2x2048x128 .bf16)), Σ' (L5 : List (View.Piece (Elt F) S1x1x40x128 .f32)), Σ' (L6 : List (View.Piece (Elt F) S1x1x40x128 .f32)), Σ' (LS0 : List (View.Piece (Elt F) S256x256 .bf16)), Σ' (LT1 : List (View.Piece (Elt F) S40x2048 .f32)), Σ' (LT2 : List (View.Piece (Elt F) S40x2048 .f32)), Σ' (LT3 : List (View.Piece (Elt F) S96x128 .f32)), Σ' (LT4 : List (View.Piece (Elt F) S96x128 .f32)), Σ' (LT6 : List (View.Piece (Elt F) S32x120x128 .bf16)), Σ' (L8 : List (View.Piece (Elt F) S12x20x32 .f32)), Σ' (L10 : List (View.Piece (Elt F) S10x12x32 .f32)), { LT7 : List (View.Piece (Elt F) S32x240x128 .bf16) //
      ∀ (x8 : Vec F S12x20x32 .f32) (x10 : Vec F S10x12x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x8 ∗ (∃ d, owns (c : Thread nD τ) arg11 fullShare d) ∗ owns (c : Thread nD τ) arg12 fullShare x10 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (arg10.view.loc (c : Thread nD τ) ↦[arg10.view.set]{fullShare} arg10.view.writes (Elt F) (harg10.unread x8) L8) ∗ (∃ d, owns (c : Thread nD τ) arg11 fullShare d) ∗ (arg12.view.loc (c : Thread nD τ) ↦[arg12.view.set]{fullShare} arg12.view.writes (Elt F) (harg12.unread x10) L10) ∗ owns (c : Thread nD τ) arg13 fullShare xs0 ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3) ∗ (∃ f, arg17.view.loc (c : Thread nD τ) ↦[arg17.view.set]{fullShare} arg17.view.writes (Elt F) f LT4) ∗ (∃ d, owns (c : Thread nD τ) arg18 fullShare d) ∗ (∃ f, arg19.view.loc (c : Thread nD τ) ↦[arg19.view.set]{fullShare} arg19.view.writes (Elt F) f LT6) ∗ (∃ f, arg20.view.loc (c : Thread nD τ) ↦[arg20.view.set]{fullShare} arg20.view.writes (Elt F) f LT7)) -∗ K ⟨⟩))
          ⊢ wp frame (wpE (defs₀ (F := F)) Variants.none c none) E (cc0_gated_slot_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, [], ?_, ?_, ?_, ?_, ?_, ?_, ?_, ?_, fun x8 x10 E K => ?run⟩
  case run =>
    simp only [cc0_gated_slot_attention_eq_skeleton]; unfold cc0_gated_slot_attention_skel
    simp only [k0_part276_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part277_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part278_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part279_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part280_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%d9, %f9, -, H9⟩, ⟨%f10, %hf10, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg10.eq_unread hf8; obtain rfl := harg12.eq_unread hf10; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]
    · iexists _, _; isplitr; swap; · iexact H7
      ipureintro; rfl
    isplitl [H8]; · iexact H8
    isplitl [H9]
    · iexists _, _; isplitr; swap; · iexact H9
      ipureintro; rfl
    isplitl [H10]; · iexact H10
    isplitl [HS0]
    · iexists _; isplitr; · ipureintro; exact harg13.read_unread _
      iexact HS0
    isplitl [HS1]; · iexists _; iexact HS1
    isplitl [HS2]; · iexists _; iexact HS2
    isplitl [HS3]; · iexists _; iexact HS3
    isplitl [HS4]; · iexists _; iexact HS4
    isplitl [HS5]
    · iexists _, _; isplitr; swap; · iexact HS5
      ipureintro; rfl
    isplitl [HS6]; · iexists _; iexact HS6
    iexists _; iexact HS7

end Cert.KernelIdeal.Gen

end
-- ==== Proof.Run.Override.lean ====
/- Exact proof data with some output windows constrained by a relation instead: the body obligation and the run. -/
module

public import Idealize.ShloMosaic.Lib.Pipeline.Frame
public import Idealize.ShloMosaic.Lib.Pipeline.ArrRel

@[expose] public section

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The relations put in place of some windows' contents. -/
abbrev Ovr (Val : EltTy → Type) (cfg : Cfg sig Λ₀) : Type :=
  (w : Fin cfg.W) → Option (Fin cfg.N → (Y X : (cfg.win w).block.Idx → Val (cfg.win w).elt) → Prop)

section
variable {cfg : Cfg sig Λ₀} {c : Dev nD} (dat : Dat τ Val Unit ℕ (UR sig nD τ) ℕ cfg c) (ovr : Ovr Val cfg)

/-- The body obligation with some windows constrained: each of those is handed over at the contents found and taken back
    at contents in its relation to them; every other window as in the exact obligation. -/
theorem obligation_override {defs₀ : Defs nD τ sig Val Λ₀} {𝒱₀ : Variants} {E : Set ℕ}
    (h : ∀ (t : Fin cfg.N) (Y : (w : Fin cfg.W) → (cfg.win w).block.Idx → Val (cfg.win w).elt),
      iprop(dat.Φ t.castSucc ∗ dat.owesAt () t.castSucc
          ∗ bigSep Finset.univ fun w : Fin cfg.W =>
              match ovr w with
              | some _ => owns c ((cfg.win w).stage (cfg.slots t w)) fullShare (Y w)
              | none => iprop(∃ d, owns c ((cfg.win w).stage (cfg.slots t w)) fullShare (dat.before w t d)))
        ⊢ wp frame (wpE defs₀ 𝒱₀ c none) E (defs₀ .tc cfg.body (cfg.bodyArgs t (cfg.slots t))) fun _ =>
            iprop(dat.Φ t.succ ∗ dat.owesAt () t.succ
              ∗ bigSep Finset.univ fun w : Fin cfg.W =>
                  match ovr w with
                  | some R => iprop(∃ X, ⌜R t (Y w) X⌝ ∗ owns c ((cfg.win w).stage (cfg.slots t w)) fullShare X)
                  | none => dat.leaves w t)) :
    (dat.toR.override ovr).BodyObligation defs₀ 𝒱₀ () E := fun t Y hY => by
  have hpre : iprop(dat.Φ t.castSucc ∗ dat.owesAt () t.castSucc
        ∗ bigSep Finset.univ fun w : Fin cfg.W => owns c ((cfg.win w).stage (cfg.slots t w)) fullShare (Y w))
      ⊢ iprop(dat.Φ t.castSucc ∗ dat.owesAt () t.castSucc
        ∗ bigSep Finset.univ fun w : Fin cfg.W =>
              match ovr w with
              | some _ => owns c ((cfg.win w).stage (cfg.slots t w)) fullShare (Y w)
              | none => iprop(∃ d, owns c ((cfg.win w).stage (cfg.slots t w)) fullShare (dat.before w t d))) :=
    sep_mono .rfl (sep_mono .rfl (Idealize.SL.BI.bigSep_mono fun w _ => by
      cases hf : ovr w with
      | none =>
        show (owns c ((cfg.win w).stage (cfg.slots t w)) fullShare (Y w) : sProp 𝕄)
            ⊢ iprop(∃ d, owns c ((cfg.win w).stage (cfg.slots t w)) fullShare (dat.before w t d))
        obtain ⟨d, hd⟩ := dat.toR_finds w t (Y w) ((dat.toR.override_finds hf t (Y w)).mp (hY w))
        iintro H; iexists d; rw [← hd]; iexact H
      | some R =>
        show (owns c ((cfg.win w).stage (cfg.slots t w)) fullShare (Y w) : sProp 𝕄)
            ⊢ owns c ((cfg.win w).stage (cfg.slots t w)) fullShare (Y w)
        iintro H; iexact H))
  have hpost : ∀ x : Λ₀.Result cfg.body,
      iprop(dat.Φ t.succ ∗ dat.owesAt () t.succ ∗ bigSep Finset.univ fun w : Fin cfg.W =>
                  match ovr w with
                  | some R => iprop(∃ X, ⌜R t (Y w) X⌝ ∗ owns c ((cfg.win w).stage (cfg.slots t w)) fullShare X)
                  | none => dat.leaves w t)
        ⊢ iprop(dat.Φ t.succ ∗ dat.owesAt () t.succ
          ∗ bigSep Finset.univ fun w : Fin cfg.W =>
              iprop(∃ X, ⌜(dat.toR.override ovr).after w t (Y w) X⌝ ∗ owns c ((cfg.win w).stage (cfg.slots t w)) fullShare X)) :=
    fun _ => sep_mono .rfl (sep_mono .rfl (Idealize.SL.BI.bigSep_mono fun w _ => by
      cases hf : ovr w with
      | none =>
        show (dat.leaves w t : sProp 𝕄) ⊢ _
        refine (dat.leaves_elim w t).trans ?_
        iintro ⟨%X, %hX, H⟩; iexists X; isplitr
        · ipureintro; rw [dat.toR.override_after_of_eq_none hf]; exact hX
        · iexact H
      | some R =>
        show (iprop(∃ X, ⌜R t (Y w) X⌝ ∗ owns c ((cfg.win w).stage (cfg.slots t w)) fullShare X) : sProp 𝕄) ⊢ _
        iintro ⟨%X, %hX, H⟩; iexists X; isplitr
        · ipureintro; rw [dat.toR.override_after_of_eq_some hf]; exact hX
        · iexact H))
  exact hpre.trans ((h t Y).trans (wp_mono _ _ _ hpost))

variable {ovr} in
/-- A window not overridden ends with its array at what the exact data name. -/
theorem arrAt_override {w : Fin cfg.W} (h : ovr w = none) {n : ℕ} {F : Buf Val ((cfg.win w).arr.view.loc (c.tc : Thread nD τ))}
    (hF : (dat.toR.override ovr).ArrAt w n F) : F = dat.arrAt w n :=
  dat.toR_arrAt w n F ((dat.toR.override_arrAt h n F).mp hF)

end

variable (cfgs : P → Cfg sig Λ₀)
  (dats : (p : P) → (c : Dev nD) → Dat τ Val Unit ℕ (UR sig nD τ) ℕ (cfgs p) c) (p : P) (kit : LaunchFacts (nD := nD) (τ := τ) cfgs p)
  (defs₀ : Defs nD τ sig Val Λ₀) (𝒱₀ : Variants)

local notation "cfg" => cfgs p
local notation "𝔻" => Pipeline.defs (fun q => Cfg.toPCfg (Val := Val) (cfgs q)) defs₀

include kit in
/-- The run of such data: `θ_run_frame_track_forget` with relations in place of forgetting. -/
theorem run_override (ovr : Dev nD → Ovr Val (cfg))
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, ((dats p c).toR.override (ovr c)).BodyObligation defs₀ 𝒱₀ () Set.univ)
    (hshare : ∀ c w, (dats p c).share w = fullShare) (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hA : ∀ c w, (dats p c).A w = V c (arrRef (cfg).spec w))
    (hin : ∀ c, ΦA (cfg).spec c ⊢ (dats p c).Φ 0) (hout : ∀ c, (dats p c).Φ (Fin.last (cfg).N) ⊢ ΦA (cfg).spec c)
    (Q' : PUnit × MemSt nD τ sig Val → Prop)
    (hQ' : ∀ r, RDat.FramePost (cfg) (fun c => (dats p c).toR.override (ovr c)) V r ∧ r.2.sem = (fun _ => 0) → Q' r) :
    θ_run 𝔻 (onTc main) (s₀ m g) Q' :=
  RDat.θ_run_frame_track cfgs p kit defs₀ 𝒱₀ (fun c => (dats p c).toR.override (ovr c)) m g main hbody
    hshare howed V hmain hA hin hout Q' hQ'

end Idealize.ShloMosaic.Pipeline

end
-- ==== Proof.Run.KernelIdeal.Frame.lean ====
/- What the outputs and the carried scratch hold after each point, and the run of the whole program. -/
module

public import proofs.«01_k».proof.Proof.Run.KernelIdeal.RunB
public import proofs.«01_k».proof.Proof.Run.Override
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 4 tile its block (64 stores of `S1x1x64x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) (y : S1x2x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1 S1x1x64x128.size (by sl_kernel_rfl) y

/-- What case A leaves in output 4's staging buffer: its pieces read back over junk. -/
def out0_A_4 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) : Vec F S1x2x2048x128 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1)

/-- Case A's pieces for output 5 tile its block (1 store of `S1x1x40x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) (y : S1x1x40x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.1 S1x1x40x128.size (by sl_kernel_rfl) y

/-- What case A leaves in output 5's staging buffer: its pieces read back over junk. -/
def out0_A_5 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) : Vec F S1x1x40x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.1)

/-- Case A's pieces for output 6 tile its block (1 store of `S1x1x40x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) (y : S1x1x40x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.1 S1x1x40x128.size (by sl_kernel_rfl) y

/-- What case A leaves in output 6's staging buffer: its pieces read back over junk. -/
def out0_A_6 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) : Vec F S1x1x40x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.1)

/-- Case A's pieces for scratch `arg13`, which the kernel carries between points, cover it: 1 piece of `S256x256` tiling it (Lib/Ring.lean `Piece.tiledL`). -/
theorem scover0_A_0 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) (y : S256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.2.1 S256x256.size (by sl_kernel_rfl) y

/-- What case A leaves in scratch `arg13`: its pieces read back over junk. -/
def sout0_A_0 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : cond0_0 i)
    (x0 : Vec F S1x2x2048x128 .bf16) (x1 : Vec F S1x1x2048x128 .bf16) (x2 : Vec F S1x1x2048x128 .bf16) (x3 : Vec F S1x1x40x2048 .bf16) : Vec F S256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.2.1)

/-- Case B's pieces for output 4 tile its block (64 stores of `S1x1x64x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) (y : S1x2x2048x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).1 S1x1x64x128.size (by sl_kernel_rfl) y

/-- What case B leaves in output 4's staging buffer: its pieces read back over junk. -/
def out0_B_4 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) : Vec F S1x2x2048x128 .bf16 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).1)

/-- Case B's pieces for output 5 tile its block (1 store of `S1x1x40x128`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) (y : S1x1x40x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.1 S1x1x40x128.size (by sl_kernel_rfl) y

/-- What case B leaves in output 5's staging buffer: its pieces read back over junk. -/
def out0_B_5 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) : Vec F S1x1x40x128 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.1)

/-- Case B's pieces for output 6 tile its block (1 store of `S1x1x40x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) (y : S1x1x40x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.1 S1x1x40x128.size (by sl_kernel_rfl) y

/-- What case B leaves in output 6's staging buffer: its pieces read back over junk. -/
def out0_B_6 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) : Vec F S1x1x40x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.1)

/-- Case B stores nothing into scratch `arg13`: it holds what the point before left. -/
def sout0_B_0 (c : Dev nD) (i : grid0.Coords) (arg2 : Memref sig .tc .vmem S1x2x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x40x2048 .bf16) (harg5 : arg5.IsWhole) (arg6 : Memref sig .tc .vmem S1x2x2048x128 .bf16) (harg6 : arg6.IsWhole) (arg7 : Memref sig .tc .vmem S1x1x40x128 .f32) (harg7 : arg7.IsWhole) (arg8 : Memref sig .tc .vmem S1x1x40x128 .f32) (harg8 : arg8.IsWhole) (arg9 : Memref sig .tc .vmem S1x2x2048x128 .fp8e4m3) (harg9 : arg9.IsWhole) (arg10 : Memref sig .tc .vmem S12x20x32 .f32) (harg10 : arg10.IsWhole) (arg11 : Memref sig .tc .vmem S1x1x2048x128 .fp8e4m3) (harg11 : arg11.IsWhole) (arg12 : Memref sig .tc .vmem S10x12x32 .f32) (harg12 : arg12.IsWhole) (arg13 : Memref sig .tc .vmem S256x256 .bf16) (harg13 : arg13.IsWhole) (arg14 : Memref sig .tc .vmem S40x2048 .f32) (harg14 : arg14.IsWhole) (arg15 : Memref sig .tc .vmem S40x2048 .f32) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S32x120x128 .bf16) (harg19 : arg19.IsWhole) (arg20 : Memref sig .tc .vmem S32x240x128 .bf16) (harg20 : arg20.IsWhole) (hc0 : ¬cond0_0 i)
    (x0 : Vec F S1x2x2048x128 .bf16) (x1 : Vec F S1x1x2048x128 .bf16) (x2 : Vec F S1x1x2048x128 .bf16) (x3 : Vec F S1x1x40x2048 .bf16) (xs0 : Vec F S256x256 .bf16) : Vec F S256x256 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2x2048x128 .bf16 × Vec F S1x1x40x128 .f32 × Vec F S1x1x40x128 .f32 × Vec F S256x256 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 120 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)

/-- `outsAt0` at a point of case A: that case's contents. -/
theorem outsAt0_A (c : Dev nD) (t : Fin cfg0.N) (h0 : t.val % 120 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 120 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- What the body leaves in the queries' scales (window 8) at point `t`: what it found there, with the point's pieces written over it. -/
def rel0_8 (c : Dev nD) (t : Fin cfg0.N) (Y X : Vec F S12x20x32 .f32) : Prop :=
  (∀ h0 : t.val % 120 = 0, X = (ms0_8 t).view.read (Elt F) ((ms0_8 t).view.writes (Elt F) ((hs0_8 t).unread Y) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t)).2.2.2.2.2.2.2.2.2.1))
    ∧ ∀ h0 : ¬t.val % 120 = 0, X = (ms0_8 t).view.read (Elt F) ((ms0_8 t).view.writes (Elt F) ((hs0_8 t).unread Y) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2).2.2.2.2.2.2.2.2.2.1)

/-- What the body leaves in the keys' scales (window 10) at point `t`: what it found there, with the point's pieces written over it. -/
def rel0_10 (c : Dev nD) (t : Fin cfg0.N) (Y X : Vec F S10x12x32 .f32) : Prop :=
  (∀ h0 : t.val % 120 = 0, X = (ms0_10 t).view.read (Elt F) ((ms0_10 t).view.writes (Elt F) ((hs0_10 t).unread Y) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t)).2.2.2.2.2.2.2.2.2.2.1))
    ∧ ∀ h0 : ¬t.val % 120 = 0, X = (ms0_10 t).view.read (Elt F) ((ms0_10 t).view.writes (Elt F) ((hs0_10 t).unread Y) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2).2.2.2.2.2.2.2.2.2.2.1)

/-- What is asked of the outputs not named exactly: the scales' windows (8, 10) at what the body found with its pieces
    written over, nothing of the codes' (7, 9). -/
def ovr0 (c : Dev nD) : (w : Fin cfg0.W) → Option (Fin cfg0.N → (Y X : (cfg0.win w).block.Idx → Elt F (cfg0.win w).elt) → Prop) := fun w =>
  match w with
  | ⟨7, _⟩ => some Pipeline.RDat.forgotten
  | ⟨8, _⟩ => some (rel0_8 m c)
  | ⟨9, _⟩ => some Pipeline.RDat.forgotten
  | ⟨10, _⟩ => some (rel0_10 m c)
  | _ => none

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) (Y7 : Vec F S1x2x2048x128 .fp8e4m3) (Y8 : Vec F S12x20x32 .f32) (Y9 : Vec F S1x1x2048x128 .fp8e4m3) (Y10 : Vec F S10x12x32 .f32) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ owns (c : Thread nD τ) (ms0_7 t) fullShare Y7
    ∗ owns (c : Thread nD τ) (ms0_8 t) fullShare Y8
    ∗ owns (c : Thread nD τ) (ms0_9 t) fullShare Y9
    ∗ owns (c : Thread nD τ) (ms0_10 t) fullShare Y10)

/-- and what it returns. -/
def bodyPost (c : Dev nD) (t : Fin cfg0.N) (Y7 : Vec F S1x2x2048x128 .fp8e4m3) (Y8 : Vec F S12x20x32 .f32) (Y9 : Vec F S1x1x2048x128 .fp8e4m3) (Y10 : Vec F S10x12x32 .f32) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, ⌜Pipeline.RDat.forgotten (cfg := cfg0) (Val := Elt F) (w := 7) t Y7 d⌝ ∗ owns (c : Thread nD τ) (ms0_7 t) fullShare d)
    ∗ (∃ d, ⌜rel0_8 m c t Y8 d⌝ ∗ owns (c : Thread nD τ) (ms0_8 t) fullShare d)
    ∗ (∃ d, ⌜Pipeline.RDat.forgotten (cfg := cfg0) (Val := Elt F) (w := 9) t Y9 d⌝ ∗ owns (c : Thread nD τ) (ms0_9 t) fullShare d)
    ∗ (∃ d, ⌜rel0_10 m c t Y10 d⌝ ∗ owns (c : Thread nD τ) (ms0_10 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) (Y7 : Vec F S1x2x2048x128 .fp8e4m3) (Y8 : Vec F S12x20x32 .f32) (Y9 : Vec F S1x1x2048x128 .fp8e4m3) (Y10 : Vec F S10x12x32 .f32) :
    bodyPre m c t Y7 Y8 Y9 Y10 ⊢ wp frame (wpE (defs₀ (F := F)) Variants.none c none) Set.univ (bodyAt0 t) (fun _ => bodyPost m c t Y7 Y8 Y9 Y10) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 120 := lt_of_lt_of_eq t.isLt (show cfg0.N = 120 from N_0)
  by_cases h0 : t.val % 120 = 0
  · by_cases hz : t.val = 0
    · rw [PhiS_castSucc m c t, PhiS_zero m c _ _ hz, PhiA0_eq]
      rw [outsAt0_A m c t h0]
      unfold out0_A_4 out0_A_5 out0_A_6 sout0_A_0; (try dsimp only)
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t)).2.2.2.2.2.2.2.2.2.2.2.2 Y8 Y10 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexact H8
      isplitl [H9]; · iexists _; iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, ⟨%e4, H4⟩, ⟨%e5, H5⟩, ⟨%e6, H6⟩, ⟨%e7, H7⟩, H8, ⟨%e9, H9⟩, H10, ⟨%es0, HS0⟩, ⟨%fT1, HS1⟩, ⟨%fT2, HS2⟩, ⟨%fT3, HS3⟩, ⟨%fT4, HS4⟩, HS5, ⟨%fT6, HS6⟩, ⟨%fT7, HS7⟩⟩
      isplitl [HS0 HS1 HS2 HS3 HS4 HS5 HS6 HS7 Hg]
      · isplitl [HS0 HS1 HS2 HS3 HS4 HS5 HS6 HS7]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexact HS5
          isplitl [HS6]
          · iexists _; unfold owns; iexists _; isplitr
            swap; · iexact HS6
            ipureintro; rfl
          iexists _; unfold owns; iexists _; isplitr
          swap; · iexact HS7
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _ _ _ _ _ _ _ _)
      isplitl [H7]
      · iexists e7; isplitr; · ipureintro; trivial
        iexact H7
      isplitl [H8]
      · iexists _; isplitr
        swap
        · unfold owns; iexists _; isplitr
          swap; · iexact H8
          ipureintro; rfl
        ipureintro; exact ⟨fun _ => rfl, fun h => absurd h0 h⟩
      isplitl [H9]
      · iexists e9; isplitr; · ipureintro; trivial
        iexact H9
      iexists _; isplitr
      swap
      · unfold owns; iexists _; isplitr
        swap; · iexact H10
        ipureintro; rfl
      ipureintro; exact ⟨fun _ => rfl, fun h => absurd h0 h⟩
    · exfalso; have hN : t.val < 120 := lt_of_lt_of_eq t.isLt (show cfg0.N = 120 from N_0); omega
  · by_cases hz : t.val = 0
    · exfalso; have hN : t.val < 120 := lt_of_lt_of_eq t.isLt (show cfg0.N = 120 from N_0); omega
    · rw [PhiS_castSucc m c t, PhiS_pos m c _ _ hz]
      rw [outsAt0_B m c t h0]
      unfold out0_B_4 out0_B_5 out0_B_6 sout0_B_0; (try dsimp only)
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) _).2.2.2.2.2.2.2.2.2.2.2.2 Y8 Y10 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexact H8
      isplitl [H9]; · iexists _; iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, ⟨%e4, H4⟩, ⟨%e5, H5⟩, ⟨%e6, H6⟩, ⟨%e7, H7⟩, H8, ⟨%e9, H9⟩, H10, HS0, ⟨%fT1, HS1⟩, ⟨%fT2, HS2⟩, ⟨%fT3, HS3⟩, ⟨%fT4, HS4⟩, HS5, ⟨%fT6, HS6⟩, ⟨%fT7, HS7⟩⟩
      isplitl [HS0 HS1 HS2 HS3 HS4 HS5 HS6 HS7 Hg]
      · isplitl [HS0 HS1 HS2 HS3 HS4 HS5 HS6 HS7]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexact HS5
          isplitl [HS6]
          · iexists _; unfold owns; iexists _; isplitr
            swap; · iexact HS6
            ipureintro; rfl
          iexists _; unfold owns; iexists _; isplitr
          swap; · iexact HS7
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _ _)
      isplitl [H7]
      · iexists e7; isplitr; · ipureintro; trivial
        iexact H7
      isplitl [H8]
      · iexists _; isplitr
        swap
        · unfold owns; iexists _; isplitr
          swap; · iexact H8
          ipureintro; rfl
        ipureintro; exact ⟨fun h => absurd h h0, fun _ => rfl⟩
      isplitl [H9]
      · iexists e9; isplitr; · ipureintro; trivial
        iexact H9
      iexists _; isplitr
      swap
      · unfold owns; iexists _; isplitr
        swap; · iexact H10
        ipureintro; rfl
      ipureintro; exact ⟨fun h => absurd h h0, fun _ => rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The proof data with the windows not named exactly (`ovr0`). -/
abbrev rdat0 (c : Dev nD) := (dats (F := F) m 0 c).toR.override (ovr0 m c)

/-- The library's body obligation, at every point: the body's triple restated (Lib/Pipeline/FrameBody.lean `triple_restated`). -/
theorem body_obligation (c : Dev nD) : (rdat0 (F := F) m c).BodyObligation (defs₀ (F := F)) Variants.none () Set.univ :=
  Pipeline.obligation_override (dats m 0 c) (ovr0 m c) fun t Y => by
    rw [bigSep_W0, bigSep_W0, defs₀_row]
    exact triple_restated (sound_body m c t (Y 7) (Y 8) (Y 9) (Y 10)) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 120 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (rdat0 m) (V m)) r ∧ r.2.sem = fun _ => 0) :=
  Pipeline.run_override (Q' := _) cfgs (dats m) (0 : Fin 1) launch0 defs₀ Variants.none (ovr0 m) m ρ main
    (hbody := body_obligation m) (hshare := fun c => (dats m 0 c).share_full fun _ => rfl)
    (howed := fun _ _ => rfl) (V := V m) (hmain := hmain m Variants.none) (hA := A_eq m) (hin := hin m) (hout := hout m)
    (hQ' := fun _ h => h)

/-- At the compiled mesh, for any values, from any memory with zero counters: every weakly fair execution of @main on the
    TensorCores terminates, and every final state has every INPUT array of the pipeline unchanged, nothing stated of the
    FORGOTTEN outputs (windows 7, 9) (Lib/Pipeline/Frame.lean `RDat.FramePost` over the proof data with those windows
    forgotten and the scales' constrained, `rdat0`), and every other unscoped buffer at its region-entry contents. -/
theorem run_main : θ_run defs (onTc (τ := τ) (main (F := F))) (s₀ m ρ) (Pipeline.RDat.FramePost (cfgs 0) (rdat0 m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (rdat0 m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Run.KernelIdeal.Value.lean ====
/- The final arrays of the run, block by block and as one function of the arguments. -/
module

public import proofs.«01_k».proof.Proof.Run.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 120 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 120 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2) := by
  simp only [flushed4, outsAt0_B m c t h0]

/-- The index map sends distinct grid points to distinct block indices (decided over the 120 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S12x20x2048x128.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 120 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 120 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2) := by
  simp only [flushed5, outsAt0_B m c t h0]

/-- The index map sends distinct grid points to distinct block indices (decided over the 120 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S12x10x40x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 120 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 120 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2) := by
  simp only [flushed6, outsAt0_B m c t h0]

/-- The index map sends distinct grid points to distinct block indices (decided over the 120 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S12x10x40x128.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- A NAMED output window's array after the frame run: `(dats m 0 c).arrAt w N`, read off the run's relational post (`h`:
    the proof data with the windows of `Gen.ovr0` overridden) at any window `w` it does not override (`hw`), by
    Lib/Pipeline/Cells.lean `Dat.toR_arrAt_iff`. -/
theorem finalR_out0 (r : PUnit × MemSt nD τ sig (Elt F)) (h : Pipeline.RDat.FramePost (cfgs 0) (rdat0 m) (V m) r) (c : Dev nD) (w : Fin 11) (hw : ovr0 m c w = none) :
    r.2.mem ((cfg0.spec w).arr.view.loc (c : Thread nD τ)) = (dats m 0 c).arrAt w cfg0.N :=
  Pipeline.arrAt_override (dats m 0 c) hw ((h c).1 w)

/-- After the frame run, output window 4's array is `(dats m 0 c).arrAt 4 N`. -/
theorem post4 (r : PUnit × MemSt nD τ sig (Elt F)) (h : Pipeline.RDat.FramePost (cfgs 0) (rdat0 m) (V m) r) (c : Dev nD) :
    r.2.mem ((c : Thread nD τ).loc main_v4_0) = (dats m 0 c).arrAt 4 cfg0.N :=
  finalR_out0 m r h c 4 rfl

/-- After the frame run, output window 5's array is `(dats m 0 c).arrAt 5 N`. -/
theorem post5 (r : PUnit × MemSt nD τ sig (Elt F)) (h : Pipeline.RDat.FramePost (cfgs 0) (rdat0 m) (V m) r) (c : Dev nD) :
    r.2.mem ((c : Thread nD τ).loc main_v4_1) = (dats m 0 c).arrAt 5 cfg0.N :=
  finalR_out0 m r h c 5 rfl

/-- After the frame run, output window 6's array is `(dats m 0 c).arrAt 6 N`. -/
theorem post6 (r : PUnit × MemSt nD τ sig (Elt F)) (h : Pipeline.RDat.FramePost (cfgs 0) (rdat0 m) (V m) r) (c : Dev nD) :
    r.2.mem ((c : Thread nD τ).loc main_v4_2) = (dats m 0 c).arrAt 6 cfg0.N :=
  finalR_out0 m r h c 6 rfl

/-- After the frame run, argument `main_arg0` is as launched: no window stages it, and the run leaves the region's other buffers as they were. -/
theorem kept_main_arg0 (r : PUnit × MemSt nD τ sig (Elt F)) (h : Pipeline.RDat.FramePost (cfgs 0) (rdat0 m) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.RDat.FramePost (cfgs 0) (rdat0 m) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.RDat.FramePost (cfgs 0) (rdat0 m) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.RDat.FramePost (cfgs 0) (rdat0 m) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S256x256 .bf16) : Vec F S256x256 .bf16 :=
  if h0 : n % 120 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- WHAT CARRIED SCRATCH 0 HOLDS after point `t`: the fold of its run up to `t`, from the reset at the run's first point
    `120·(t / 120)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (120 * (t.val / 120)) (t.val % 120)
      (by have h1 := t.isLt; have h2 := Nat.div_add_mod t.val 120; omega) :=
  Pipeline.eq_accAt_of_mod (fun n h => (outsAt0 m c n h).2.2.2) 120 (fun n h => scAt0_0 m c n h (VS0_0.read (Elt F) VS0_0.junk)) (scAt0_0 m c)
    (fun n h hn => by
      have hN := lt_of_lt_of_eq h (show cfg0.N = 120 from N_0)
      by_cases h0 : n % 120 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 120 from N_0)
      by_cases h0 : (n + 1) % 120 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 120 from N_0)
  have hd : n / 120 = 0 := Nat.div_eq_of_lt hN
  have hm : n % 120 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x2x2048x128 .bf16 × Vec F S1x1x40x128 .f32 × Vec F S1x1x40x128 .f32 × Vec F S256x256 .bf16 :=
  ((VO0_4.read (Elt F) VO0_4.junk, VO0_5.read (Elt F) VO0_5.junk, VO0_6.read (Elt F) VO0_6.junk, VS0_0.read (Elt F) VS0_0.junk) : Vec F S1x2x2048x128 .bf16 × Vec F S1x1x40x128 .f32 × Vec F S1x1x40x128 .f32 × Vec F S256x256 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x2x2048x128 .bf16 × Vec F S1x1x40x128 .f32 × Vec F S1x1x40x128 .f32 × Vec F S256x256 .bf16) : Vec F S1x2x2048x128 .bf16 × Vec F S1x1x40x128 .f32 × Vec F S1x1x40x128 .f32 × Vec F S256x256 .bf16 :=
  if h0 : n % 120 = 0 then
    (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
  else
    (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2)

/-- `stAt0` at a point of case A: that case's contents. -/
theorem stAt0_A (c : Dev nD) (t : Fin cfg0.N) (acc : Vec F S1x2x2048x128 .bf16 × Vec F S1x1x40x128 .f32 × Vec F S1x1x40x128 .f32 × Vec F S256x256 .bf16) (h0 : t.val % 120 = 0) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t)) :=
  (dif_pos h0).trans rfl

/-- `stAt0` at a point of case B: that case's contents, over `acc`. -/
theorem stAt0_B (c : Dev nD) (t : Fin cfg0.N) (acc : Vec F S1x2x2048x128 .bf16 × Vec F S1x1x40x128 .f32 × Vec F S1x1x40x128 .f32 × Vec F S256x256 .bf16) (h0 : ¬t.val % 120 = 0) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) acc.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) acc.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 120 from N_0)
  have e := Pipeline.eq_accAt_of_mod (fun n h => outsAt0 m c n h) 120 (fun n h => stAt0 m c n h junk0) (stAt0 m c)
    (fun n h _ => by
      have hN := lt_of_lt_of_eq h (show cfg0.N = 120 from N_0)
      obtain rfl : n = 0 := by omega
      exact outsAt0_zero m c h)
    (fun n h _ => outsAt0_succ m c n h)
    (by decide) n hn (by have := Nat.div_add_mod n 120; omega)
  have hd : n / 120 = 0 := Nat.div_eq_of_lt hN
  have hm : n % 120 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one per point),
    `i`'s place in it, and the point that writes it back. -/
abbrev run4Of (i : S12x20x2048x128.Idx) : ℕ := 10 * ((i 0).val / 1 - 0) + 1 * ((i 1).val / 2 - 0) + 1 * ((i 2).val / 2048 - 0) + 1 * ((i 3).val / 128 - 0)
set_option backward.proofsInPublic true in
abbrev loc4Of (i : S12x20x2048x128.Idx) : S1x2x2048x128.Idx := fun a => match a with
  | ⟨0, _⟩ => ⟨(i 0).val % 1, Nat.mod_lt _ (by decide)⟩
  | ⟨1, _⟩ => ⟨(i 1).val % 2, Nat.mod_lt _ (by decide)⟩
  | ⟨2, _⟩ => ⟨(i 2).val % 2048, Nat.mod_lt _ (by decide)⟩
  | ⟨3, _⟩ => ⟨(i 3).val % 128, Nat.mod_lt _ (by decide)⟩
abbrev pt4Of (i : S12x20x2048x128.Idx) : ℕ := run4Of i

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v4_0) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t`). -/
theorem idx_facts4 : ∀ t : Fin cfg0.N, 0 ≤ win0_4.index t (0 : Fin 4) ∧ win0_4.index t (0 : Fin 4) ≤ 11
    ∧ 0 ≤ win0_4.index t (1 : Fin 4) ∧ win0_4.index t (1 : Fin 4) ≤ 9
    ∧ 0 ≤ win0_4.index t (2 : Fin 4) ∧ win0_4.index t (2 : Fin 4) ≤ 0
    ∧ 0 ≤ win0_4.index t (3 : Fin 4) ∧ win0_4.index t (3 : Fin 4) ≤ 0
    ∧ 10 * (win0_4.index t (0 : Fin 4) - 0) + 1 * (win0_4.index t (1 : Fin 4) - 0) + 1 * (win0_4.index t (2 : Fin 4) - 0) + 1 * (win0_4.index t (3 : Fin 4) - 0) = t.val :=
  (by decide +kernel : ∀ t : Fin grid0.N, _)

/-- Every block of the box is SOME flushing point's: `onto4Pt`, the point that writes back the block at place `q` of the box. -/
abbrev onto4Pt (q0 : Fin 12) (q1 : Fin 10) (q2 : Fin 1) (q3 : Fin 1) : Fin grid0.N :=
  ⟨10 * q0.val + 1 * q1.val + 1 * q2.val + 1 * q3.val, lt_of_lt_of_eq (by omega) N_0.symm⟩
theorem idx_onto4 : ∀ (q0 : Fin 12) (q1 : Fin 10) (q2 : Fin 1) (q3 : Fin 1), ∃ t : Fin cfg0.N, (cfg0.win 4).flush t = true ∧ win0_4.index t = ![q0.val + 0, q1.val + 0, q2.val + 0, q3.val + 0] :=
  fun q0 q1 q2 q3 => ⟨onto4Pt q0 q1 q2 q3, (by decide +kernel : ∀ (q0 : Fin 12) (q1 : Fin 10) (q2 : Fin 1) (q3 : Fin 1), win0_4.flush (onto4Pt q0 q1 q2 q3) = true ∧ win0_4.index (onto4Pt q0 q1 q2 q3) = ![q0.val + 0, q1.val + 0, q2.val + 0, q3.val + 0]) q0 q1 q2 q3⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  obtain ⟨e0, e1, e2, e3, e4⟩ := idx_facts4 t
  funext y
  have hy0 : (y 0).val < 1 := (y 0).isLt
  have hy1 : (y 1).val < 2 := (y 1).isLt
  have hy2 : (y 2).val < 2048 := (y 2).isLt
  have hy3 : (y 3).val < 128 := (y 3).isLt
  have hb0 : (((cfg0.win 4).blk t).view.emb y 0).val = win0_4.index t (0 : Fin 4) * 1 + 1 * (y 0).val := rfl
  have hb1 : (((cfg0.win 4).blk t).view.emb y 1).val = win0_4.index t (1 : Fin 4) * 2 + 1 * (y 1).val := rfl
  have hb2 : (((cfg0.win 4).blk t).view.emb y 2).val = win0_4.index t (2 : Fin 4) * 2048 + 1 * (y 2).val := rfl
  have hb3 : (((cfg0.win 4).blk t).view.emb y 3).val = win0_4.index t (3 : Fin 4) * 128 + 1 * (y 3).val := rfl
  have hr : run4Of (((cfg0.win 4).blk t).view.emb y) = t.val := by
    show 10 * ((((cfg0.win 4).blk t).view.emb y 0).val / 1 - 0) + 1 * ((((cfg0.win 4).blk t).view.emb y 1).val / 2 - 0) + 1 * ((((cfg0.win 4).blk t).view.emb y 2).val / 2048 - 0) + 1 * ((((cfg0.win 4).blk t).view.emb y 3).val / 128 - 0) = _
    rw [hb0, hb1, hb2, hb3]
    rw [show (win0_4.index t (0 : Fin 4) * 1 + 1 * (y 0).val) / 1 = win0_4.index t (0 : Fin 4) from by omega]; rw [show (win0_4.index t (1 : Fin 4) * 2 + 1 * (y 1).val) / 2 = win0_4.index t (1 : Fin 4) from by omega]; rw [show (win0_4.index t (2 : Fin 4) * 2048 + 1 * (y 2).val) / 2048 = win0_4.index t (2 : Fin 4) from by omega]; rw [show (win0_4.index t (3 : Fin 4) * 128 + 1 * (y 3).val) / 128 = win0_4.index t (3 : Fin 4) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1 = (y 0).val; rw [hb0]; omega
    | ⟨1, _⟩ => show (((cfg0.win 4).blk t).view.emb y 1).val % 2 = (y 1).val; rw [hb1]; omega
    | ⟨2, _⟩ => show (((cfg0.win 4).blk t).view.emb y 2).val % 2048 = (y 2).val; rw [hb2]; omega
    | ⟨3, _⟩ => show (((cfg0.win 4).blk t).view.emb y 3).val % 128 = (y 3).val; rw [hb3]; omega
  have hp : pt4Of (((cfg0.win 4).blk t).view.emb y) = t.val := by
    exact hr
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S12x20x2048x128.Idx) :
    i ∈ ((cfg0.win 4).blk t).view.set ↔ ∀ a : Fin 4, win0_4.index t a * S1x2x2048x128.size a ≤ (i a).val ∧ (i a).val < win0_4.index t a * S1x2x2048x128.size a + S1x2x2048x128.size a := by
  show i ∈ ((View.whole main_v4_0).slice (win0_4.rect t)).set ↔ _
  rw [View.set_slice_whole, Rect.mem_set_unit]
  exact Iff.rfl

/-- THE COVERED INDICES: in some flushing point's block iff inside the box those blocks fill. -/
theorem covered_iff4 (i : S12x20x2048x128.Idx) :
    (∃ t : Fin cfg0.N, (cfg0.win 4).flush t = true ∧ i ∈ ((cfg0.win 4).blk t).view.set) ↔ 0 ≤ (i 0).val ∧ (i 0).val < 12 ∧ 0 ≤ (i 1).val ∧ (i 1).val < 20 ∧ 0 ≤ (i 2).val ∧ (i 2).val < 2048 ∧ 0 ≤ (i 3).val ∧ (i 3).val < 128 := by
  constructor
  · rintro ⟨t, -, hi⟩
    rw [mem_blk4] at hi
    have b0 : win0_4.index t (0 : Fin 4) * 1 ≤ (i 0).val ∧ (i 0).val < win0_4.index t (0 : Fin 4) * 1 + 1 := hi 0
    have b1 : win0_4.index t (1 : Fin 4) * 2 ≤ (i 1).val ∧ (i 1).val < win0_4.index t (1 : Fin 4) * 2 + 2 := hi 1
    have b2 : win0_4.index t (2 : Fin 4) * 2048 ≤ (i 2).val ∧ (i 2).val < win0_4.index t (2 : Fin 4) * 2048 + 2048 := hi 2
    have b3 : win0_4.index t (3 : Fin 4) * 128 ≤ (i 3).val ∧ (i 3).val < win0_4.index t (3 : Fin 4) * 128 + 128 := hi 3
    obtain ⟨e0, e1, e2, e3, e4⟩ := idx_facts4 t
    omega
  · intro h
    have hi0 : (i 0).val < 12 := (i 0).isLt
    have hi1 : (i 1).val < 20 := (i 1).isLt
    have hi2 : (i 2).val < 2048 := (i 2).isLt
    have hi3 : (i 3).val < 128 := (i 3).isLt
    obtain ⟨t, hft, ht⟩ := idx_onto4 ⟨(i 0).val / 1 - 0, by omega⟩ ⟨(i 1).val / 2 - 0, by omega⟩ ⟨(i 2).val / 2048 - 0, by omega⟩ ⟨(i 3).val / 128 - 0, by omega⟩
    have q0 : win0_4.index t (0 : Fin 4) = (i 0).val / 1 - 0 + 0 := congrFun ht 0
    have q1 : win0_4.index t (1 : Fin 4) = (i 1).val / 2 - 0 + 0 := congrFun ht 1
    have q2 : win0_4.index t (2 : Fin 4) = (i 2).val / 2048 - 0 + 0 := congrFun ht 2
    have q3 : win0_4.index t (3 : Fin 4) = (i 3).val / 128 - 0 + 0 := congrFun ht 3
    refine ⟨t, hft, ?_⟩
    rw [mem_blk4]
    intro a
    match a with
    | ⟨0, _⟩ => show win0_4.index t (0 : Fin 4) * 1 ≤ (i 0).val ∧ (i 0).val < win0_4.index t (0 : Fin 4) * 1 + 1; omega
    | ⟨1, _⟩ => show win0_4.index t (1 : Fin 4) * 2 ≤ (i 1).val ∧ (i 1).val < win0_4.index t (1 : Fin 4) * 2 + 2; omega
    | ⟨2, _⟩ => show win0_4.index t (2 : Fin 4) * 2048 ≤ (i 2).val ∧ (i 2).val < win0_4.index t (2 : Fin 4) * 2048 + 2048; omega
    | ⟨3, _⟩ => show win0_4.index t (3 : Fin 4) * 128 ≤ (i 3).val ∧ (i 3).val < win0_4.index t (3 : Fin 4) * 128 + 128; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 12 := (i 0).isLt; have h1 : (i 1).val < 20 := (i 1).isLt; have h2 : (i 2).val < 2048 := (i 2).isLt; have h3 : (i 3).val < 128 := (i 3).isLt; omega))

/-! ## Output window 5 -/

/-- The block of the array that holds index `i`, numbered in the order the points write the blocks back (one per point),
    `i`'s place in it, and the point that writes it back. -/
abbrev run5Of (i : S12x10x40x128.Idx) : ℕ := 10 * ((i 0).val / 1 - 0) + 1 * ((i 1).val / 1 - 0) + 1 * ((i 2).val / 40 - 0) + 1 * ((i 3).val / 128 - 0)
set_option backward.proofsInPublic true in
abbrev loc5Of (i : S12x10x40x128.Idx) : S1x1x40x128.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 40, Nat.mod_lt _ (by decide)⟩
  | ⟨3, _⟩ => ⟨(i 3).val % 128, Nat.mod_lt _ (by decide)⟩
abbrev pt5Of (i : S12x10x40x128.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v4_1) := fun i =>
  if h : pt5Of i < cfg0.N then
    (Pipeline.accAt (fun n h => stAt0 m c n h junk0) (stAt0 m c) 0 (pt5Of i) (by omega)).2.1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 4) ∧ win0_5.index t (0 : Fin 4) ≤ 11
    ∧ 0 ≤ win0_5.index t (1 : Fin 4) ∧ win0_5.index t (1 : Fin 4) ≤ 9
    ∧ 0 ≤ win0_5.index t (2 : Fin 4) ∧ win0_5.index t (2 : Fin 4) ≤ 0
    ∧ 0 ≤ win0_5.index t (3 : Fin 4) ∧ win0_5.index t (3 : Fin 4) ≤ 0
    ∧ 10 * (win0_5.index t (0 : Fin 4) - 0) + 1 * (win0_5.index t (1 : Fin 4) - 0) + 1 * (win0_5.index t (2 : Fin 4) - 0) + 1 * (win0_5.index t (3 : Fin 4) - 0) = t.val :=
  (by decide +kernel : ∀ t : Fin grid0.N, _)

/-- Every block of the box is SOME flushing point's: `onto5Pt`, the point that writes back the block at place `q` of the box. -/
abbrev onto5Pt (q0 : Fin 12) (q1 : Fin 10) (q2 : Fin 1) (q3 : Fin 1) : Fin grid0.N :=
  ⟨10 * q0.val + 1 * q1.val + 1 * q2.val + 1 * q3.val, lt_of_lt_of_eq (by omega) N_0.symm⟩
theorem idx_onto5 : ∀ (q0 : Fin 12) (q1 : Fin 10) (q2 : Fin 1) (q3 : Fin 1), ∃ t : Fin cfg0.N, (cfg0.win 5).flush t = true ∧ win0_5.index t = ![q0.val + 0, q1.val + 0, q2.val + 0, q3.val + 0] :=
  fun q0 q1 q2 q3 => ⟨onto5Pt q0 q1 q2 q3, (by decide +kernel : ∀ (q0 : Fin 12) (q1 : Fin 10) (q2 : Fin 1) (q3 : Fin 1), win0_5.flush (onto5Pt q0 q1 q2 q3) = true ∧ win0_5.index (onto5Pt q0 q1 q2 q3) = ![q0.val + 0, q1.val + 0, q2.val + 0, q3.val + 0]) q0 q1 q2 q3⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2, e3, e4⟩ := idx_facts5 t
  funext y
  have hy0 : (y 0).val < 1 := (y 0).isLt
  have hy1 : (y 1).val < 1 := (y 1).isLt
  have hy2 : (y 2).val < 40 := (y 2).isLt
  have hy3 : (y 3).val < 128 := (y 3).isLt
  have hb0 : (((cfg0.win 5).blk t).view.emb y 0).val = win0_5.index t (0 : Fin 4) * 1 + 1 * (y 0).val := rfl
  have hb1 : (((cfg0.win 5).blk t).view.emb y 1).val = win0_5.index t (1 : Fin 4) * 1 + 1 * (y 1).val := rfl
  have hb2 : (((cfg0.win 5).blk t).view.emb y 2).val = win0_5.index t (2 : Fin 4) * 40 + 1 * (y 2).val := rfl
  have hb3 : (((cfg0.win 5).blk t).view.emb y 3).val = win0_5.index t (3 : Fin 4) * 128 + 1 * (y 3).val := rfl
  have hr : run5Of (((cfg0.win 5).blk t).view.emb y) = t.val := by
    show 10 * ((((cfg0.win 5).blk t).view.emb y 0).val / 1 - 0) + 1 * ((((cfg0.win 5).blk t).view.emb y 1).val / 1 - 0) + 1 * ((((cfg0.win 5).blk t).view.emb y 2).val / 40 - 0) + 1 * ((((cfg0.win 5).blk t).view.emb y 3).val / 128 - 0) = _
    rw [hb0, hb1, hb2, hb3]
    rw [show (win0_5.index t (0 : Fin 4) * 1 + 1 * (y 0).val) / 1 = win0_5.index t (0 : Fin 4) from by omega]; rw [show (win0_5.index t (1 : Fin 4) * 1 + 1 * (y 1).val) / 1 = win0_5.index t (1 : Fin 4) from by omega]; rw [show (win0_5.index t (2 : Fin 4) * 40 + 1 * (y 2).val) / 40 = win0_5.index t (2 : Fin 4) from by omega]; rw [show (win0_5.index t (3 : Fin 4) * 128 + 1 * (y 3).val) / 128 = win0_5.index t (3 : Fin 4) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 1 = (y 1).val; rw [hb1]; omega
    | ⟨2, _⟩ => show (((cfg0.win 5).blk t).view.emb y 2).val % 40 = (y 2).val; rw [hb2]; omega
    | ⟨3, _⟩ => show (((cfg0.win 5).blk t).view.emb y 3).val % 128 = (y 3).val; rw [hb3]; omega
  have hp : pt5Of (((cfg0.win 5).blk t).view.emb y) = t.val := by
    exact hr
  show (Pipeline.accAt (fun n h => stAt0 m c n h junk0) (stAt0 m c) 0 t.val _).2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S12x10x40x128.Idx) :
    i ∈ ((cfg0.win 5).blk t).view.set ↔ ∀ a : Fin 4, win0_5.index t a * S1x1x40x128.size a ≤ (i a).val ∧ (i a).val < win0_5.index t a * S1x1x40x128.size a + S1x1x40x128.size a := by
  show i ∈ ((View.whole main_v4_1).slice (win0_5.rect t)).set ↔ _
  rw [View.set_slice_whole, Rect.mem_set_unit]
  exact Iff.rfl

/-- THE COVERED INDICES: in some flushing point's block iff inside the box those blocks fill. -/
theorem covered_iff5 (i : S12x10x40x128.Idx) :
    (∃ t : Fin cfg0.N, (cfg0.win 5).flush t = true ∧ i ∈ ((cfg0.win 5).blk t).view.set) ↔ 0 ≤ (i 0).val ∧ (i 0).val < 12 ∧ 0 ≤ (i 1).val ∧ (i 1).val < 10 ∧ 0 ≤ (i 2).val ∧ (i 2).val < 40 ∧ 0 ≤ (i 3).val ∧ (i 3).val < 128 := by
  constructor
  · rintro ⟨t, -, hi⟩
    rw [mem_blk5] at hi
    have b0 : win0_5.index t (0 : Fin 4) * 1 ≤ (i 0).val ∧ (i 0).val < win0_5.index t (0 : Fin 4) * 1 + 1 := hi 0
    have b1 : win0_5.index t (1 : Fin 4) * 1 ≤ (i 1).val ∧ (i 1).val < win0_5.index t (1 : Fin 4) * 1 + 1 := hi 1
    have b2 : win0_5.index t (2 : Fin 4) * 40 ≤ (i 2).val ∧ (i 2).val < win0_5.index t (2 : Fin 4) * 40 + 40 := hi 2
    have b3 : win0_5.index t (3 : Fin 4) * 128 ≤ (i 3).val ∧ (i 3).val < win0_5.index t (3 : Fin 4) * 128 + 128 := hi 3
    obtain ⟨e0, e1, e2, e3, e4⟩ := idx_facts5 t
    omega
  · intro h
    have hi0 : (i 0).val < 12 := (i 0).isLt
    have hi1 : (i 1).val < 10 := (i 1).isLt
    have hi2 : (i 2).val < 40 := (i 2).isLt
    have hi3 : (i 3).val < 128 := (i 3).isLt
    obtain ⟨t, hft, ht⟩ := idx_onto5 ⟨(i 0).val / 1 - 0, by omega⟩ ⟨(i 1).val / 1 - 0, by omega⟩ ⟨(i 2).val / 40 - 0, by omega⟩ ⟨(i 3).val / 128 - 0, by omega⟩
    have q0 : win0_5.index t (0 : Fin 4) = (i 0).val / 1 - 0 + 0 := congrFun ht 0
    have q1 : win0_5.index t (1 : Fin 4) = (i 1).val / 1 - 0 + 0 := congrFun ht 1
    have q2 : win0_5.index t (2 : Fin 4) = (i 2).val / 40 - 0 + 0 := congrFun ht 2
    have q3 : win0_5.index t (3 : Fin 4) = (i 3).val / 128 - 0 + 0 := congrFun ht 3
    refine ⟨t, hft, ?_⟩
    rw [mem_blk5]
    intro a
    match a with
    | ⟨0, _⟩ => show win0_5.index t (0 : Fin 4) * 1 ≤ (i 0).val ∧ (i 0).val < win0_5.index t (0 : Fin 4) * 1 + 1; omega
    | ⟨1, _⟩ => show win0_5.index t (1 : Fin 4) * 1 ≤ (i 1).val ∧ (i 1).val < win0_5.index t (1 : Fin 4) * 1 + 1; omega
    | ⟨2, _⟩ => show win0_5.index t (2 : Fin 4) * 40 ≤ (i 2).val ∧ (i 2).val < win0_5.index t (2 : Fin 4) * 40 + 40; omega
    | ⟨3, _⟩ => show win0_5.index t (3 : Fin 4) * 128 ≤ (i 3).val ∧ (i 3).val < win0_5.index t (3 : Fin 4) * 128 + 128; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 12 := (i 0).isLt; have h1 : (i 1).val < 10 := (i 1).isLt; have h2 : (i 2).val < 40 := (i 2).isLt; have h3 : (i 3).val < 128 := (i 3).isLt; omega))

/-! ## Output window 6 -/

/-- The block of the array that holds index `i`, numbered in the order the points write the blocks back (one per point),
    `i`'s place in it, and the point that writes it back. -/
abbrev run6Of (i : S12x10x40x128.Idx) : ℕ := 10 * ((i 0).val / 1 - 0) + 1 * ((i 1).val / 1 - 0) + 1 * ((i 2).val / 40 - 0) + 1 * ((i 3).val / 128 - 0)
set_option backward.proofsInPublic true in
abbrev loc6Of (i : S12x10x40x128.Idx) : S1x1x40x128.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 40, Nat.mod_lt _ (by decide)⟩
  | ⟨3, _⟩ => ⟨(i 3).val % 128, Nat.mod_lt _ (by decide)⟩
abbrev pt6Of (i : S12x10x40x128.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v4_2) := fun i =>
  if h : pt6Of i < cfg0.N then
    (Pipeline.accAt (fun n h => stAt0 m c n h junk0) (stAt0 m c) 0 (pt6Of i) (by omega)).2.2.1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 4) ∧ win0_6.index t (0 : Fin 4) ≤ 11
    ∧ 0 ≤ win0_6.index t (1 : Fin 4) ∧ win0_6.index t (1 : Fin 4) ≤ 9
    ∧ 0 ≤ win0_6.index t (2 : Fin 4) ∧ win0_6.index t (2 : Fin 4) ≤ 0
    ∧ 0 ≤ win0_6.index t (3 : Fin 4) ∧ win0_6.index t (3 : Fin 4) ≤ 0
    ∧ 10 * (win0_6.index t (0 : Fin 4) - 0) + 1 * (win0_6.index t (1 : Fin 4) - 0) + 1 * (win0_6.index t (2 : Fin 4) - 0) + 1 * (win0_6.index t (3 : Fin 4) - 0) = t.val :=
  (by decide +kernel : ∀ t : Fin grid0.N, _)

/-- Every block of the box is SOME flushing point's: `onto6Pt`, the point that writes back the block at place `q` of the box. -/
abbrev onto6Pt (q0 : Fin 12) (q1 : Fin 10) (q2 : Fin 1) (q3 : Fin 1) : Fin grid0.N :=
  ⟨10 * q0.val + 1 * q1.val + 1 * q2.val + 1 * q3.val, lt_of_lt_of_eq (by omega) N_0.symm⟩
theorem idx_onto6 : ∀ (q0 : Fin 12) (q1 : Fin 10) (q2 : Fin 1) (q3 : Fin 1), ∃ t : Fin cfg0.N, (cfg0.win 6).flush t = true ∧ win0_6.index t = ![q0.val + 0, q1.val + 0, q2.val + 0, q3.val + 0] :=
  fun q0 q1 q2 q3 => ⟨onto6Pt q0 q1 q2 q3, (by decide +kernel : ∀ (q0 : Fin 12) (q1 : Fin 10) (q2 : Fin 1) (q3 : Fin 1), win0_6.flush (onto6Pt q0 q1 q2 q3) = true ∧ win0_6.index (onto6Pt q0 q1 q2 q3) = ![q0.val + 0, q1.val + 0, q2.val + 0, q3.val + 0]) q0 q1 q2 q3⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2, e3, e4⟩ := idx_facts6 t
  funext y
  have hy0 : (y 0).val < 1 := (y 0).isLt
  have hy1 : (y 1).val < 1 := (y 1).isLt
  have hy2 : (y 2).val < 40 := (y 2).isLt
  have hy3 : (y 3).val < 128 := (y 3).isLt
  have hb0 : (((cfg0.win 6).blk t).view.emb y 0).val = win0_6.index t (0 : Fin 4) * 1 + 1 * (y 0).val := rfl
  have hb1 : (((cfg0.win 6).blk t).view.emb y 1).val = win0_6.index t (1 : Fin 4) * 1 + 1 * (y 1).val := rfl
  have hb2 : (((cfg0.win 6).blk t).view.emb y 2).val = win0_6.index t (2 : Fin 4) * 40 + 1 * (y 2).val := rfl
  have hb3 : (((cfg0.win 6).blk t).view.emb y 3).val = win0_6.index t (3 : Fin 4) * 128 + 1 * (y 3).val := rfl
  have hr : run6Of (((cfg0.win 6).blk t).view.emb y) = t.val := by
    show 10 * ((((cfg0.win 6).blk t).view.emb y 0).val / 1 - 0) + 1 * ((((cfg0.win 6).blk t).view.emb y 1).val / 1 - 0) + 1 * ((((cfg0.win 6).blk t).view.emb y 2).val / 40 - 0) + 1 * ((((cfg0.win 6).blk t).view.emb y 3).val / 128 - 0) = _
    rw [hb0, hb1, hb2, hb3]
    rw [show (win0_6.index t (0 : Fin 4) * 1 + 1 * (y 0).val) / 1 = win0_6.index t (0 : Fin 4) from by omega]; rw [show (win0_6.index t (1 : Fin 4) * 1 + 1 * (y 1).val) / 1 = win0_6.index t (1 : Fin 4) from by omega]; rw [show (win0_6.index t (2 : Fin 4) * 40 + 1 * (y 2).val) / 40 = win0_6.index t (2 : Fin 4) from by omega]; rw [show (win0_6.index t (3 : Fin 4) * 128 + 1 * (y 3).val) / 128 = win0_6.index t (3 : Fin 4) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 1 = (y 1).val; rw [hb1]; omega
    | ⟨2, _⟩ => show (((cfg0.win 6).blk t).view.emb y 2).val % 40 = (y 2).val; rw [hb2]; omega
    | ⟨3, _⟩ => show (((cfg0.win 6).blk t).view.emb y 3).val % 128 = (y 3).val; rw [hb3]; omega
  have hp : pt6Of (((cfg0.win 6).blk t).view.emb y) = t.val := by
    exact hr
  show (Pipeline.accAt (fun n h => stAt0 m c n h junk0) (stAt0 m c) 0 t.val _).2.2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S12x10x40x128.Idx) :
    i ∈ ((cfg0.win 6).blk t).view.set ↔ ∀ a : Fin 4, win0_6.index t a * S1x1x40x128.size a ≤ (i a).val ∧ (i a).val < win0_6.index t a * S1x1x40x128.size a + S1x1x40x128.size a := by
  show i ∈ ((View.whole main_v4_2).slice (win0_6.rect t)).set ↔ _
  rw [View.set_slice_whole, Rect.mem_set_unit]
  exact Iff.rfl

/-- THE COVERED INDICES: in some flushing point's block iff inside the box those blocks fill. -/
theorem covered_iff6 (i : S12x10x40x128.Idx) :
    (∃ t : Fin cfg0.N, (cfg0.win 6).flush t = true ∧ i ∈ ((cfg0.win 6).blk t).view.set) ↔ 0 ≤ (i 0).val ∧ (i 0).val < 12 ∧ 0 ≤ (i 1).val ∧ (i 1).val < 10 ∧ 0 ≤ (i 2).val ∧ (i 2).val < 40 ∧ 0 ≤ (i 3).val ∧ (i 3).val < 128 := by
  constructor
  · rintro ⟨t, -, hi⟩
    rw [mem_blk6] at hi
    have b0 : win0_6.index t (0 : Fin 4) * 1 ≤ (i 0).val ∧ (i 0).val < win0_6.index t (0 : Fin 4) * 1 + 1 := hi 0
    have b1 : win0_6.index t (1 : Fin 4) * 1 ≤ (i 1).val ∧ (i 1).val < win0_6.index t (1 : Fin 4) * 1 + 1 := hi 1
    have b2 : win0_6.index t (2 : Fin 4) * 40 ≤ (i 2).val ∧ (i 2).val < win0_6.index t (2 : Fin 4) * 40 + 40 := hi 2
    have b3 : win0_6.index t (3 : Fin 4) * 128 ≤ (i 3).val ∧ (i 3).val < win0_6.index t (3 : Fin 4) * 128 + 128 := hi 3
    obtain ⟨e0, e1, e2, e3, e4⟩ := idx_facts6 t
    omega
  · intro h
    have hi0 : (i 0).val < 12 := (i 0).isLt
    have hi1 : (i 1).val < 10 := (i 1).isLt
    have hi2 : (i 2).val < 40 := (i 2).isLt
    have hi3 : (i 3).val < 128 := (i 3).isLt
    obtain ⟨t, hft, ht⟩ := idx_onto6 ⟨(i 0).val / 1 - 0, by omega⟩ ⟨(i 1).val / 1 - 0, by omega⟩ ⟨(i 2).val / 40 - 0, by omega⟩ ⟨(i 3).val / 128 - 0, by omega⟩
    have q0 : win0_6.index t (0 : Fin 4) = (i 0).val / 1 - 0 + 0 := congrFun ht 0
    have q1 : win0_6.index t (1 : Fin 4) = (i 1).val / 1 - 0 + 0 := congrFun ht 1
    have q2 : win0_6.index t (2 : Fin 4) = (i 2).val / 40 - 0 + 0 := congrFun ht 2
    have q3 : win0_6.index t (3 : Fin 4) = (i 3).val / 128 - 0 + 0 := congrFun ht 3
    refine ⟨t, hft, ?_⟩
    rw [mem_blk6]
    intro a
    match a with
    | ⟨0, _⟩ => show win0_6.index t (0 : Fin 4) * 1 ≤ (i 0).val ∧ (i 0).val < win0_6.index t (0 : Fin 4) * 1 + 1; omega
    | ⟨1, _⟩ => show win0_6.index t (1 : Fin 4) * 1 ≤ (i 1).val ∧ (i 1).val < win0_6.index t (1 : Fin 4) * 1 + 1; omega
    | ⟨2, _⟩ => show win0_6.index t (2 : Fin 4) * 40 ≤ (i 2).val ∧ (i 2).val < win0_6.index t (2 : Fin 4) * 40 + 40; omega
    | ⟨3, _⟩ => show win0_6.index t (3 : Fin 4) * 128 ≤ (i 3).val ∧ (i 3).val < win0_6.index t (3 : Fin 4) * 128 + 128; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 12 := (i 0).isLt; have h1 : (i 1).val < 10 := (i 1).isLt; have h2 : (i 2).val < 40 := (i 2).isLt; have h3 : (i 3).val < 128 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.KernelIdeal.Value

end
-- ==== Proof.Kern.Model.lean ====
/- The kernel body's vector computation at one grid point, written once per stage and generic in the chunk:
   what the body computes for its eight column groups, its sixteen pairs of 64-step chunks and its 96 rows of scales is
   the same text over different slices. The loads are parameters; `Bind` supplies them. -/
module

public import proofs.«01_k».proof.Proof.Gen.KernelIdeal

@[expose] public section

noncomputable section

namespace Cert.KernelIdeal.Model

open Idealize.ShloMosaic Cert.KernelIdeal Cert.KernelIdeal.Gen

variable {F : FTy → Type} [FloatOps F] [Named F]

/-! ## Splitting an f32 into three bf16 parts, and what is done with the parts -/

/-- The first part: the value rounded to bf16. -/
def hi {s : Shape} (x : FVec F s .f32) : FVec F s .f32 := extf .f32 (truncf .bf16 x bitsLt_bf16_f32) bitsLt_bf16_f32
/-- The second part: the remainder rounded. -/
def mid {s : Shape} (x : FVec F s .f32) : FVec F s .f32 := hi (subf x (hi x))
/-- The third part: what remains. -/
def lo {s : Shape} (x : FVec F s .f32) : FVec F s .f32 := subf (subf x (hi x)) (mid x)

/-- The three parts of a 40 × 128 value stacked along its rows. -/
def stack (x : FVec F S40x128 .f32) : FVec F S120x128 .bf16 :=
  truncf .bf16 (concatenate S120x128 0 [⟨S40x128, hi x⟩, ⟨S40x128, mid x⟩, ⟨S40x128, lo x⟩]
    concatenates_S40x128_S40x128_S40x128_S120x128_d0) bitsLt_bf16_f32

/-- The three parts of a 40 × 256 value stacked along its rows. -/
def stackW (x : FVec F S40x256 .f32) : FVec F S120x256 .bf16 :=
  truncf .bf16 (concatenate S120x256 0 [⟨S40x256, hi x⟩, ⟨S40x256, mid x⟩, ⟨S40x256, lo x⟩]
    concatenates_S40x256_S40x256_S40x256_S120x256_d0) bitsLt_bf16_f32

/-- The three row blocks of a product with a stack, added. -/
def sum3 (x : FVec F S120x256 .f32) : FVec F S40x256 .f32 :=
  addf (addf (extractStridedSlice S40x256 ![0, 0] x slices_S120x256_o0_0_S40x256)
    (extractStridedSlice S40x256 ![40, 0] x slices_S120x256_o40_0_S40x256))
    (extractStridedSlice S40x256 ![80, 0] x slices_S120x256_o80_0_S40x256)

/-- Five row groups of eight of `a`, each followed by the same group of `b`. -/
def ilv (a b : FVec F S40x128 .f32) : List ((s : Shape) × (s.Idx → F .f32)) :=
  [⟨S8x128, extractStridedSlice S8x128 ![0, 0] a slices_S40x128_o0_0_S8x128⟩,
   ⟨S8x128, extractStridedSlice S8x128 ![0, 0] b slices_S40x128_o0_0_S8x128⟩,
   ⟨S8x128, extractStridedSlice S8x128 ![8, 0] a slices_S40x128_o8_0_S8x128⟩,
   ⟨S8x128, extractStridedSlice S8x128 ![8, 0] b slices_S40x128_o8_0_S8x128⟩,
   ⟨S8x128, extractStridedSlice S8x128 ![16, 0] a slices_S40x128_o16_0_S8x128⟩,
   ⟨S8x128, extractStridedSlice S8x128 ![16, 0] b slices_S40x128_o16_0_S8x128⟩,
   ⟨S8x128, extractStridedSlice S8x128 ![24, 0] a slices_S40x128_o24_0_S8x128⟩,
   ⟨S8x128, extractStridedSlice S8x128 ![24, 0] b slices_S40x128_o24_0_S8x128⟩,
   ⟨S8x128, extractStridedSlice S8x128 ![32, 0] a slices_S40x128_o32_0_S8x128⟩,
   ⟨S8x128, extractStridedSlice S8x128 ![32, 0] b slices_S40x128_o32_0_S8x128⟩]

theorem conc240 : Shape.Concatenates (List.replicate 30 S8x128) S240x128 0 := by decide
theorem conc256 : Shape.Concatenates (List.replicate 30 S8x128 ++ [S16x128]) S256x128 0 := by decide

/-- The parts of a right operand, row groups interleaved: high with high, middle with middle, low with high. -/
def pack (x : FVec F S40x128 .f32) : FVec F S240x128 .bf16 :=
  truncf .bf16 (concatenate S240x128 0 (ilv (hi x) (hi x) ++ ilv (mid x) (mid x) ++ ilv (lo x) (hi x)) conc240) bitsLt_bf16_f32

/-- The parts of a left operand, in the matching order, sixteen rows of zeros after them. -/
def packL (x : FVec F S40x128 .f32) : FVec F S256x128 .bf16 :=
  truncf .bf16 (concatenate S256x128 0 (ilv (hi x) (mid x) ++ ilv (hi x) (mid x) ++ ilv (hi x) (lo x) ++
    [(⟨S16x128, broadcast S16x128 (FloatOps.ofBits .f32 0#32)⟩ : (s : Shape) × (s.Idx → F .f32))]) conc256) bitsLt_bf16_f32

/-- A zero block of 64 rows. -/
def z64 : FVec F S64x128 .bf16 := broadcast S64x128 (FloatOps.ofBits .bf16 0#16)

/-- Two 64-row blocks on the diagonal. -/
def diag (a b : FVec F S64x128 .bf16) : FVec F S128x256 .bf16 :=
  concatenate S128x256 0
    [⟨S64x256, concatenate S64x256 1 [⟨S64x128, a⟩, ⟨S64x128, z64⟩] concatenates_S64x128_S64x128_S64x256_d1⟩,
     ⟨S64x256, concatenate S64x256 1 [⟨S64x128, z64⟩, ⟨S64x128, b⟩] concatenates_S64x128_S64x128_S64x256_d1⟩]
    concatenates_S64x256_S64x256_S128x256_d0

/-- The upper and lower 64 rows of a 128-row block, on the diagonal. -/
def diagOf (x : FVec F S128x128 .bf16) : FVec F S128x256 .bf16 :=
  diag (extractStridedSlice S64x128 ![0, 0] x slices_S128x128_o0_0_S64x128)
    (extractStridedSlice S64x128 ![64, 0] x slices_S128x128_o64_0_S64x128)

/-! ## The gates: 256 steps at a time -/

/-- The number of the 64-step chunk an index lies in, by division towards minus infinity. -/
def chunkNo (x : IVec S256x256 32) : IVec S256x256 32 :=
  select (andi (cmpi .ne (subi (extui 32 (cmpi .sgt x (broadcast S256x256 0#32)) (by decide)) (extui 32 (cmpi .slt x (broadcast S256x256 0#32)) (by decide)))
      (broadcast S256x256 1#32)) (cmpi .ne (remsi x (broadcast S256x256 64#32)) (broadcast S256x256 0#32)))
    (subi (divsi x (broadcast S256x256 64#32)) (broadcast S256x256 1#32)) (divsi x (broadcast S256x256 64#32))

/-- Where the row is not after the column and both lie in one chunk. -/
def keep : IVec S256x256 1 :=
  andi (cmpi .sle (iota .tc S256x256 32 [0] iota_S256x256_d0_w32) (iota .tc S256x256 32 [1] iota_S256x256_d1_w32))
    (cmpi .eq (chunkNo (iota .tc S256x256 32 [0] iota_S256x256_d0_w32)) (chunkNo (iota .tc S256x256 32 [1] iota_S256x256_d1_w32)))

/-- The triangle of ones of each 64 × 64 block, as stored. -/
def triW : FVec F S256x256 .bf16 :=
  shapeCast S256x256 (truncf .bf16 (sitofp .f32 (extui 32 keep (by decide))) bitsLt_bf16_f32 : FVec F S256x256 .bf16) shapeCasts_S256x256_S256x256

/-- Zero at every entry. -/
def zW : FVec F S40x256 .f32 := broadcast S40x256 (FloatOps.ofBits .f32 0#32)
/-- One half at every entry. -/
def halfW : FVec F S40x256 .f32 := broadcast S40x256 (FloatOps.ofBits .f32 1056964608#32)
/-- One at every entry. -/
def oneW : FVec F S40x256 .f32 := broadcast S40x256 (FloatOps.ofBits .f32 1065353216#32)

/-- The gate logits of the group. -/
def logit (x : Vec F S1x1x40x256 .bf16) : FVec F S40x256 .f32 :=
  extf .f32 (shapeCast S40x256 x shapeCasts_S1x1x40x256_S40x256 : FVec F S40x256 .bf16) bitsLt_bf16_f32

/-- `exp (-|f|)`. -/
def expAbs (x : Vec F S1x1x40x256 .bf16) : FVec F S40x256 .f32 := exp (subf zW (absf (logit x)))

/-- `log (1 + exp (-|f|))`, by two terms of its series where that is small. -/
def soft (x : Vec F S1x1x40x256 .bf16) : FVec F S40x256 .f32 :=
  select (cmpf .olt (expAbs x) (broadcast S40x256 (FloatOps.ofBits .f32 953267991#32)))
    (mulf (expAbs x) (subf oneW (mulf halfW (expAbs x)))) (log (addf oneW (expAbs x)))

/-- The log forget gates. -/
def la (x : Vec F S1x1x40x256 .bf16) : FVec F S40x256 .f32 :=
  mulf (addf (maximumf (subf zW (logit x)) zW) (soft x)) (broadcast S40x256 (FloatOps.ofBits .f32 3187671040#32))

/-- The write gates. -/
def wr (x : Vec F S1x1x40x256 .bf16) : FVec F S40x256 .f32 :=
  mulf (subf zW (tanh (mulf halfW (la x)))) (addf (exp (la x)) oneW)

/-- The running sums of the log gates inside each chunk, by the triangular product. -/
def cum (x : Vec F S1x1x40x256 .bf16) (tri : FVec F S256x256 .bf16) : FVec F S40x256 .f32 :=
  sum3 (matmul dot_S120x256_S256x256_S120x256_1_0_0_1_n_n none (stackW (la x)) tri (constant S120x256 .f32 0#32))

/-- The decays from each chunk's start. -/
def ebW (x : Vec F S1x1x40x256 .bf16) (tri : FVec F S256x256 .bf16) : FVec F S40x256 .f32 :=
  shapeCast S40x256 (exp (cum x tri)) shapeCasts_S40x256_S40x256

/-- The write gates over the decays. -/
def uW (x : Vec F S1x1x40x256 .bf16) (tri : FVec F S256x256 .bf16) : FVec F S40x256 .f32 :=
  shapeCast S40x256 (mulf (exp (subf zW (cum x tri))) (wr x)) shapeCasts_S40x256_S40x256

/-! ## The scales of the 96 blocks of 64 × 128 operands -/

/-- The largest magnitude per lane of one block. -/
def amaxRow (b : FVec F S64x128 .bf16) : FVec F S1x128 .f32 :=
  shapeCast S1x128 (shapeCast S1x128 (multiReduction .maximumf [0] S128 (extf .f32
    (multiReduction .maximumf [0] S16x128 (shapeCast S4x16x128 (absf b) shapeCasts_S64x128_S4x16x128) 65408#16
      reduces_S4x16x128_S16x128 (.inr rfl) rfl) bitsLt_bf16_f32) 4286578688#32 reduces_S16x128_S128 (.inl rfl) rfl)
    shapeCasts_S128_S1x128) shapeCasts_S1x128_S1x128

/-- The largest magnitude of each block, along the lanes. -/
def amaxAll (a : FVec F S96x128 .f32) : FVec F S96x128 .f32 :=
  broadcastTo S96x128 (shapeCast S96x1 (shapeCast S96x1
    (multiReduction .maximumf [1] S96 a 4286578688#32 reduces_S96x128_S96 (.inl rfl) rfl) shapeCasts_S96_S96x1)
    shapeCasts_S96x1_S96x1) broadcasts_S96x1_S96x128

/-- One bit of the search for the biased exponent of `a`: `b` bits are kept if the power they give is at most `a`. -/
def probe (a : FVec F S96x128 .f32) (n : BitVec 32) (b : IVec S96x128 32) : IVec S96x128 32 :=
  select (cmpf .olt a (bitcastToFloat .f32 (shli (addi b (broadcast S96x128 n)) (broadcast S96x128 23#32)))) b
    (addi b (broadcast S96x128 n))

/-- The biased exponent of `a`, by eight probes. -/
def biased (a : FVec F S96x128 .f32) : IVec S96x128 32 :=
  probe a 1#32 (probe a 2#32 (probe a 4#32 (probe a 8#32 (probe a 16#32 (probe a 32#32 (probe a 64#32
    (probe a 128#32 (broadcast S96x128 0#32))))))))

/-- The exponents of the scales. -/
def expo (a : FVec F S96x128 .f32) : IVec S96x128 32 :=
  select (cmpf .oeq (amaxAll a) (broadcast S96x128 (FloatOps.ofBits .f32 0#32))) (broadcast S96x128 0#32)
    (select (cmpi .eq (biased (mulf (amaxAll a) (broadcast S96x128 (FloatOps.ofBits .f32 991054117#32))))
        (broadcast S96x128 0#32)) (broadcast S96x128 0#32)
      (subi (biased (mulf (amaxAll a) (broadcast S96x128 (FloatOps.ofBits .f32 991054117#32)))) (broadcast S96x128 126#32)))

/-- The scales. -/
def scaleAll (a : FVec F S96x128 .f32) : FVec F S96x128 .f32 :=
  shapeCast S96x128 (bitcastToFloat .f32 (shli (addi (expo a) (broadcast S96x128 127#32)) (broadcast S96x128 23#32)))
    shapeCasts_S96x128_S96x128

/-- The inverse scales. -/
def invAll (a : FVec F S96x128 .f32) : FVec F S96x128 .f32 :=
  shapeCast S96x128 (bitcastToFloat .f32 (shli (subi (broadcast S96x128 127#32) (expo a)) (broadcast S96x128 23#32)))
    shapeCasts_S96x128_S96x128

/-- The codes of one block under the inverse scale of its row. -/
def code (b : FVec F S64x128 .bf16) (iv : FVec F S1x128 .f32) : FVec F S1x1x64x128 .fp8e4m3 :=
  shapeCast S1x1x64x128 (truncf .fp8e4m3
    (minimumf (broadcast S64x128 (Scalar.truncf .bf16 bitsLt_bf16_f32 (FloatOps.ofBits .f32 1138753536#32)))
      (maximumf (broadcast S64x128 (Scalar.truncf .bf16 bitsLt_bf16_f32 (FloatOps.ofBits .f32 3286237184#32)))
        (mulf b (broadcastTo S64x128 (truncf .bf16 iv bitsLt_bf16_f32) broadcasts_S1x128_S64x128)))) bitsLt_fp8e4m3_bf16)
    shapeCasts_S64x128_S1x1x64x128

/-! ## The states, chunk by chunk -/

/-- The lane numbers. -/
def lane : IVec S1x128 32 := iota .tc S1x128 32 [1] iota_S1x128_d1_w32
/-- The lanes of the first chunk of a pair. -/
def first : IVec S1x128 1 := cmpi .slt lane (broadcast S1x128 64#32)
/-- The same, as a 40-row mask. -/
def first40 : IVec S40x128 1 := broadcastTo S40x128 (shapeCast S1x128 first shapeCasts_S1x128_S1x128) broadcasts_S1x128_S40x128

/-- The decay over the first chunk of a pair. -/
def decay0 (eb : FVec F S40x128 .f32) : FVec F S40x128 .f32 :=
  broadcastTo S40x128 (shapeCast S40x1 (extractStridedSlice S40x1 ![0, 63] eb slices_S40x128_o0_63_S40x1)
    shapeCasts_S40x1_S40x1) broadcasts_S40x1_S40x128
/-- The decay over the second chunk of a pair. -/
def decay1 (eb : FVec F S40x128 .f32) : FVec F S40x128 .f32 :=
  broadcastTo S40x128 (shapeCast S40x1 (extractStridedSlice S40x1 ![0, 127] eb slices_S40x128_o0_127_S40x1)
    shapeCasts_S40x1_S40x1) broadcasts_S40x1_S40x128

/-- The write gates decayed to the end of their chunk. -/
def dend (eb u : FVec F S40x128 .f32) : FVec F S40x128 .f32 := mulf u (select first40 (decay0 eb) (decay1 eb))

/-- The keys' contributions of a pair of chunks, before their scales: the first chunk's, then the second's. -/
def dk (eb u : FVec F S40x128 .f32) (kc : Vec F S1x1x128x128 .fp8e4m3) : FVec F S40x256 .f32 :=
  sum3 (matmul dot_S120x128_S128x256_S120x256_1_0_0_1_n_n none (stack (dend eb u))
    (diagOf (extf .bf16 (shapeCast S128x128 kc shapeCasts_S1x1x128x128_S128x128 : FVec F S128x128 .fp8e4m3) bitsLt_fp8e4m3_bf16))
    (constant S120x256 .f32 0#32))

/-- The values' contributions. -/
def dv (eb u : FVec F S40x128 .f32) (vb : Vec F S1x1x128x128 .bf16) : FVec F S40x256 .f32 :=
  sum3 (matmul dot_S120x128_S128x256_S120x256_1_0_0_1_n_n none (stack (dend eb u))
    (diagOf (shapeCast S128x128 vb shapeCasts_S1x1x128x128_S128x128)) (constant S120x256 .f32 0#32))

/-- The first chunk's half of a 256-lane value. -/
def half0 (x : FVec F S40x256 .f32) : FVec F S40x128 .f32 := extractStridedSlice S40x128 ![0, 0] x slices_S40x256_o0_0_S40x128
/-- The second chunk's half. -/
def half1 (x : FVec F S40x256 .f32) : FVec F S40x128 .f32 := extractStridedSlice S40x128 ![0, 128] x slices_S40x256_o0_128_S40x128

/-- A row of scales over the 40 rows. -/
def row40 (s : FVec F S1x128 .f32) : FVec F S40x128 .f32 := broadcastTo S40x128 s broadcasts_S1x128_S40x128

/-- The zero state. -/
def zS : FVec F S40x128 .f32 := broadcast S40x128 (FloatOps.ofBits .f32 0#32)

/-- The key state in the middle of a pair. -/
def kMid (eb u : FVec F S40x128 .f32) (kc : Vec F S1x1x128x128 .fp8e4m3) (s0 : FVec F S1x128 .f32) (st : FVec F S40x128 .f32) :
    FVec F S40x128 .f32 := addf (mulf (decay0 eb) st) (mulf (half0 (dk eb u kc)) (row40 s0))
/-- The key state after a pair. -/
def kEnd (eb u : FVec F S40x128 .f32) (kc : Vec F S1x1x128x128 .fp8e4m3) (s0 s1 : FVec F S1x128 .f32) (st : FVec F S40x128 .f32) :
    FVec F S40x128 .f32 := addf (mulf (decay1 eb) (kMid eb u kc s0 st)) (mulf (half1 (dk eb u kc)) (row40 s1))
/-- The value state in the middle of a pair. -/
def vMid (eb u : FVec F S40x128 .f32) (vb : Vec F S1x1x128x128 .bf16) (st : FVec F S40x128 .f32) :
    FVec F S40x128 .f32 := addf (mulf (decay0 eb) st) (half0 (dv eb u vb))
/-- The value state after a pair. -/
def vEnd (eb u : FVec F S40x128 .f32) (vb : Vec F S1x1x128x128 .bf16) (st : FVec F S40x128 .f32) :
    FVec F S40x128 .f32 := addf (mulf (decay1 eb) (vMid eb u vb st)) (half1 (dv eb u vb))

/-- The parts of a key state, as kept for the outputs. -/
def kKeep (st : FVec F S40x128 .f32) : FVec F S1x120x128 .bf16 := shapeCast S1x120x128 (stack st) shapeCasts_S120x128_S1x120x128
/-- The parts of a value state, as kept for the outputs. -/
def vKeep (st : FVec F S40x128 .f32) : FVec F S1x240x128 .bf16 := shapeCast S1x240x128 (pack st) shapeCasts_S240x128_S1x240x128

/-! ## The outputs of a pair of chunks -/

/-- A key or query block read back. -/
def sq (x : Vec F S1x1x64x128 .fp8e4m3) : FVec F S64x128 .fp8e4m3 := shapeCast S64x128 x shapeCasts_S1x1x64x128_S64x128

/-- The codes of the two query heads of a chunk, stacked. -/
def q2 (h0 h1 : Vec F S1x1x64x128 .fp8e4m3) : FVec F S128x128 .fp8e4m3 :=
  concatenate S128x128 0 [⟨S64x128, sq h0⟩, ⟨S64x128, sq h1⟩] concatenates_S64x128_S64x128_S128x128_d0

/-- Lane modulo 64. -/
def lane63 : IVec S1x128 32 := andi lane (broadcast S1x128 63#32)

/-- The products of keys and queries of a chunk, kept where the key is not after the query. -/
def att (kc : Vec F S1x1x64x128 .fp8e4m3) (q : FVec F S128x128 .fp8e4m3) : FVec F S64x128 .f32 :=
  select (cmpi .sle (iota .tc S64x128 32 [0] iota_S64x128_d0_w32) (broadcastTo S64x128 lane63 broadcasts_S1x128_S64x128))
    (matmul dot_S64x128_S128x128_S64x128_1_1_0_0_n_n none (sq kc) q (constant S64x128 .f32 0#32))
    (broadcast S64x128 (FloatOps.ofBits .f32 0#32))

/-- One part of the attention products as bf16. -/
def bf {s : Shape} (x : FVec F s .f32) : FVec F s .bf16 := truncf .bf16 x bitsLt_bf16_f32

/-- The write gates' parts with the key scales of the pair. -/
def uStack (u : FVec F S40x128 .f32) (s0 s1 : FVec F S1x128 .f32) : FVec F S120x128 .bf16 :=
  mulf (stack u) (broadcastTo S120x128 (truncf .bf16 (select first s0 s1) bitsLt_bf16_f32) broadcasts_S1x128_S120x128)

/-- The three parts of the two chunks' attention products, on the diagonal, stacked. -/
def attStack (a0 a1 : FVec F S64x128 .f32) : FVec F S384x256 .bf16 :=
  concatenate S384x256 0 [⟨S128x256, diag (bf (hi a0)) (bf (hi a1))⟩, ⟨S128x256, diag (bf (mid a0)) (bf (mid a1))⟩,
    ⟨S128x256, diag (bf (lo a0)) (bf (lo a1))⟩] concatenates_S128x256_S128x256_S128x256_S384x256_d0

/-- A zero block of 128 rows. -/
def z128 : FVec F S128x128 .bf16 := broadcast S128x128 (FloatOps.ofBits .bf16 0#16)

/-- The two chunks' queries on the diagonal. -/
def qDiag (q0 q1 : FVec F S128x128 .fp8e4m3) : FVec F S256x256 .bf16 :=
  concatenate S256x256 0
    [⟨S128x256, concatenate S128x256 1 [⟨S128x128, extf .bf16 q0 bitsLt_fp8e4m3_bf16⟩, ⟨S128x128, z128⟩] concatenates_S128x128_S128x128_S128x256_d1⟩,
     ⟨S128x256, concatenate S128x256 1 [⟨S128x128, z128⟩, ⟨S128x128, extf .bf16 q1 bitsLt_fp8e4m3_bf16⟩] concatenates_S128x128_S128x128_S128x256_d1⟩]
    concatenates_S128x256_S128x256_S256x256_d0

/-- The kept key states of the pair's two chunks side by side. -/
def kCat (k0 k1 : Vec F S1x120x128 .bf16) : FVec F S120x256 .bf16 :=
  concatenate S120x256 1 [⟨S120x128, shapeCast S120x128 k0 shapeCasts_S1x120x128_S120x128⟩,
    ⟨S120x128, shapeCast S120x128 k1 shapeCasts_S1x120x128_S120x128⟩] concatenates_S120x128_S120x128_S120x256_d1

/-- The write gates' parts three times side by side. -/
def uWide (u : FVec F S40x128 .f32) (s0 s1 : FVec F S1x128 .f32) : FVec F S120x384 .bf16 :=
  concatenate S120x384 1 [⟨S120x128, uStack u s0 s1⟩, ⟨S120x128, uStack u s0 s1⟩, ⟨S120x128, uStack u s0 s1⟩]
    concatenates_S120x128_S120x128_S120x128_S120x384_d1

/-- The slots' logits of a pair of chunks before decay and scale. -/
def zPair (u : FVec F S40x128 .f32) (s0 s1 : FVec F S1x128 .f32) (a0 a1 : FVec F S64x128 .f32)
    (q0 q1 : FVec F S128x128 .fp8e4m3) (k0 k1 : Vec F S1x120x128 .bf16) : FVec F S40x256 .f32 :=
  sum3 (addf
    (matmul dot_S120x384_S384x256_S120x256_1_0_0_1_n_n none (uWide u s0 s1) (attStack a0 a1) (constant S120x256 .f32 0#32))
    (matmul dot_S120x256_S256x256_S120x256_1_1_0_0_n_n none (kCat k0 k1) (qDiag q0 q1) (constant S120x256 .f32 0#32)))

/-- The decays with the two halves of the lanes exchanged. -/
def rolled (eb : FVec F S40x128 .f32) : FVec F S40x128 .f32 := dynamicRotate 1 64#32 none eb rotates_S40x128_d1
/-- The first chunk's decays, for both heads. -/
def eb0 (eb : FVec F S40x128 .f32) : FVec F S40x128 .f32 := select first40 eb (rolled eb)
/-- The second chunk's decays, for both heads. -/
def eb1 (eb : FVec F S40x128 .f32) : FVec F S40x128 .f32 := select first40 (rolled eb) eb

/-- The logits of one chunk's slots in base two: decay and query scale applied. -/
def logits (z eb : FVec F S40x128 .f32) (sh0 sh1 : FVec F S1x128 .f32) : FVec F S40x128 .f32 :=
  mulf z (mulf eb (row40 (mulf (select first sh0 sh1) (broadcast S1x128 (Named.named κ "log2e_scale" 0x3E0293EE#32)))))

/-- The maxima over the slots. -/
def top (x : FVec F S40x128 .f32) : FVec F S40x128 .f32 :=
  row40 (shapeCast S1x128 (multiReduction .maximumf [0] S128 x 4286578688#32 reduces_S40x128_S128 (.inl rfl) rfl) shapeCasts_S128_S1x128)
/-- The exponentials of the logits, the largest taken off. -/
def pex (x : FVec F S40x128 .f32) : FVec F S40x128 .f32 := exp2 (subf x (top x))
/-- Their sums over the slots. -/
def psum (x : FVec F S40x128 .f32) : FVec F S40x128 .f32 :=
  row40 (shapeCast S1x128 (multiReduction .add [0] S128 (pex x) 0#32 reduces_S40x128_S128 (.inl rfl) rfl) shapeCasts_S128_S1x128)
/-- The slots' weights times the decays. -/
def pe (x eb : FVec F S40x128 .f32) : FVec F S40x128 .f32 := mulf (pex x) (divf eb (psum x))

/-- What one chunk's slots carry from within the chunk (the weights of its writes) and from before it. -/
def carry (p : FVec F S40x128 .f32) (u : FVec F S40x128 .f32) (v0 : Vec F S1x240x128 .bf16) : FVec F S128x256 .f32 :=
  matmul dot_S128x240_S240x256_S128x256_1_0_0_1_n_n none
    (extractStridedSlice S128x240 ![0, 0] (transpose S128x256 [1, 0] (packL p) transposes_S256x128_p1_0_S128x256) slices_S128x256_o0_0_S128x240)
    (concatenate S240x256 1 [⟨S240x128, pack u⟩, ⟨S240x128, shapeCast S240x128 v0 shapeCasts_S1x240x128_S240x128⟩]
      concatenates_S240x128_S240x128_S240x256_d1) (constant S128x256 .f32 0#32)

/-- The first half of a 256-lane value. -/
def left (x : FVec F S128x256 .f32) : FVec F S128x128 .f32 := extractStridedSlice S128x128 ![0, 0] x slices_S128x256_o0_0_S128x128
/-- The second half. -/
def right (x : FVec F S128x256 .f32) : FVec F S128x128 .f32 := extractStridedSlice S128x128 ![0, 128] x slices_S128x256_o0_128_S128x128

/-- The weights of the writes within the two chunks, kept where the write is not after the step. -/
def mm (c0 c1 : FVec F S128x256 .f32) : FVec F S128x128 .f32 :=
  select (cmpi .sle (broadcastTo S128x128 lane63 broadcasts_S1x128_S128x128)
      (andi (iota .tc S128x128 32 [0] iota_S128x128_d0_w32) (broadcast S128x128 63#32)))
    (select (broadcastTo S128x128 (shapeCast S1x128 first shapeCasts_S1x128_S1x128) broadcasts_S1x128_S128x128) (left c0) (left c1))
    (broadcast S128x128 (FloatOps.ofBits .f32 0#32))

/-- The weights' parts side by side. -/
def mWide (m : FVec F S128x128 .f32) : FVec F S128x384 .bf16 :=
  concatenate S128x384 1 [⟨S128x128, bf (hi m)⟩, ⟨S128x128, bf (mid m)⟩, ⟨S128x128, bf (lo m)⟩]
    concatenates_S128x128_S128x128_S128x128_S128x384_d1

/-- The two chunks' values on the diagonal, three times stacked. -/
def vTall (vb : Vec F S1x1x128x128 .bf16) : FVec F S384x256 .bf16 :=
  concatenate S384x256 0 [⟨S128x256, diagOf (shapeCast S128x128 vb shapeCasts_S1x1x128x128_S128x128)⟩,
    ⟨S128x256, diagOf (shapeCast S128x128 vb shapeCasts_S1x1x128x128_S128x128)⟩,
    ⟨S128x256, diagOf (shapeCast S128x128 vb shapeCasts_S1x1x128x128_S128x128)⟩]
    concatenates_S128x256_S128x256_S128x256_S384x256_d0

/-- The two chunks' outputs from writes within them. -/
def oPair (m : FVec F S128x128 .f32) (vb : Vec F S1x1x128x128 .bf16) : FVec F S128x256 .f32 :=
  matmul dot_S128x384_S384x256_S128x256_1_0_0_1_n_n none (mWide m) (vTall vb) (constant S128x256 .f32 0#32)

/-- The first chunk's output, both heads. -/
def out0 (o c : FVec F S128x256 .f32) : FVec F S128x128 .bf16 := bf (addf (left o) (right c))
/-- The second chunk's output, both heads. -/
def out1 (o c : FVec F S128x256 .f32) : FVec F S128x128 .bf16 := bf (addf (right o) (right c))

/-- The first head of a chunk's output, as stored. -/
def head0 (x : FVec F S128x128 .bf16) : FVec F S1x1x64x128 .bf16 :=
  shapeCast S1x1x64x128 (extractStridedSlice S64x128 ![0, 0] x slices_S128x128_o0_0_S64x128) shapeCasts_S64x128_S1x1x64x128
/-- The second head. -/
def head1 (x : FVec F S128x128 .bf16) : FVec F S1x1x64x128 .bf16 :=
  shapeCast S1x1x64x128 (extractStridedSlice S64x128 ![64, 0] x slices_S128x128_o64_0_S64x128) shapeCasts_S64x128_S1x1x64x128

end Cert.KernelIdeal.Model

end
-- ==== Proof.Kern.Stage.lean ====
/- The kernel body's vector stages over the extended reals, at operands every entry of which is a real: a bf16 rounding
   is the identity, so a value is the first of its three parts, and every stage is a function of real arrays. -/
module

public import proofs.«01_k».proof.Proof.Kern.Model
public import Idealize.ShloMosaic.Lib.Pointwise
public import Idealize.ShloMosaic.Lib.WordCmp

@[expose] public section

set_option maxRecDepth 16384

noncomputable section

namespace Cert.KernelIdeal.Model

open Idealize.ShloMosaic Cert.KernelIdeal Cert.KernelIdeal.Gen

/-- Every entry of the matrix is the real `x` has at its coordinates. -/
def Is {n m : ℕ} (X : (⟨2, ![n, m]⟩ : Shape).Idx → EReal) (x : ℕ → ℕ → ℝ) : Prop :=
  ∀ (r : Fin n) (l : Fin m), X (ix2 r l) = ((x r l : ℝ) : EReal)

/-- A sum of reals, in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) := (EReal.coe_strictMono.monotone.map_max).symm

theorem coe_min (x y : ℝ) : min (x : EReal) (y : EReal) = ((min x y : ℝ) : EReal) := (EReal.coe_strictMono.monotone.map_min).symm

/-- A sum of products of reals, in the extended reals. -/
theorem coe_dot {n : ℕ} (f g : ℕ → ℝ) : ∑ k : Fin n, ((f k : ℝ) : EReal) * ((g k : ℝ) : EReal) = ((∑ k ∈ Finset.range n, f k * g k : ℝ) : EReal) := by
  rw [Finset.sum_range, ← coe_sum]; simp only [EReal.coe_mul]

theorem hi_eq {s : Shape} (X : s.Idx → EReal) : hi (F := Ideal) X = X := rfl

theorem mid_is {n m : ℕ} {X : (⟨2, ![n, m]⟩ : Shape).Idx → EReal} {x : ℕ → ℕ → ℝ} (h : Is X x) : Is (mid (F := Ideal) X) (fun _ _ => 0) := by
  intro r l
  show X _ - X _ = _
  rw [h]; simp [← EReal.coe_sub]

theorem lo_is {n m : ℕ} {X : (⟨2, ![n, m]⟩ : Shape).Idx → EReal} {x : ℕ → ℕ → ℝ} (h : Is X x) : Is (lo (F := Ideal) X) (fun _ _ => 0) := by
  intro r l
  show X _ - X _ - mid (F := Ideal) X _ = _
  rw [h, mid_is h]; simp [← EReal.coe_sub]

theorem stack_is {X : FVec Ideal S40x128 .f32} {x : ℕ → ℕ → ℝ} (h : Is X x) :
    Is (stack X) (fun r l => if r < 40 then x r l else 0) := by
  intro r l
  have h1 := mid_is h
  have h2 := lo_is h
  have h0 : Is (hi (F := Ideal) X) x := h
  pointwise [stack]
  simp only [h0 _ _, h1 _ _, h2 _ _]
  split_ifs <;> rfl

/-- Every entry of the matrix under two unit axes is the real `x` has at its coordinates. -/
def Is4 {n m : ℕ} (X : (⟨4, ![1, 1, n, m]⟩ : Shape).Idx → EReal) (x : ℕ → ℕ → ℝ) : Prop :=
  ∀ (r : Fin n) (l : Fin m), X (ix4 0 0 r l) = ((x r l : ℝ) : EReal)

/-- Every entry of the matrix under one unit axis is the real `x` has at its coordinates. -/
def Is3 {n m : ℕ} (X : (⟨3, ![1, n, m]⟩ : Shape).Idx → EReal) (x : ℕ → ℕ → ℝ) : Prop :=
  ∀ (r : Fin n) (l : Fin m), X (ix3 0 r l) = ((x r l : ℝ) : EReal)

/-- The reals may be rewritten where the matrix has entries. -/
theorem Is.congr {n m : ℕ} {X : (⟨2, ![n, m]⟩ : Shape).Idx → EReal} {x y : ℕ → ℕ → ℝ} (h : Is X x)
    (e : ∀ r l, r < n → l < m → x r l = y r l) : Is X y := fun r l => by rw [h, e _ _ r.2 l.2]

theorem diag_is {A B : FVec Ideal S64x128 .bf16} {a b : ℕ → ℕ → ℝ} (ha : Is A a) (hb : Is B b) :
    Is (diag A B) (fun r c => if r < 64 then (if c < 128 then a r c else 0) else if c < 128 then 0 else b (r - 64) (c - 128)) := by
  intro r l
  pointwise [diag, z64]
  simp only [ha _ _, hb _ _]
  split_ifs <;> rfl

/-- The product of a stack with a matrix, its three row blocks added, is the product with the value stacked. -/
theorem sum3_stack {A : FVec Ideal S40x128 .f32} {B : FVec Ideal S128x256 .bf16} {a b : ℕ → ℕ → ℝ} (ha : Is A a) (hb : Is B b) :
    Is (sum3 (matmul dot_S120x128_S128x256_S120x256_1_0_0_1_n_n none (stack A) B (constant S120x256 .f32 0#32)))
      (fun r c => ∑ k ∈ Finset.range 128, a r k * b k c) := by
  intro r l
  have hs := stack_is ha
  pointwise [sum3]
  simp only [hs _ _, hb _ _]
  simp only [coe_dot (fun k => if (r : ℕ) < 40 then a r k else 0) (fun k => b k l), r.isLt, if_true,
    show ∀ n : ℕ, ¬ (40 + n < 40) by omega, show ∀ n : ℕ, ¬ (80 + n < 40) by omega, if_false, zero_mul, Finset.sum_const_zero, EReal.coe_zero, add_zero]
  exact coe_dot (fun k => a r k) (fun k => b k l)

/-- The choice between the lanes of the first chunk of a pair and those of the second. -/
theorem sel_lane {α : Type} (l : Fin 128) (x y : α) :
    Scalar.select (IntOp.cmpi .slt (BitVec.ofNat 32 (l : ℕ)) 64#32) x y = if (l : ℕ) < 64 then x else y := by
  have h : IntOp.cmpi .slt (BitVec.ofNat 32 (l : ℕ)) 64#32 = BitVec.ofBool (decide ((l : ℕ) < 64)) :=
    WordCmp.cmpi_slt_ofNat (w := 32) (b := 64) (by have := l.isLt; norm_num; omega) (by norm_num)
  rw [h]
  by_cases hl : (l : ℕ) < 64 <;> simp [hl, Scalar.select]

theorem dend_is {E U : FVec Ideal S40x128 .f32} {e u : ℕ → ℕ → ℝ} (he : Is E e) (hu : Is U u) :
    Is (dend E U) (fun r l => u r l * (if l < 64 then e r 63 else e r 127)) := by
  intro r l
  pointwise [dend, first40, first, lane, decay0, decay1]
  simp only [he _ _, hu _ _, sel_lane]
  split_ifs <;> rfl

/-- The upper and lower halves of a block, on the diagonal. -/
theorem diagOf_is {X : FVec Ideal S128x128 .bf16} {x : ℕ → ℕ → ℝ} (h : Is X x) :
    Is (diagOf X) (fun r c => if r < 64 then (if c < 128 then x r c else 0) else if c < 128 then 0 else x r (c - 128)) := by
  refine (diag_is (a := x) (b := fun r c => x (64 + r) c) ?_ ?_).congr ?_
  · intro r l; pointwise; exact h _ _
  · intro r l; pointwise; exact h _ _
  · intro r l hr hl
    split_ifs <;> first | rfl | (congr 1; omega)

/-- A row of one matrix against a column of another. -/
theorem row_dot {n m p : ℕ} {A : (⟨2, ![m, n]⟩ : Shape).Idx → EReal} {B : (⟨2, ![n, p]⟩ : Shape).Idx → EReal} {a b : ℕ → ℕ → ℝ} (ha : Is A a) (hb : Is B b)
    (r : Fin m) (c : Fin p) : ∑ k : Fin n, A (ix2 r k) * B (ix2 k c) = ((∑ k ∈ Finset.range n, a r k * b k c : ℝ) : EReal) := by
  simp only [ha _ _, hb _ _]
  exact coe_dot (fun k => a r k) (fun k => b k c)

/-- A row of one matrix against a row of another. -/
theorem row_dot' {n m p : ℕ} {A : (⟨2, ![m, n]⟩ : Shape).Idx → EReal} {B : (⟨2, ![p, n]⟩ : Shape).Idx → EReal} {a b : ℕ → ℕ → ℝ} (ha : Is A a) (hb : Is B b)
    (r : Fin m) (c : Fin p) : ∑ k : Fin n, A (ix2 r k) * B (ix2 c k) = ((∑ k ∈ Finset.range n, a r k * b c k : ℝ) : EReal) := by
  simp only [ha _ _, hb _ _]
  exact coe_dot (fun k => a r k) (fun k => b c k)

/-- A sum whose terms vanish outside a window. -/
theorem sum_window {N a n : ℕ} {f : ℕ → ℝ} (hN : a + n ≤ N) (h : ∀ i, i < N → (i < a ∨ a + n ≤ i) → f i = 0) :
    ∑ i ∈ Finset.range N, f i = ∑ i ∈ Finset.range n, f (a + i) := by
  obtain ⟨k, rfl⟩ := Nat.exists_eq_add_of_le hN
  rw [Finset.sum_range_add, Finset.sum_range_add, Finset.sum_eq_zero (s := Finset.range a), Finset.sum_eq_zero (s := Finset.range k), zero_add, add_zero]
  · intro i hi; have := Finset.mem_range.1 hi; exact h _ (by omega) (by omega)
  · intro i hi; have := Finset.mem_range.1 hi; exact h _ (by omega) (by omega)

theorem dk_is {E U : FVec Ideal S40x128 .f32} {C : Vec Ideal S1x1x128x128 .fp8e4m3} {e u k : ℕ → ℕ → ℝ} (he : Is E e) (hu : Is U u)
    (hk : Is4 C k) :
    Is (dk E U C) (fun r c => if c < 128 then e r 63 * ∑ s ∈ Finset.range 64, u r s * k s c
      else e r 127 * ∑ s ∈ Finset.range 64, u r (64 + s) * k (64 + s) (c - 128)) := by
  have hd := diagOf_is (X := extf .bf16 (shapeCast S128x128 C shapeCasts_S1x1x128x128_S128x128 : FVec Ideal S128x128 .fp8e4m3) bitsLt_fp8e4m3_bf16)
    (x := k) (by intro r l; pointwise; exact hk _ _)
  refine (sum3_stack (dend_is he hu) hd).congr ?_
  intro r c hr hc
  rw [show (128 : ℕ) = 64 + 64 from rfl, Finset.sum_range_add]
  split_ifs with h
  · rw [Finset.mul_sum, ← add_zero (∑ i ∈ Finset.range 64, e r 63 * _)]
    congr 1
    · refine Finset.sum_congr rfl fun s hs => ?_
      have := Finset.mem_range.1 hs
      simp [this, h]; ring
    · refine Finset.sum_eq_zero fun s hs => ?_
      simp
  · rw [Finset.mul_sum, ← zero_add (∑ i ∈ Finset.range 64, e r 127 * _)]
    congr 1
    · refine Finset.sum_eq_zero fun s hs => ?_
      have := Finset.mem_range.1 hs
      simp [this]
    · refine Finset.sum_congr rfl fun s hs => ?_
      simp; ring

end Cert.KernelIdeal.Model

end
-- ==== Proof.Kern.Gates.lean ====
/- The gates over the extended reals: log gates, write gates, and the triangle that sums them inside each chunk. -/
module

public import proofs.«01_k».proof.Proof.Kern.Stage

@[expose] public section

set_option maxRecDepth 16384

noncomputable section

namespace Cert.KernelIdeal.Model

open Idealize.ShloMosaic Cert.KernelIdeal Cert.KernelIdeal.Gen

/-- The log gate of a logit. -/
def gate (x : ℝ) : ℝ := (max (0 - x) 0 + Real.log (1 + Real.exp (-|x|))) * (-1 / 8)

theorem half_const : Ideal.ofBits .f32 1056964608#32 = ((1 / 2 : ℝ) : EReal) := by
  unfold Ideal.ofBits Ideal.ieee
  simp only [show ((1056964608#32).extractLsb' (8 + 23) 1 == 1#1) = false by decide, show ((1056964608#32).extractLsb' 23 8).toNat = 126 by decide,
    show ((1056964608#32).extractLsb' 0 23).toNat = 0 by decide]
  norm_num

theorem eighth_const : Ideal.ofBits .f32 3187671040#32 = ((-1 / 8 : ℝ) : EReal) := by
  unfold Ideal.ofBits Ideal.ieee
  simp only [show ((3187671040#32).extractLsb' (8 + 23) 1 == 1#1) = true by decide, show ((3187671040#32).extractLsb' 23 8).toNat = 124 by decide,
    show ((3187671040#32).extractLsb' 0 23).toNat = 0 by decide]
  norm_num

theorem small_const : Ideal.ofBits .f32 953267991#32 = ((13743895 / 137438953472 : ℝ) : EReal) := by
  unfold Ideal.ofBits Ideal.ieee
  simp only [show ((953267991#32).extractLsb' (8 + 23) 1 == 1#1) = false by decide, show ((953267991#32).extractLsb' 23 8).toNat = 113 by decide,
    show ((953267991#32).extractLsb' 0 23).toNat = 5355287 by decide]
  norm_num

/-- On the stated logits the exponential is not small, so the logarithm itself is taken. -/
theorem exp_not_small {x : ℝ} (h : |x| ≤ 147 / 16) : ¬ Real.exp (-|x|) < 13743895 / 137438953472 := by
  have h1 : Real.exp (147 / 16) ≤ 10000 := by
    refine le_of_pow_le_pow_left₀ (n := 16) (by norm_num) (by norm_num) ?_
    rw [← Real.exp_nat_mul, show ((16 : ℕ) : ℝ) * (147 / 16) = ((147 : ℕ) : ℝ) * 1 by norm_num, Real.exp_nat_mul]
    have he : Real.exp 1 ≤ 2.72 := by
      refine (Real.exp_bound' (x := 1) (by norm_num) le_rfl (n := 6) (by norm_num)).trans ?_
      norm_num [Finset.sum_range_succ, Nat.factorial]
    calc Real.exp 1 ^ 147 ≤ 2.72 ^ 147 := pow_le_pow_left₀ (Real.exp_pos 1).le he 147
      _ ≤ 10000 ^ 16 := by norm_num
  have h2 : (10000 : ℝ)⁻¹ ≤ Real.exp (-(147 / 16)) := by
    rw [Real.exp_neg]; exact inv_anti₀ (Real.exp_pos _) h1
  have h3 : Real.exp (-(147 / 16)) ≤ Real.exp (-|x|) := Real.exp_le_exp.2 (by linarith)
  have := h2.trans h3
  norm_num at this ⊢
  linarith

theorem la_is {X : Vec Ideal S1x1x40x256 .bf16} {f : ℕ → ℕ → ℝ} (h : Is4 X f) (hf : ∀ r l, r < 40 → l < 256 → |f r l| ≤ 147 / 16) :
    Is (la X) (fun r l => gate (f r l)) := by
  intro r l
  have hs := exp_not_small (hf r l r.2 l.2)
  pointwise [la, soft, expAbs, logit, zW, halfW, oneW]
  simp only [h _ _]
  generalize f r l = x at hs
  have e1 : (0 : EReal) - FloatOps.absf (F := Ideal) (φ := .f32) ((x : ℝ) : EReal) = ((-|x| : ℝ) : EReal) := by
    show (0 : EReal) - max (x : EReal) (-(x : EReal)) = _
    rw [← EReal.coe_neg, ← EReal.coe_zero, coe_max, ← EReal.coe_sub, zero_sub]; rfl
  have hp : ¬ (1 + Real.exp (-|x|) ≤ 0) := by have := Real.exp_pos (-|x|); linarith
  rw [e1, Ideal.exp_coe, small_const, eighth_const, if_neg (by rw [EReal.coe_lt_coe_iff]; exact hs), ← EReal.coe_zero, ← EReal.coe_one, ← EReal.coe_sub,
    coe_max, ← EReal.coe_add, Ideal.log_coe, if_neg hp, ← EReal.coe_add, ← EReal.coe_mul]
  rfl

/-- The number of an index's chunk, as the division chain computes it. -/
theorem chunk_word : ∀ x : Fin 256,
    Scalar.select (IntOp.andi (IntOp.cmpi .ne (IntOp.subi (BitVec.setWidth 32 (IntOp.cmpi .sgt (BitVec.ofNat 32 x) 0#32)) (BitVec.setWidth 32 (IntOp.cmpi .slt (BitVec.ofNat 32 x) 0#32)))
      1#32) (IntOp.cmpi .ne (IntOp.remsi .vector (BitVec.ofNat 32 x) 64#32) 0#32))
    (IntOp.subi (IntOp.divsi .vector (BitVec.ofNat 32 x) 64#32) 1#32) (IntOp.divsi .vector (BitVec.ofNat 32 x) 64#32) = BitVec.ofNat 32 (x / 64) := by decide +kernel

/-- Two words below 256 are in signed order as their numbers are. -/
theorem sle_word {a b : ℕ} (ha : a < 256) (hb : b < 256) : IntOp.cmpi .sle (BitVec.ofNat 32 a) (BitVec.ofNat 32 b) = BitVec.ofBool (decide (a ≤ b)) :=
  WordCmp.cmpi_sle_ofNat (w := 32) (by norm_num; omega) (by norm_num; omega)

/-- Two words below 256 are equal as their numbers are. -/
theorem eq_word {a b : ℕ} (ha : a < 256) (hb : b < 256) : IntOp.cmpi .eq (BitVec.ofNat 32 a) (BitVec.ofNat 32 b) = BitVec.ofBool (decide (a = b)) := by
  rw [WordCmp.cmpi_eq_eq]
  congr 1
  refine decide_eq_decide.2 ⟨fun h => ?_, fun h => by rw [h]⟩
  have := congrArg BitVec.toNat h
  simp at this; omega

theorem triW_is : Is (triW (F := Ideal)) (fun r c => if r ≤ c ∧ r / 64 = c / 64 then 1 else 0) := by
  intro r l
  pointwise [triW, keep, chunkNo]
  rw [chunk_word r, chunk_word l, sle_word r.2 l.2, eq_word (by omega) (by omega)]
  by_cases h1 : (r : ℕ) ≤ l <;> by_cases h2 : (r : ℕ) / 64 = l / 64
  · rw [decide_eq_true h1, decide_eq_true h2, if_pos ⟨h1, h2⟩]
    show (((BitVec.setWidth 32 (IntOp.andi 1#1 1#1)).toInt : ℝ) : EReal) = _
    simp [IntOp.andi]
  · rw [decide_eq_true h1, decide_eq_false h2, if_neg (by tauto)]
    show (((BitVec.setWidth 32 (IntOp.andi 1#1 0#1)).toInt : ℝ) : EReal) = _
    simp [IntOp.andi]
  · rw [decide_eq_false h1, decide_eq_true h2, if_neg (by tauto)]
    show (((BitVec.setWidth 32 (IntOp.andi 0#1 1#1)).toInt : ℝ) : EReal) = _
    simp [IntOp.andi]
  · rw [decide_eq_false h1, decide_eq_false h2, if_neg (by tauto)]
    show (((BitVec.setWidth 32 (IntOp.andi 0#1 0#1)).toInt : ℝ) : EReal) = _
    simp [IntOp.andi]

theorem wr_is {X : Vec Ideal S1x1x40x256 .bf16} {a : ℕ → ℕ → ℝ} (h : Is (la X) a) : Is (wr X) (fun r l => 1 - Real.exp (a r l)) := by
  intro r l
  pointwise [wr, zW, halfW, oneW]
  simp only [h _ _]
  generalize a r l = y
  rw [half_const, ← EReal.coe_mul, Ideal.tanh_coe, Ideal.exp_coe, ← EReal.coe_zero, ← EReal.coe_one, ← EReal.coe_sub, ← EReal.coe_add, ← EReal.coe_mul]
  refine congrArg _ ?_
  have hy : Real.exp y = Real.exp (1 / 2 * y) * Real.exp (1 / 2 * y) := by rw [← Real.exp_add]; congr 1; ring
  have hp := Real.exp_pos (1 / 2 * y)
  rw [Real.tanh_eq_sinh_div_cosh, Real.sinh_eq, Real.cosh_eq, Real.exp_neg, hy]
  field_simp
  ring

theorem stackW_is {X : FVec Ideal S40x256 .f32} {x : ℕ → ℕ → ℝ} (h : Is X x) :
    Is (stackW X) (fun r l => if r < 40 then x r l else 0) := by
  intro r l
  have h1 := mid_is h
  have h2 := lo_is h
  have h0 : Is (hi (F := Ideal) X) x := h
  pointwise [stackW]
  simp only [h0 _ _, h1 _ _, h2 _ _]
  split_ifs <;> rfl

theorem cum_is {X : Vec Ideal S1x1x40x256 .bf16} {T : FVec Ideal S256x256 .bf16} {a t : ℕ → ℕ → ℝ} (h : Is (la X) a) (ht : Is T t) :
    Is (cum X T) (fun r l => ∑ k ∈ Finset.range 256, a r k * t k l) := by
  intro r l
  have hs := stackW_is h
  pointwise [cum, sum3]
  simp only [hs _ _, ht _ _]
  simp only [coe_dot (fun k => if (r : ℕ) < 40 then a r k else 0) (fun k => t k l), r.isLt, if_true,
    show ∀ n : ℕ, ¬ (40 + n < 40) by omega, show ∀ n : ℕ, ¬ (80 + n < 40) by omega, if_false, zero_mul, Finset.sum_const_zero, EReal.coe_zero, add_zero]
  exact coe_dot (fun k => a r k) (fun k => t k l)

theorem ebW_is {X : Vec Ideal S1x1x40x256 .bf16} {T : FVec Ideal S256x256 .bf16} {c : ℕ → ℕ → ℝ} (h : Is (cum X T) c) :
    Is (ebW X T) (fun r l => Real.exp (c r l)) := by
  intro r l
  pointwise [ebW]
  rw [h]; rfl

theorem uW_is {X : Vec Ideal S1x1x40x256 .bf16} {T : FVec Ideal S256x256 .bf16} {c w : ℕ → ℕ → ℝ} (h : Is (cum X T) c) (hw : Is (wr X) w) :
    Is (uW X T) (fun r l => Real.exp (-c r l) * w r l) := by
  intro r l
  pointwise [uW, zW]
  rw [h, hw, ← EReal.coe_zero, ← EReal.coe_sub, Ideal.exp_coe, ← EReal.coe_mul, zero_sub]

end Cert.KernelIdeal.Model

end
-- ==== Proof.Kern.Spec.lean ====
/- What the kernel computes at one grid point, over the reals: gates, running sums inside each chunk of 64 steps, the
   states carried from chunk to chunk, and the outputs. -/
module

public import proofs.«01_k».proof.Proof.Kern.Gates

@[expose] public section

noncomputable section

namespace Cert.KernelIdeal.Model

/-- The log forget gate of slot `j` at step `t`. -/
def laS (f : ℕ → ℕ → ℝ) (j t : ℕ) : ℝ := gate (f j t)
/-- The write gate. -/
def wS (f : ℕ → ℕ → ℝ) (j t : ℕ) : ℝ := 1 - Real.exp (laS f j t)
/-- The sum of the log gates from the start of the step's chunk. -/
def cumS (f : ℕ → ℕ → ℝ) (j t : ℕ) : ℝ := ∑ s ∈ Finset.range (t % 64 + 1), laS f j (64 * (t / 64) + s)
/-- The decay from the start of the chunk. -/
def ebS (f : ℕ → ℕ → ℝ) (j t : ℕ) : ℝ := Real.exp (cumS f j t)
/-- The write gate over the decay. -/
def uS (f : ℕ → ℕ → ℝ) (j t : ℕ) : ℝ := Real.exp (-cumS f j t) * wS f j t

/-- The state of slot `j`, feature `d`, before chunk `c`, of the written rows `x`. -/
def stS (f x : ℕ → ℕ → ℝ) : ℕ → ℕ → ℕ → ℝ
  | 0, _, _ => 0
  | c + 1, j, d => ebS f j (64 * c + 63) * (stS f x c j d + ∑ s ∈ Finset.range 64, uS f j (64 * c + s) * x (64 * c + s) d)

/-- The product of the query `q` with slot `j`'s key at step `64 c + t`, before the decay. -/
def zS' (f k : ℕ → ℕ → ℝ) (q : ℕ → ℝ) (c t j : ℕ) : ℝ :=
  ∑ s ∈ Finset.range 64, uS f j (64 * c + s) * (if s ≤ t then ∑ d ∈ Finset.range 128, k (64 * c + s) d * q d else 0) +
    ∑ d ∈ Finset.range 128, stS f k c j d * q d
/-- The logit in base two. -/
def lgS (f k : ℕ → ℕ → ℝ) (q : ℕ → ℝ) (c t j : ℕ) : ℝ :=
  zS' f k q c t j * (ebS f j (64 * c + t) * ((Real.log 2)⁻¹ * (Real.sqrt 128)⁻¹))
/-- The slot's weight times its decay. -/
def peS (f k : ℕ → ℕ → ℝ) (q : ℕ → ℝ) (c t j : ℕ) : ℝ :=
  (2 : ℝ) ^ lgS f k q c t j / (∑ i ∈ Finset.range 40, (2 : ℝ) ^ lgS f k q c t i) * ebS f j (64 * c + t)
/-- The output's feature `d` at step `64 c + t`. -/
def oS (f k v : ℕ → ℕ → ℝ) (q : ℕ → ℝ) (c t d : ℕ) : ℝ :=
  ∑ s ∈ Finset.range 64, (if s ≤ t then ∑ j ∈ Finset.range 40, peS f k q c t j * uS f j (64 * c + s) else 0) * v (64 * c + s) d +
    ∑ j ∈ Finset.range 40, peS f k q c t j * stS f v c j d

/-- The block triangle's column, summed against a row: the running sum inside the chunk. -/
theorem tri_sum (a : ℕ → ℝ) (l : ℕ) (hl : l < 256) :
    ∑ k ∈ Finset.range 256, a k * (if k ≤ l ∧ k / 64 = l / 64 then 1 else 0) = ∑ s ∈ Finset.range (l % 64 + 1), a (64 * (l / 64) + s) := by
  rw [sum_window (N := 256) (a := 64 * (l / 64)) (n := l % 64 + 1) (by omega)
    (fun i hi h => by rw [if_neg (by omega), mul_zero])]
  refine Finset.sum_congr rfl fun s hs => ?_
  have := Finset.mem_range.1 hs
  rw [if_pos (by omega), mul_one]

end Cert.KernelIdeal.Model

end
-- ==== Proof.Kern.Bind.lean ====
/- The body's loads and stores at one grid point, over the vector computation of `Model`: which rectangle of which
   buffer each stage reads, and the pieces it leaves. -/
module

public import proofs.«01_k».proof.Proof.Kern.Model
public import Idealize.ShloMosaic.Lib.Pipeline.FrameBody

@[expose] public section

noncomputable section

namespace Cert.KernelIdeal.Model

open Idealize.ShloMosaic Cert.KernelIdeal Cert.KernelIdeal.Gen

variable {F : FTy → Type} [FloatOps F] [Named F]

/-- The buffers a grid point reads from and keeps values in, with the contents of the inputs and of the triangle. -/
structure Env (F : FTy → Type) where
  /-- The query block, the key block, the value block, the gate block. -/
  a2 : Memref sig .tc .vmem S1x2x2048x128 .bf16
  h2 : a2.IsWhole
  a3 : Memref sig .tc .vmem S1x1x2048x128 .bf16
  h3 : a3.IsWhole
  a4 : Memref sig .tc .vmem S1x1x2048x128 .bf16
  h4 : a4.IsWhole
  a5 : Memref sig .tc .vmem S1x1x40x2048 .bf16
  h5 : a5.IsWhole
  /-- The query codes and the key codes. -/
  a9 : Memref sig .tc .vmem S1x2x2048x128 .fp8e4m3
  a11 : Memref sig .tc .vmem S1x1x2048x128 .fp8e4m3
  /-- The scratch: decays, write gates over decays, magnitudes, scales, inverse scales, kept key and value states. -/
  a14 : Memref sig .tc .vmem S40x2048 .f32
  a15 : Memref sig .tc .vmem S40x2048 .f32
  a16 : Memref sig .tc .vmem S96x128 .f32
  a17 : Memref sig .tc .vmem S96x128 .f32
  a18 : Memref sig .tc .vmem S96x128 .f32
  a19 : Memref sig .tc .vmem S32x120x128 .bf16
  a20 : Memref sig .tc .vmem S32x240x128 .bf16
  /-- The inputs' contents. -/
  x0 : Vec F S1x2x2048x128 .bf16
  x1 : Vec F S1x1x2048x128 .bf16
  x2 : Vec F S1x1x2048x128 .bf16
  x3 : Vec F S1x1x40x2048 .bf16
  /-- The triangle of ones of each 64 × 64 block. -/
  tri : FVec F S256x256 .bf16

variable (E : Env F)

/-! ## Rectangles -/

/-- Group `g` of 256 columns of the gates. -/
def rF (g : Fin 8) : Rect S1x1x40x2048 := Rect.unit ![0, 0, 0, 256 * g.val] S1x1x40x256.size
  (by intro a; fin_cases a <;> simp <;> omega)
/-- Group `g` of 256 columns of a gate scratch. -/
def rG (g : Fin 8) : Rect S40x2048 := Rect.unit ![0, 256 * g.val] S40x256.size
  (by intro a; fin_cases a <;> simp <;> omega)
/-- Pair `i` of chunks, 128 columns, of a gate scratch. -/
def rP (i : Fin 16) : Rect S40x2048 := Rect.unit ![0, 128 * i.val] S40x128.size
  (by intro a; fin_cases a <;> simp <;> omega)
/-- Row `r` of a scale scratch. -/
def rS (r : Fin 96) : Rect S96x128 := Rect.unit ![r.val, 0] S1x128.size
  (by intro a; fin_cases a <;> simp <;> omega)
/-- The whole of a scale scratch. -/
def rAll : Rect S96x128 := Rect.unit ![0, 0] S96x128.size (by intro a; fin_cases a <;> simp)
/-- Chunk `c` of 64 steps of query head `h`. -/
def rQ (h : Fin 2) (c : Fin 32) : Rect S1x2x2048x128 := Rect.unit ![0, h.val, 64 * c.val, 0] S1x1x64x128.size
  (by intro a; fin_cases a <;> simp <;> omega)
/-- Chunk `c` of 64 steps of the keys. -/
def rK (c : Fin 32) : Rect S1x1x2048x128 := Rect.unit ![0, 0, 64 * c.val, 0] S1x1x64x128.size
  (by intro a; fin_cases a <;> simp <;> omega)
/-- Pair `i` of chunks, 128 steps, of the keys or the values. -/
def rK2 (i : Fin 16) : Rect S1x1x2048x128 := Rect.unit ![0, 0, 128 * i.val, 0] S1x1x128x128.size
  (by intro a; fin_cases a <;> simp <;> omega)
/-- Kept key state `c`. -/
def rK0 (c : Fin 32) : Rect S32x120x128 := Rect.unit ![c.val, 0, 0] S1x120x128.size
  (by intro a; fin_cases a <;> simp <;> omega)
/-- Kept value state `c`. -/
def rV0 (c : Fin 32) : Rect S32x240x128 := Rect.unit ![c.val, 0, 0] S1x240x128.size
  (by intro a; fin_cases a <;> simp <;> omega)
/-- The whole of a final state's block. -/
def rSt : Rect S1x1x40x128 := Rect.unit ![0, 0, 0, 0] S1x1x40x128.size (by intro a; fin_cases a <;> simp)
/-- Rows `64 c` to `64 c + 63` of a 2048 × 128 slice. -/
def r64 (c : Fin 32) : Rect S2048x128 := Rect.unit ![64 * c.val, 0] S64x128.size
  (by intro a; fin_cases a <;> simp <;> omega)
/-- The slice of head `h`. -/
def rHead (h : Fin 2) : Rect S1x2x2048x128 := Rect.unit ![0, h.val, 0, 0] S1x1x2048x128.size
  (by intro a; fin_cases a <;> simp <;> omega)
/-- The slice of the one key head. -/
def rHeadK : Rect S1x1x2048x128 := Rect.unit ![0, 0, 0, 0] S1x1x2048x128.size
  (by intro a; fin_cases a <;> simp)

/-- Rows of a slice, lifted to the slice with its unit axes. -/
def lift64 (c : Fin 32) : LoadRect S1x1x2048x128 :=
  LoadRect.consLift (n := 3) (d := ![1, 2048, 128]) (LoadRect.consLift (n := 2) (d := ![2048, 128]) (r64 c).toLoadRect ![1, 2048, 128] rfl (by decide))
    ![1, 1, 2048, 128] rfl (by decide)

/-- The lift keeps the number of entries. -/
theorem lift64_numel (c : Fin 32) : (r64 c).toLoadRect.shape.numel = (lift64 c).shape.numel :=
  (LoadRect.numel_consLift (n := 2) (d := ![2048, 128]) (r64 c).toLoadRect ![1, 2048, 128] rfl (by decide)).trans
    (LoadRect.numel_consLift (n := 3) (d := ![1, 2048, 128]) _ ![1, 1, 2048, 128] rfl (by decide))

/-! ## Stages -/

/-- The pieces of the decays, last group first. -/
def ebL : List (View.Piece (Elt F) S40x2048 .f32) :=
  ([7, 6, 5, 4, 3, 2, 1, 0] : List (Fin 8)).map fun g =>
    ⟨rG g, ebW (View.readAt (Elt F) E.a5.view (rF g).toLoadRect (E.h5.unread E.x3)) E.tri⟩
/-- The pieces of the write gates over the decays. -/
def uL : List (View.Piece (Elt F) S40x2048 .f32) :=
  ([7, 6, 5, 4, 3, 2, 1, 0] : List (Fin 8)).map fun g =>
    ⟨rG g, uW (View.readAt (Elt F) E.a5.view (rF g).toLoadRect (E.h5.unread E.x3)) E.tri⟩

/-- Chunk `c` of query head `h`. -/
def qBlk (h : Fin 2) (c : Fin 32) : FVec F S64x128 .bf16 :=
  shapeCast S64x128 (LoadRect.valAlong (lr := (r64 c).toLoadRect) (LR := lift64 c) (lift64_numel c)
    (View.readAt (Elt F) E.a2.view ((rHead h).withinL (lift64 c) (fun _ => rfl)) (E.h2.unread E.x0))) shapeCasts_S64x128_S64x128
/-- Chunk `c` of the keys. -/
def kBlk (c : Fin 32) : FVec F S64x128 .bf16 :=
  shapeCast S64x128 (LoadRect.valAlong (lr := (r64 c).toLoadRect) (LR := lift64 c) (lift64_numel c)
    (View.readAt (Elt F) E.a3.view (rHeadK.withinL (lift64 c) (fun _ => rfl)) (E.h3.unread E.x1))) shapeCasts_S64x128_S64x128

/-- The chunks from the last to the first. -/
def down32 : List (Fin 32) := [31, 30, 29, 28, 27, 26, 25, 24, 23, 22, 21, 20, 19, 18, 17, 16, 15, 14, 13, 12, 11, 10, 9, 8, 7, 6, 5, 4, 3, 2, 1, 0]
/-- The pairs of chunks from the last to the first. -/
def down16 : List (Fin 16) := [15, 14, 13, 12, 11, 10, 9, 8, 7, 6, 5, 4, 3, 2, 1, 0]

/-- The row of query head `h`'s chunk `c` among the scales. -/
def rowQ (h : Fin 2) (c : Fin 32) : Fin 96 := ⟨32 * h.val + c.val, by omega⟩
/-- The row of the keys' chunk `c`. -/
def rowK (c : Fin 32) : Fin 96 := ⟨64 + c.val, by omega⟩

/-- The magnitudes' pieces: keys, second head, first head, each last chunk first. -/
def amaxL : List (View.Piece (Elt F) S96x128 .f32) :=
  (down32.map fun c => ⟨rS (rowK c), amaxRow (kBlk E c)⟩) ++ (down32.map fun c => ⟨rS (rowQ 1 c), amaxRow (qBlk E 1 c)⟩) ++
    (down32.map fun c => ⟨rS (rowQ 0 c), amaxRow (qBlk E 0 c)⟩)

/-! What is read back from a buffer depends on the pieces stored there so far, which the later stages take as lists. -/

variable (Lb Lu : List (View.Piece (Elt F) S40x2048 .f32)) (La Ls Li : List (View.Piece (Elt F) S96x128 .f32))
  (Lq : List (View.Piece (Elt F) S1x2x2048x128 .fp8e4m3)) (Lk : List (View.Piece (Elt F) S1x1x2048x128 .fp8e4m3))
  (LK : List (View.Piece (Elt F) S32x120x128 .bf16)) (LV : List (View.Piece (Elt F) S32x240x128 .bf16))

/-- The magnitudes, read back whole. -/
def amax : FVec F S96x128 .f32 := E.a16.view.readCov La rAll.toLoadRect
/-- The scales' one piece. -/
def scL : List (View.Piece (Elt F) S96x128 .f32) := [⟨rAll, scaleAll (amax E La)⟩]
/-- The inverse scales' one piece. -/
def ivL : List (View.Piece (Elt F) S96x128 .f32) := [⟨rAll, invAll (amax E La)⟩]
/-- The scale of row `r`. -/
def sc (r : Fin 96) : FVec F S1x128 .f32 := E.a17.view.readCov Ls (rS r).toLoadRect
/-- The inverse scale of row `r`. -/
def iv (r : Fin 96) : FVec F S1x128 .f32 := E.a18.view.readCov Li (rS r).toLoadRect

/-- The query codes' pieces. -/
def qcL : List (View.Piece (Elt F) S1x2x2048x128 .fp8e4m3) :=
  (down32.map fun c => ⟨rQ 1 c, code (qBlk E 1 c) (iv E Li (rowQ 1 c))⟩) ++ (down32.map fun c => ⟨rQ 0 c, code (qBlk E 0 c) (iv E Li (rowQ 0 c))⟩)
/-- The key codes' pieces. -/
def kcL : List (View.Piece (Elt F) S1x1x2048x128 .fp8e4m3) :=
  down32.map fun c => ⟨rK c, code (kBlk E c) (iv E Li (rowK c))⟩

/-- The decays of pair `i`. -/
def eb (i : Fin 16) : FVec F S40x128 .f32 := E.a14.view.readCov Lb (rP i).toLoadRect
/-- The write gates over the decays of pair `i`. -/
def u (i : Fin 16) : FVec F S40x128 .f32 := E.a15.view.readCov Lu (rP i).toLoadRect
/-- The key codes of pair `i`. -/
def kc2 (i : Fin 16) : Vec F S1x1x128x128 .fp8e4m3 := E.a11.view.readCov Lk (rK2 i).toLoadRect
/-- The values of pair `i`. -/
def vb (i : Fin 16) : Vec F S1x1x128x128 .bf16 := View.readAt (Elt F) E.a4.view (rK2 i).toLoadRect (E.h4.unread E.x2)

/-- The pair numbered `n`. -/
def pr (n : ℕ) : Fin 16 := Fin.ofNat 16 n
/-- The first chunk of pair `i`. -/
def ch0 (i : Fin 16) : Fin 32 := ⟨2 * i.val, by omega⟩
/-- The second chunk of pair `i`. -/
def ch1 (i : Fin 16) : Fin 32 := ⟨2 * i.val + 1, by omega⟩

/-- The key state before pair `n`. -/
def kSt (n : ℕ) : FVec F S40x128 .f32 :=
  Nat.rec zS (fun n s => kEnd (eb E Lb (pr n)) (u E Lu (pr n)) (kc2 E Lk (pr n)) (sc E Ls (rowK (ch0 (pr n)))) (sc E Ls (rowK (ch1 (pr n)))) s) n
/-- The value state before pair `n`. -/
def vSt (n : ℕ) : FVec F S40x128 .f32 :=
  Nat.rec zS (fun n s => vEnd (eb E Lb (pr n)) (u E Lu (pr n)) (vb E (pr n)) s) n

/-- The kept key states' pieces. -/
def k0L : List (View.Piece (Elt F) S32x120x128 .bf16) :=
  down16.flatMap fun i =>
    [⟨rK0 (ch1 i), kKeep (kMid (eb E Lb i) (u E Lu i) (kc2 E Lk i) (sc E Ls (rowK (ch0 i))) (kSt E Lb Lu Ls Lk i.val))⟩, ⟨rK0 (ch0 i), kKeep (kSt E Lb Lu Ls Lk i.val)⟩]
/-- The kept value states' pieces. -/
def v0L : List (View.Piece (Elt F) S32x240x128 .bf16) :=
  down16.flatMap fun i =>
    [⟨rV0 (ch1 i), vKeep (vMid (eb E Lb i) (u E Lu i) (vb E i) (vSt E Lb Lu i.val))⟩, ⟨rV0 (ch0 i), vKeep (vSt E Lb Lu i.val)⟩]

/-- The final key state's piece. -/
def ksL : List (View.Piece (Elt F) S1x1x40x128 .f32) := [⟨rSt, shapeCast S1x1x40x128 (kSt E Lb Lu Ls Lk 16) shapeCasts_S40x128_S1x1x40x128⟩]
/-- The final value state's piece. -/
def vsL : List (View.Piece (Elt F) S1x1x40x128 .f32) := [⟨rSt, shapeCast S1x1x40x128 (vSt E Lb Lu 16) shapeCasts_S40x128_S1x1x40x128⟩]

/-- The query codes of chunk `c`, both heads. -/
def qq (c : Fin 32) : FVec F S128x128 .fp8e4m3 :=
  q2 (E.a9.view.readCov Lq (rQ 0 c).toLoadRect) (E.a9.view.readCov Lq (rQ 1 c).toLoadRect)
/-- The masked products of chunk `c`. -/
def aa (c : Fin 32) : FVec F S64x128 .f32 := att (E.a11.view.readCov Lk (rK c).toLoadRect) (qq E Lq c)
/-- The kept key state of chunk `c`. -/
def k0 (c : Fin 32) : Vec F S1x120x128 .bf16 := E.a19.view.readCov LK (rK0 c).toLoadRect
/-- The kept value state of chunk `c`. -/
def v0 (c : Fin 32) : Vec F S1x240x128 .bf16 := E.a20.view.readCov LV (rV0 c).toLoadRect

/-- The slots' products of pair `i`. -/
def zz (i : Fin 16) : FVec F S40x256 .f32 :=
  zPair (u E Lu i) (sc E Ls (rowK (ch0 i))) (sc E Ls (rowK (ch1 i))) (aa E Lq Lk (ch0 i)) (aa E Lq Lk (ch1 i)) (qq E Lq (ch0 i)) (qq E Lq (ch1 i)) (k0 E LK (ch0 i)) (k0 E LK (ch1 i))
/-- The first chunk's logits. -/
def lg0 (i : Fin 16) : FVec F S40x128 .f32 := logits (half0 (zz E Lu Ls Lq Lk LK i)) (eb0 (eb E Lb i)) (sc E Ls (rowQ 0 (ch0 i))) (sc E Ls (rowQ 1 (ch0 i)))
/-- The second chunk's logits. -/
def lg1 (i : Fin 16) : FVec F S40x128 .f32 := logits (half1 (zz E Lu Ls Lq Lk LK i)) (eb1 (eb E Lb i)) (sc E Ls (rowQ 0 (ch1 i))) (sc E Ls (rowQ 1 (ch1 i)))
/-- The first chunk's slots against its writes and the state before it. -/
def cc0 (i : Fin 16) : FVec F S128x256 .f32 := carry (pe (lg0 E Lb Lu Ls Lq Lk LK i) (eb0 (eb E Lb i))) (u E Lu i) (v0 E LV (ch0 i))
/-- The second chunk's. -/
def cc1 (i : Fin 16) : FVec F S128x256 .f32 := carry (pe (lg1 E Lb Lu Ls Lq Lk LK i) (eb1 (eb E Lb i))) (u E Lu i) (v0 E LV (ch1 i))
/-- The two chunks' outputs from their own writes. -/
def oo (i : Fin 16) : FVec F S128x256 .f32 := oPair (mm (cc0 E Lb Lu Ls Lq Lk LK LV i) (cc1 E Lb Lu Ls Lq Lk LK LV i)) (vb E i)

/-- The outputs' pieces. -/
def oL : List (View.Piece (Elt F) S1x2x2048x128 .bf16) :=
  down16.flatMap fun i =>
    [⟨rQ 1 (ch1 i), head1 (out1 (oo E Lb Lu Ls Lq Lk LK LV i) (cc1 E Lb Lu Ls Lq Lk LK LV i))⟩, ⟨rQ 0 (ch1 i), head0 (out1 (oo E Lb Lu Ls Lq Lk LK LV i) (cc1 E Lb Lu Ls Lq Lk LK LV i))⟩,
     ⟨rQ 1 (ch0 i), head1 (out0 (oo E Lb Lu Ls Lq Lk LK LV i) (cc0 E Lb Lu Ls Lq Lk LK LV i))⟩, ⟨rQ 0 (ch0 i), head0 (out0 (oo E Lb Lu Ls Lq Lk LK LV i) (cc0 E Lb Lu Ls Lq Lk LK LV i))⟩]

end Cert.KernelIdeal.Model

end
-- ==== Proof.Kern.Load.lean ====
/- What the body reads, at one grid point whose inputs are real arrays: the input blocks, and the decays and write gates
   read back from scratch pair by pair. -/
module

public import proofs.«01_k».proof.Proof.Kern.Spec
public import proofs.«01_k».proof.Proof.Kern.Bind
public import Idealize.ShloMosaic.Lib.Pipeline.Value
public import Idealize.ShloMosaic.Lib.Exec.Geometry

@[expose] public section

set_option maxRecDepth 16384

noncomputable section

namespace Cert.KernelIdeal.Model

open Idealize.ShloMosaic Cert.KernelIdeal Cert.KernelIdeal.Gen

/-- The real arrays behind the inputs of a grid point, their bounds, and the triangle. -/
structure Inputs (E : Env Ideal) where
  /-- The queries by head, step and feature; the keys and the values by step and feature; the gate logits by slot and step. -/
  q : ℕ → ℕ → ℕ → ℝ
  k : ℕ → ℕ → ℝ
  v : ℕ → ℕ → ℝ
  f : ℕ → ℕ → ℝ
  hq : ∀ (h : Fin 2) (t : Fin 2048) (d : Fin 128), E.x0 (ix4 0 h t d) = ((q h t d : ℝ) : EReal)
  hk : ∀ (t : Fin 2048) (d : Fin 128), E.x1 (ix4 0 0 t d) = ((k t d : ℝ) : EReal)
  hv : ∀ (t : Fin 2048) (d : Fin 128), E.x2 (ix4 0 0 t d) = ((v t d : ℝ) : EReal)
  hf : ∀ (j : Fin 40) (t : Fin 2048), E.x3 (ix4 0 0 j t) = ((f j t : ℝ) : EReal)
  bq : ∀ h t d, h < 2 → t < 2048 → d < 128 → |q h t d| ≤ (2 : ℝ) ^ 128
  bk : ∀ t d, t < 2048 → d < 128 → |k t d| ≤ (2 : ℝ) ^ 128
  bf : ∀ j t, j < 40 → t < 2048 → |f j t| ≤ 147 / 16
  tri : Is E.tri (fun r c => if r ≤ c ∧ r / 64 = c / 64 then 1 else 0)

variable {E : Env Ideal} (I : Inputs E)

/-- A rank-2 index is its two coordinates. -/
theorem eq_ix2 {n m : ℕ} (y : (⟨2, ![n, m]⟩ : Shape).Idx) : ∃ (r : Fin n) (l : Fin m), y = ix2 r l := ⟨y 0, y 1, (ix2_eta y).symm⟩
/-- A rank-3 index under a unit axis. -/
theorem eq_ix3 {n m : ℕ} (y : (⟨3, ![1, n, m]⟩ : Shape).Idx) : ∃ (r : Fin n) (l : Fin m), y = ix3 0 r l :=
  ⟨y 1, y 2, (ix3_eta y).symm.trans (congrArg (fun z => ix3 z (y 1) (y 2)) (Subsingleton.elim (α := Fin 1) _ _))⟩
/-- A rank-4 index under two unit axes. -/
theorem eq_ix4 {n m : ℕ} (y : (⟨4, ![1, 1, n, m]⟩ : Shape).Idx) : ∃ (r : Fin n) (l : Fin m), y = ix4 0 0 r l :=
  ⟨y 2, y 3, (ix4_eta y).symm.trans (congrArg₂ (fun z w => ix4 z w (y 2) (y 3)) (Subsingleton.elim (α := Fin 1) _ _) (Subsingleton.elim (α := Fin 1) _ _))⟩

/-! ## The inputs' blocks -/

/-- Group `g` of the gate logits. -/
theorem f_is (g : Fin 8) : Is4 (View.readAt (Elt Ideal) E.a5.view (rF g).toLoadRect (E.h5.unread E.x3)) (fun r l => I.f r (256 * g + l)) := by
  intro r l
  rw [View.readAt_eq_ld, E.h5.read_unread]
  refine Eq.trans (congrArg E.x3 ?_) (I.hf r ⟨256 * g + l, by omega⟩)
  funext a
  fin_cases a <;> exact Fin.ext (by simp [rF])

/-- Pair `i` of the values. -/
theorem vb_is (i : Fin 16) : Is4 (vb E i) (fun r d => I.v (128 * i + r) d) := by
  intro r l
  unfold vb
  rw [View.readAt_eq_ld, E.h4.read_unread]
  refine Eq.trans (congrArg E.x2 ?_) (I.hv ⟨128 * i + r, by omega⟩ l)
  funext a
  fin_cases a <;> exact Fin.ext (by simp [rK2])

/-! ## The gates' scratch -/

theorem eb_group (g : Fin 8) : Is (ebW (View.readAt (Elt Ideal) E.a5.view (rF g).toLoadRect (E.h5.unread E.x3)) E.tri)
    (fun r l => ebS I.f r (256 * g + l)) := by
  refine (ebW_is (cum_is (la_is (f_is I g) fun r l hr hl => I.bf r _ hr (by omega)) I.tri)).congr fun r l hr hl => ?_
  rw [tri_sum _ _ hl, ebS, cumS]
  refine congrArg _ (Finset.sum_congr (by congr 1; omega) fun s hs => ?_)
  rw [laS]; congr 2; omega

theorem u_group (g : Fin 8) : Is (uW (View.readAt (Elt Ideal) E.a5.view (rF g).toLoadRect (E.h5.unread E.x3)) E.tri)
    (fun r l => uS I.f r (256 * g + l)) := by
  have hl := la_is (f_is I g) fun r l hr hl => I.bf r _ hr (by omega)
  refine (uW_is (cum_is hl I.tri) (wr_is hl)).congr fun r l hr hl => ?_
  rw [tri_sum _ _ hl, uS, cumS, wS]
  refine congrArg (fun x => Real.exp (-x) * _) (Finset.sum_congr (by congr 1; omega) fun s hs => ?_)
  rw [laS]; congr 2; omega

theorem mem8 (g : Fin 8) : g ∈ ([7, 6, 5, 4, 3, 2, 1, 0] : List (Fin 8)) := by revert g; decide
theorem mem32 (c : Fin 32) : c ∈ down32 := by revert c; decide
theorem mem16 (i : Fin 16) : i ∈ down16 := by revert i; decide

/-- The groups' pieces of a gate scratch, read back at pair `i`. -/
theorem gate_read (v : Memref sig .tc .vmem S40x2048 .f32) (W : Fin 8 → FVec Ideal S40x256 .f32) (w : ℕ → ℕ → ℝ)
    (h : ∀ g : Fin 8, Is (W g) (fun r l => w r (256 * g + l))) (i : Fin 16) :
    Is (v.view.readCov (([7, 6, 5, 4, 3, 2, 1, 0] : List (Fin 8)).map fun g => (⟨rG g, W g⟩ : View.Piece (Elt Ideal) S40x2048 .f32)) (rP i).toLoadRect)
      (fun r l => w r (128 * i + l)) := by
  intro r l
  rw [View.readCov_eq_canon']
  refine (View.canon_apply_of_pieces (Val := Elt Ideal) (fun y : S40x2048.Idx => ((w (y 0) (y 1) : ℝ) : EReal)) _ ?_ _ ?_).trans ?_
  · intro p hp x
    obtain ⟨g, -, rfl⟩ := List.mem_map.1 hp
    obtain ⟨r, l, rfl⟩ := eq_ix2 (n := 40) (m := 256) x
    refine (h g r l).trans ?_
    show _ = ((w (0 + 1 * r) (256 * g + 1 * l) : ℝ) : EReal)
    rw [zero_add, one_mul, one_mul]
  · refine ⟨_, List.mem_map.2 ⟨⟨i.val / 2, by omega⟩, mem8 _, rfl⟩, ?_⟩
    show _ ∈ (rG ⟨i.val / 2, _⟩).set
    rw [rG, Rect.mem_set_unit]
    intro a
    fin_cases a <;> simp [rP] <;> omega
  · simp [rP]

theorem eb_is (i : Fin 16) : Is (eb E (ebL E) i) (fun r l => ebS I.f r (128 * i + l)) := gate_read E.a14 _ _ (eb_group I) i
theorem u_is (i : Fin 16) : Is (u E (uL E) i) (fun r l => uS I.f r (128 * i + l)) := gate_read E.a15 _ _ (u_group I) i

end Cert.KernelIdeal.Model

end
-- ==== Proof.Kern.Pack.lean ====
/- The interleaved parts over the extended reals: what a row of a packed operand holds, and the product of two of them. -/
module

public import proofs.«01_k».proof.Proof.Kern.Stage

@[expose] public section

set_option maxRecDepth 16384

noncomputable section

namespace Cert.KernelIdeal.Model

open Idealize.ShloMosaic Cert.KernelIdeal Cert.KernelIdeal.Gen

/-- Along the axis, from offset `o` on, the pieces hold what `G` holds. -/
def Agree {α : Type} (t : Shape) (a : Fin t.rank) (j : t.Idx) (G : ℕ → α) :
    (xs : List ((s : Shape) × (s.Idx → α))) → (∀ s ∈ xs.map (·.1), s.FitsOff t a) → ℕ → Prop
  | [], _, _ => True
  | p :: xs, hs, o =>
    have hp : p.1.FitsOff t a := hs p.1 List.mem_cons_self
    (∀ (c : ℕ) (hlt : c < p.1.size (a.cast hp.rank_eq.symm)),
      p.2 (Shape.Idx.norm fun b => ⟨if b.val = a.val then c else (j (b.cast hp.rank_eq)).val, concatAt_fst_lt hp j c hlt b⟩) = G (o + c)) ∧
    Agree t a j G xs (fun s h => hs s (List.mem_cons_of_mem _ h)) (o + p.1.size (a.cast hp.rank_eq.symm))

/-- Pieces in agreement with `G`, concatenated, hold what `G` holds. -/
theorem Agree.read {α : Type} {t : Shape} {a : Fin t.rank} {j : t.Idx} {G : ℕ → α} :
    ∀ (xs : List ((s : Shape) × (s.Idx → α))) (hs : ∀ s ∈ xs.map (·.1), s.FitsOff t a) (o c : ℕ) (hc : c < (axisSizes t a xs).sum),
      Agree t a j G xs hs o → concatenateAt t a j xs hs c hc = G (o + c)
  | [], _, _, _, hc, _ => absurd hc (Nat.not_lt_zero _)
  | [p], hs, o, c, hc, h => by
    have hp : p.1.FitsOff t a := hs p.1 List.mem_cons_self
    rw [concatenateAt]
    exact h.1 c (by rw [axisSizes_cons t a p [] hp] at hc; simpa using hc)
  | p :: q :: xs, hs, o, c, hc, h => by
    rw [concatenateAt]
    split_ifs with hlt
    · exact h.1 c hlt
    · rw [Agree.read (q :: xs) _ _ _ _ h.2]
      congr 1
      omega

/-- A piece of eight rows of a value. -/
theorem slice8 {N g : ℕ} {A : FVec Ideal S40x128 .f32} {a : ℕ → ℕ → ℝ} (ha : Is A a) (hs : S40x128.Slices ![g, 0] S8x128) (hg : g + 8 ≤ 40)
    (r : Fin N) (l : Fin 128) (hp : S8x128.FitsOff ⟨2, ![N, 128]⟩ 0) (c : ℕ) (hlt : c < 8) :
    extractStridedSlice S8x128 ![g, 0] A hs (Shape.Idx.norm fun b => ⟨if b.val = (0 : Fin 2).val then c else ((ix2 r l : (⟨2, ![N, 128]⟩ : Shape).Idx) (b.cast hp.rank_eq)).val,
      concatAt_fst_lt hp _ c hlt b⟩) = ((a (g + c) l : ℝ) : EReal) := by
  have e : (Shape.Idx.norm fun b : Fin S8x128.rank => (⟨if b.val = (0 : Fin 2).val then c else ((ix2 r l : (⟨2, ![N, 128]⟩ : Shape).Idx) (b.cast hp.rank_eq)).val,
      concatAt_fst_lt hp _ c hlt b⟩ : Fin (S8x128.size b))) = ix2 (⟨c, hlt⟩ : Fin 8) l := by
    rw [Shape.Idx.norm_def]
    funext b
    fin_cases b <;> rfl
  rw [e]
  pointwise
  rw [ha]

/-- The row groups of two values interleaved agree with `G` if `G` holds them so. -/
theorem ilv_agree {N : ℕ} {A B : FVec Ideal S40x128 .f32} {a b : ℕ → ℕ → ℝ} (ha : Is A a) (hb : Is B b) (r : Fin N) (l : Fin 128) (G : ℕ → EReal)
    (xs : List ((s : Shape) × (s.Idx → Ideal .f32))) (hs : ∀ s ∈ (ilv A B ++ xs).map (·.1), s.FitsOff ⟨2, ![N, 128]⟩ 0) (o : ℕ)
    (hG : ∀ g c, g < 5 → c < 8 → G (o + 16 * g + c) = ((a (8 * g + c) l : ℝ) : EReal) ∧ G (o + 16 * g + 8 + c) = ((b (8 * g + c) l : ℝ) : EReal))
    (h : Agree ⟨2, ![N, 128]⟩ 0 (ix2 r l) G xs (fun s h => hs s (by rw [List.map_append]; exact List.mem_append_right _ h)) (o + 80)) :
    Agree ⟨2, ![N, 128]⟩ 0 (ix2 r l) G (ilv A B ++ xs) hs o := by
  have hp : S8x128.FitsOff ⟨2, ![N, 128]⟩ 0 := hs S8x128 List.mem_cons_self
  refine ⟨fun c hc => ?_, fun c hc => ?_, fun c hc => ?_, fun c hc => ?_, fun c hc => ?_, fun c hc => ?_, fun c hc => ?_, fun c hc => ?_, fun c hc => ?_, fun c hc => ?_, h⟩
  · exact (slice8 ha slices_S40x128_o0_0_S8x128 (by norm_num) r l hp c hc).trans (hG 0 c (by norm_num) hc).1.symm
  · exact (slice8 hb slices_S40x128_o0_0_S8x128 (by norm_num) r l hp c hc).trans (hG 0 c (by norm_num) hc).2.symm
  · exact (slice8 ha slices_S40x128_o8_0_S8x128 (by norm_num) r l hp c hc).trans (hG 1 c (by norm_num) hc).1.symm
  · exact (slice8 hb slices_S40x128_o8_0_S8x128 (by norm_num) r l hp c hc).trans (hG 1 c (by norm_num) hc).2.symm
  · exact (slice8 ha slices_S40x128_o16_0_S8x128 (by norm_num) r l hp c hc).trans (hG 2 c (by norm_num) hc).1.symm
  · exact (slice8 hb slices_S40x128_o16_0_S8x128 (by norm_num) r l hp c hc).trans (hG 2 c (by norm_num) hc).2.symm
  · exact (slice8 ha slices_S40x128_o24_0_S8x128 (by norm_num) r l hp c hc).trans (hG 3 c (by norm_num) hc).1.symm
  · exact (slice8 hb slices_S40x128_o24_0_S8x128 (by norm_num) r l hp c hc).trans (hG 3 c (by norm_num) hc).2.symm
  · exact (slice8 ha slices_S40x128_o32_0_S8x128 (by norm_num) r l hp c hc).trans (hG 4 c (by norm_num) hc).1.symm
  · exact (slice8 hb slices_S40x128_o32_0_S8x128 (by norm_num) r l hp c hc).trans (hG 4 c (by norm_num) hc).2.symm

/-- What row `r` of interleaved row groups holds. -/
def weave (a b : ℕ → ℕ → ℝ) (r l : ℕ) : ℝ := if r % 16 < 8 then a (r / 16 * 8 + r % 8) l else b (r / 16 * 8 + r % 8) l

theorem weave_group (a b : ℕ → ℕ → ℝ) (l g c : ℕ) (hc : c < 8) :
    weave a b (16 * g + c) l = a (8 * g + c) l ∧ weave a b (16 * g + 8 + c) l = b (8 * g + c) l := by
  unfold weave
  constructor
  · rw [if_pos (by omega)]; congr 1; omega
  · rw [if_neg (by omega)]; congr 1; omega

/-- What row `r` of a packed right operand holds. -/
def packed (x : ℕ → ℕ → ℝ) (r l : ℕ) : ℝ :=
  if r < 80 then weave x x r l else if r < 160 then weave (fun _ _ => 0) (fun _ _ => 0) (r - 80) l else weave (fun _ _ => 0) x (r - 160) l

/-- What row `r` of a packed left operand holds. -/
def packedL (x : ℕ → ℕ → ℝ) (r l : ℕ) : ℝ :=
  if r < 80 then weave x (fun _ _ => 0) r l else if r < 160 then weave x (fun _ _ => 0) (r - 80) l else if r < 240 then weave x (fun _ _ => 0) (r - 160) l else 0

/-- A product of interleaved groups, group by group. -/
theorem weave_dot (a b y z : ℕ → ℕ → ℝ) (c l : ℕ) :
    ∑ r ∈ Finset.range 80, weave a b r c * weave y z r l = ∑ j ∈ Finset.range 40, (a j c * y j l + b j c * z j l) := by
  simp only [Finset.sum_range_succ, Finset.sum_range_zero, weave]
  norm_num
  ring

/-- A product of a packed left operand with a packed right one is the product of the values. -/
theorem packed_dot (p y : ℕ → ℕ → ℝ) (c l : ℕ) :
    ∑ r ∈ Finset.range 240, packedL p r c * packed y r l = ∑ j ∈ Finset.range 40, p j c * y j l := by
  rw [show (240 : ℕ) = 80 + 80 + 80 from rfl, Finset.sum_range_add, Finset.sum_range_add]
  have h1 : ∑ r ∈ Finset.range 80, packedL p r c * packed y r l = ∑ r ∈ Finset.range 80, weave p (fun _ _ => 0) r c * weave y y r l :=
    Finset.sum_congr rfl fun r hr => by
      have := Finset.mem_range.1 hr
      rw [packedL, packed, if_pos (by omega), if_pos (by omega)]
  have h2 : ∑ r ∈ Finset.range 80, packedL p (80 + r) c * packed y (80 + r) l = ∑ r ∈ Finset.range 80, weave p (fun _ _ => 0) r c * weave (fun _ _ => 0) (fun _ _ => 0) r l :=
    Finset.sum_congr rfl fun r hr => by
      have := Finset.mem_range.1 hr
      rw [packedL, packed, if_neg (by omega), if_pos (by omega), if_neg (by omega), if_pos (by omega), show 80 + r - 80 = r by omega]
  have h3 : ∑ r ∈ Finset.range 80, packedL p (80 + 80 + r) c * packed y (80 + 80 + r) l = ∑ r ∈ Finset.range 80, weave p (fun _ _ => 0) r c * weave (fun _ _ => 0) y r l :=
    Finset.sum_congr rfl fun r hr => by
      have := Finset.mem_range.1 hr
      rw [packedL, packed, if_neg (by omega), if_neg (by omega), if_pos (by omega), if_neg (by omega), if_neg (by omega), show 80 + 80 + r - 160 = r by omega]
  rw [h1, h2, h3, weave_dot, weave_dot, weave_dot]
  simp

/-- The packed right operand. -/
theorem pack_is {X : FVec Ideal S40x128 .f32} {x : ℕ → ℕ → ℝ} (h : Is X x) :
    Is (pack X) (packed x) := by
  intro r l
  have h1 := mid_is h
  have h2 := lo_is h
  have h0 : Is (hi (F := Ideal) X) x := h
  show concatenate S240x128 0 (ilv (hi X) (hi X) ++ ilv (mid X) (mid X) ++ ilv (lo X) (hi X)) conc240 (ix2 r l) = _
  refine (concatenate_apply S240x128 0 (ilv (hi X) (hi X) ++ ilv (mid X) (mid X) ++ ilv (lo X) (hi X)) conc240 (ix2 r l)).trans ?_
  have key := Agree.read (α := EReal) (G := fun r => ((packed x r l : ℝ) : EReal)) (t := S240x128) (a := 0) (j := ix2 r l)
      (ilv (hi X) (hi X) ++ ilv (mid X) (mid X) ++ ilv (lo X) (hi X)) conc240.2.1 0 r (lt_of_lt_of_eq r.2 conc240.2.2.symm) ?_
  · rw [zero_add] at key; exact key
  · simp only [List.append_assoc]
    refine ilv_agree (N := 240) h0 h0 r l _ _ _ 0 ?_ ?_
    · intro g c hg hc
      have := weave_group x x l g c hc
      dsimp only [packed]
      rw [if_pos (by omega), if_pos (by omega), zero_add, this.1, this.2]; exact ⟨rfl, rfl⟩
    refine ilv_agree (N := 240) h1 h1 r l _ _ _ _ ?_ ?_
    · intro g c hg hc
      have := weave_group (fun _ _ => (0 : ℝ)) (fun _ _ => 0) l g c hc
      dsimp only [packed]
      rw [if_neg (by omega), if_pos (by omega), if_neg (by omega), if_pos (by omega), show 0 + 80 + 16 * g + c - 80 = 16 * g + c by omega,
        show 0 + 80 + 16 * g + 8 + c - 80 = 16 * g + 8 + c by omega, this.1, this.2]; exact ⟨rfl, rfl⟩
    refine ilv_agree (N := 240) h2 h0 r l _ [] _ _ ?_ trivial
    intro g c hg hc
    have := weave_group (fun _ _ => (0 : ℝ)) x l g c hc
    dsimp only [packed]
    rw [if_neg (by omega), if_neg (by omega), if_neg (by omega), if_neg (by omega), show 0 + 80 + 80 + 16 * g + c - 160 = 16 * g + c by omega,
      show 0 + 80 + 80 + 16 * g + 8 + c - 160 = 16 * g + 8 + c by omega, this.1, this.2]; exact ⟨rfl, rfl⟩

/-- The packed left operand. -/
theorem packL_is {X : FVec Ideal S40x128 .f32} {x : ℕ → ℕ → ℝ} (h : Is X x) : Is (packL X) (packedL x) := by
  intro r l
  have h1 := mid_is h
  have h2 := lo_is h
  have h0 : Is (hi (F := Ideal) X) x := h
  show concatenate S256x128 0 (ilv (hi X) (mid X) ++ ilv (hi X) (mid X) ++ ilv (hi X) (lo X) ++
    [(⟨S16x128, broadcast S16x128 (FloatOps.ofBits .f32 0#32)⟩ : (s : Shape) × (s.Idx → Ideal .f32))]) conc256 (ix2 r l) = _
  refine (concatenate_apply S256x128 0 (ilv (hi X) (mid X) ++ ilv (hi X) (mid X) ++ ilv (hi X) (lo X) ++
    [(⟨S16x128, broadcast S16x128 (FloatOps.ofBits .f32 0#32)⟩ : (s : Shape) × (s.Idx → Ideal .f32))]) conc256 (ix2 r l)).trans ?_
  have key := Agree.read (α := EReal) (G := fun r => ((packedL x r l : ℝ) : EReal)) (t := S256x128) (a := 0) (j := ix2 r l)
      (ilv (hi X) (mid X) ++ ilv (hi X) (mid X) ++ ilv (hi X) (lo X) ++
    [(⟨S16x128, broadcast S16x128 (FloatOps.ofBits .f32 0#32)⟩ : (s : Shape) × (s.Idx → Ideal .f32))]) conc256.2.1 0 r (lt_of_lt_of_eq r.2 conc256.2.2.symm) ?_
  · rw [zero_add] at key; exact key
  · simp only [List.append_assoc]
    refine ilv_agree (N := 256) h0 h1 r l _ _ _ 0 ?_ ?_
    · intro g c hg hc
      have := weave_group x (fun _ _ => (0 : ℝ)) l g c hc
      dsimp only [packedL]
      rw [if_pos (by omega), if_pos (by omega), zero_add, this.1, this.2]; exact ⟨rfl, rfl⟩
    refine ilv_agree (N := 256) h0 h1 r l _ _ _ _ ?_ ?_
    · intro g c hg hc
      have := weave_group x (fun _ _ => (0 : ℝ)) l g c hc
      dsimp only [packedL]
      rw [if_neg (by omega), if_pos (by omega), if_neg (by omega), if_pos (by omega), show 0 + 80 + 16 * g + c - 80 = 16 * g + c by omega,
        show 0 + 80 + 16 * g + 8 + c - 80 = 16 * g + 8 + c by omega, this.1, this.2]; exact ⟨rfl, rfl⟩
    refine ilv_agree (N := 256) h0 h2 r l _ _ _ _ ?_ ?_
    · intro g c hg hc
      have := weave_group x (fun _ _ => (0 : ℝ)) l g c hc
      dsimp only [packedL]
      rw [if_neg (by omega), if_neg (by omega), if_pos (by omega), if_neg (by omega), if_neg (by omega), if_pos (by omega), show 0 + 80 + 80 + 16 * g + c - 160 = 16 * g + c by omega,
        show 0 + 80 + 80 + 16 * g + 8 + c - 160 = 16 * g + 8 + c by omega, this.1, this.2]; exact ⟨rfl, rfl⟩
    refine ⟨fun c hc => ?_, trivial⟩
    dsimp only [packedL]
    rw [if_neg (by omega), if_neg (by omega), if_neg (by omega)]
    show Ideal.ofBits .f32 0#32 = _
    simp [Ideal.ofBits, Ideal.ieee]

/-- What is kept of a value state. -/
theorem vKeep_is {X : FVec Ideal S40x128 .f32} {x : ℕ → ℕ → ℝ} (h : Is X x) : Is3 (vKeep X) (packed x) := by
  intro r l
  have hs := pack_is h
  pointwise [vKeep]
  exact hs _ _

/-- What a chunk's slots carry: their weights of the writes, then their product with the kept state. -/
theorem carry_is {P U : FVec Ideal S40x128 .f32} {V : Vec Ideal S1x240x128 .bf16} {p u v : ℕ → ℕ → ℝ} (hp : Is P p) (hu : Is U u) (hv : Is3 V (packed v)) :
    Is (carry P U V) (fun r c => ∑ j ∈ Finset.range 40, p j r * (if c < 128 then u j c else v j (c - 128))) := by
  intro r l
  have h1 := packL_is hp
  have h2 := pack_is hu
  pointwise [carry]
  simp only [h1 _ _, h2 _ _, hv _ _]
  split_ifs with h
  · rw [← packed_dot]
    exact coe_dot (fun k => packedL p k r) (fun k => packed u k l)
  · rw [← packed_dot]
    exact coe_dot (fun k => packedL p k r) (fun k => packed v k (l - 128))

end Cert.KernelIdeal.Model

end
-- ==== Proof.Kern.Power.lean ====
/- The scale of a block of 64 rows, over the reals: the power of two above a 448th of the block's largest magnitude. -/
module

public import Mathlib.Analysis.SpecialFunctions.Log.Basic
public import Mathlib.Analysis.SpecialFunctions.Pow.Real

@[expose] public section

noncomputable section

namespace Cert.KernelIdeal.Model

/-- `A` is the largest magnitude of the block. -/
def IsMax (x : ℕ → ℕ → ℝ) (A : ℝ) : Prop :=
  (∀ r l, r < 64 → l < 128 → |x r l| ≤ A) ∧ ∃ r l, r < 64 ∧ l < 128 ∧ |x r l| = A

theorem IsMax.unique {x : ℕ → ℕ → ℝ} {A B : ℝ} (h : IsMax x A) (h' : IsMax x B) : A = B := by
  obtain ⟨h1, r, l, hr, hl, e⟩ := h
  obtain ⟨h1', r', l', hr', hl', e'⟩ := h'
  exact le_antisymm (e ▸ h1' r l hr hl) (e' ▸ h1 r' l' hr' hl')

/-- A 448th of `A`, 1/448 rounded to f32. -/
def part (A : ℝ) : ℝ := A * (9586981 * (2 : ℝ) ^ (-32 : ℤ))

/-- The scale for the largest magnitude `A`: the power of two above its 448th, and 1 where that 448th is below the least
    normal f32. -/
def scaleOf (A : ℝ) : ℝ :=
  if part A < (2 : ℝ) ^ (-126 : ℤ) then 1 else (2 : ℝ) ^ (⌊Real.log (part A) / Real.log 2⌋ + 1)

theorem scaleOf_low {A : ℝ} (h : part A < (2 : ℝ) ^ (-126 : ℤ)) : scaleOf A = 1 := if_pos h

theorem scaleOf_eq {A : ℝ} {n : ℤ} (hn : -126 ≤ n) (h0 : (2 : ℝ) ^ n ≤ part A) (h1 : part A < (2 : ℝ) ^ (n + 1)) :
    scaleOf A = (2 : ℝ) ^ (n + 1) := by
  have hl : 0 < Real.log 2 := Real.log_pos (by norm_num)
  have hp : 0 < part A := lt_of_lt_of_le (by positivity) h0
  have hle : (2 : ℝ) ^ (-126 : ℤ) ≤ (2 : ℝ) ^ n := zpow_le_zpow_right₀ (by norm_num) hn
  rw [scaleOf, if_neg (not_lt.2 (hle.trans h0))]
  congr 2
  rw [Int.floor_eq_iff, le_div_iff₀ hl, div_lt_iff₀ hl]
  constructor
  · rw [← Real.log_zpow]; exact Real.log_le_log (by positivity) h0
  · rw [show ((n : ℝ) + 1) = ((n + 1 : ℤ) : ℝ) by push_cast; ring, ← Real.log_zpow]; exact Real.log_lt_log hp h1

/-- `s` is the scale of the block. -/
def IsScale (x : ℕ → ℕ → ℝ) (s : ℝ) : Prop := ∃ A, IsMax x A ∧ s = scaleOf A

theorem IsScale.unique {x : ℕ → ℕ → ℝ} {s t : ℝ} (h : IsScale x s) (h' : IsScale x t) : s = t := by
  obtain ⟨A, hA, rfl⟩ := h
  obtain ⟨B, hB, rfl⟩ := h'
  rw [hA.unique hB]

end Cert.KernelIdeal.Model

end
-- ==== Proof.Kern.Bits.lean ====
/- The scale search: eight probes find the power of two below a positive real, and the power above it serves as a scale
   under which no block entry is clipped. -/
module

public import proofs.«01_k».proof.Proof.Kern.Model
public import proofs.«01_k».proof.Proof.Kern.Power
public import Idealize.ShloMosaic.Lib.WordCmp

@[expose] public section

noncomputable section

namespace Cert.KernelIdeal.Model

open Idealize.ShloMosaic Cert.KernelIdeal Cert.KernelIdeal.Gen

/-- The float whose biased exponent is `n` and whose fraction is zero. -/
def power (n : BitVec 32) : EReal := Ideal.ofBits .f32 (IntOp.shli .vector n 23#32)

theorem power_bits : ∀ n : Fin 256, ((IntOp.shli .vector (BitVec.ofNat 32 n) 23#32).extractLsb' 31 1 == 1#1) = false ∧
    ((IntOp.shli .vector (BitVec.ofNat 32 n) 23#32).extractLsb' 23 8).toNat = n ∧
    ((IntOp.shli .vector (BitVec.ofNat 32 n) 23#32).extractLsb' 0 23).toNat = 0 := by decide +kernel

/-- A pattern with sign zero, biased exponent `n` and fraction zero denotes a power of two. -/
theorem ieee_power {b : BitVec 32} {n : ℕ} (h1 : 1 ≤ n) (h2 : n ≤ 254) (ha : (b.extractLsb' 31 1 == 1#1) = false)
    (hb : (b.extractLsb' 23 8).toNat = n) (hc : (b.extractLsb' 0 23).toNat = 0) :
    Ideal.ieee 8 23 b = (((2 : ℝ) ^ ((n : ℤ) - 127) : ℝ) : EReal) := by
  unfold Ideal.ieee
  simp only [Nat.reduceAdd, ha, hb, hc]
  rw [if_neg (by norm_num; omega), if_neg (by omega)]
  refine congrArg _ ?_
  rw [if_neg (by simp), one_mul, show (((2 ^ 23 + 0 : ℕ)) : ℝ) = (2 : ℝ) ^ (23 : ℤ) by norm_num, ← zpow_add₀ (by norm_num)]
  refine congrArg _ ?_
  norm_num

theorem power_eq (n : ℕ) (h1 : 1 ≤ n) (h2 : n ≤ 254) : power (BitVec.ofNat 32 n) = (((2 : ℝ) ^ ((n : ℤ) - 127) : ℝ) : EReal) := by
  obtain ⟨a, b, c⟩ := power_bits ⟨n, by omega⟩
  exact ieee_power h1 h2 a b c

theorem power_255 : power (BitVec.ofNat 32 255) = ⊤ := by
  show Ideal.ieee 8 23 (IntOp.shli .vector (BitVec.ofNat 32 255) 23#32) = ⊤
  unfold Ideal.ieee
  simp only [show ((IntOp.shli .vector (BitVec.ofNat 32 255) 23#32).extractLsb' (8 + 23) 1 == 1#1) = false by decide +kernel,
    show ((IntOp.shli .vector (BitVec.ofNat 32 255) 23#32).extractLsb' 23 8).toNat = 255 by decide +kernel,
    show ((IntOp.shli .vector (BitVec.ofNat 32 255) 23#32).extractLsb' 0 23).toNat = 0 by decide +kernel]
  norm_num

/-- One probe at one entry. -/
def probe1 (a : EReal) (n b : BitVec 32) : BitVec 32 :=
  Scalar.select (FloatOps.cmpf (F := Ideal) (φ := .f32) .olt a (power (IntOp.addi b n))) b (IntOp.addi b n)

/-- The eight probes at one entry. -/
def biased1 (a : EReal) : BitVec 32 :=
  probe1 a 1#32 (probe1 a 2#32 (probe1 a 4#32 (probe1 a 8#32 (probe1 a 16#32 (probe1 a 32#32 (probe1 a 64#32 (probe1 a 128#32 0#32)))))))

/-- After the probes down to step `s`: the found power is at most `a`, and the next multiple of `s` is above it. -/
def Found (a : EReal) (s : ℕ) (b : BitVec 32) : Prop :=
  ∃ B : ℕ, b = BitVec.ofNat 32 B ∧ B + s ≤ 256 ∧ (B = 0 ∨ power (BitVec.ofNat 32 B) ≤ a) ∧ (B + s = 256 ∨ a < power (BitVec.ofNat 32 (B + s)))

theorem Found.step {a : EReal} {s : ℕ} {b : BitVec 32} (h : Found a (2 * s) b) : Found a s (probe1 a (BitVec.ofNat 32 s) b) := by
  obtain ⟨B, rfl, h1, h2, h3⟩ := h
  have hadd : IntOp.addi (BitVec.ofNat 32 B) (BitVec.ofNat 32 s) = BitVec.ofNat 32 (B + s) := by
    unfold IntOp.addi; rw [BitVec.ofNat_add]
  unfold probe1
  rw [hadd]
  by_cases hlt : a < power (BitVec.ofNat 32 (B + s))
  · refine ⟨B, ?_, by omega, h2, .inr hlt⟩
    have : FloatOps.cmpf (F := Ideal) (φ := .f32) .olt a (power (BitVec.ofNat 32 (B + s))) = 1#1 := by
      show Ideal.cmp .olt _ _ = _
      simp [Ideal.cmp, hlt]
    rw [this]; rfl
  · refine ⟨B + s, ?_, by omega, .inr (not_lt.1 hlt), ?_⟩
    · have : FloatOps.cmpf (F := Ideal) (φ := .f32) .olt a (power (BitVec.ofNat 32 (B + s))) = 0#1 := by
        show Ideal.cmp .olt _ _ = _
        simp [Ideal.cmp, hlt]
      rw [this]; rfl
    · rw [show B + s + s = B + 2 * s by ring]; exact h3

/-- What the eight probes find for a real `a`. -/
theorem biased1_spec (a : ℝ) : ∃ B : ℕ, biased1 (a : EReal) = BitVec.ofNat 32 B ∧ B ≤ 254 ∧
    (B = 0 ∨ (2 : ℝ) ^ ((B : ℤ) - 127) ≤ a) ∧ (B = 254 ∨ a < (2 : ℝ) ^ ((B : ℤ) - 126)) := by
  have h0 : Found (a : EReal) 256 (0#32) := ⟨0, rfl, le_rfl, .inl rfl, .inl rfl⟩
  have h := (((((((h0.step (s := 128)).step (s := 64)).step (s := 32)).step (s := 16)).step (s := 8)).step (s := 4)).step (s := 2)).step (s := 1)
  obtain ⟨B, hB, h1, h2, h3⟩ := h
  have hne : B ≠ 255 := by
    rintro rfl
    rcases h2 with h2 | h2
    · omega
    · rw [power_255] at h2
      exact absurd h2 (not_le.2 (EReal.coe_lt_top a))
  refine ⟨B, hB, by omega, ?_, ?_⟩
  · by_cases hz : B = 0
    · exact .inl hz
    · rcases h2 with h2 | h2
      · exact .inl h2
      · rw [power_eq B (by omega) (by omega)] at h2
        exact .inr (EReal.coe_le_coe_iff.1 h2)
  · by_cases hz : B = 254
    · exact .inl hz
    · rcases h3 with h3 | h3
      · omega
      · rw [power_eq (B + 1) (by omega) (by omega)] at h3
        have := EReal.coe_lt_coe_iff.1 h3
        rw [show ((B + 1 : ℕ) : ℤ) - 127 = (B : ℤ) - 126 by push_cast; ring] at this
        exact .inr this

/-- The exponent at one entry, of the block's largest magnitude `A`. -/
def expo1 (A : EReal) : BitVec 32 :=
  Scalar.select (FloatOps.cmpf (F := Ideal) (φ := .f32) .oeq A (Ideal.ofBits .f32 0#32)) 0#32
    (Scalar.select (IntOp.cmpi .eq (biased1 (A * Ideal.ofBits .f32 991054117#32)) 0#32) 0#32
      (IntOp.subi (biased1 (A * Ideal.ofBits .f32 991054117#32)) 126#32))

theorem scale_const : Ideal.ofBits .f32 991054117#32 = ((9586981 * (2 : ℝ) ^ (-32 : ℤ) : ℝ) : EReal) := by
  unfold Ideal.ofBits Ideal.ieee
  simp only [show ((991054117#32).extractLsb' (8 + 23) 1 == 1#1) = false by decide, show ((991054117#32).extractLsb' 23 8).toNat = 118 by decide,
    show ((991054117#32).extractLsb' 0 23).toNat = 1198373 by decide]
  norm_num

theorem exponent_words : ∀ B : Fin 247, 1 ≤ (B : ℕ) → IntOp.addi (BitVec.ofNat 32 B - 126#32) 127#32 = BitVec.ofNat 32 (B + 1) ∧
    IntOp.subi 127#32 (BitVec.ofNat 32 B - 126#32) = BitVec.ofNat 32 (253 - B) := by decide +kernel

/-- The scale and its inverse, at one entry. -/
theorem expo1_spec (A : ℝ) (h0 : 0 ≤ A) (hA : A ≤ (2 : ℝ) ^ 128) : ∃ s : ℝ, 0 < s ∧ A ≤ 448 * s ∧ s = scaleOf A ∧
    power (IntOp.addi (expo1 (A : EReal)) 127#32) = (s : EReal) ∧ power (IntOp.subi 127#32 (expo1 (A : EReal))) = ((s⁻¹ : ℝ) : EReal) := by
  have one : ∀ e : BitVec 32, e = 0#32 → power (IntOp.addi e 127#32) = ((1 : ℝ) : EReal) ∧ power (IntOp.subi 127#32 e) = (((1 : ℝ)⁻¹ : ℝ) : EReal) := by
    rintro e rfl
    have : power (BitVec.ofNat 32 127) = ((1 : ℝ) : EReal) := by rw [power_eq 127 (by omega) (by omega)]; norm_num
    rw [inv_one]
    exact ⟨this, this⟩
  by_cases hz : A = 0
  · subst hz
    refine ⟨1, one_pos, by norm_num, (scaleOf_low (by rw [part, zero_mul]; positivity)).symm, one _ ?_⟩
    unfold expo1
    have : FloatOps.cmpf (F := Ideal) (φ := .f32) .oeq ((0 : ℝ) : EReal) (Ideal.ofBits .f32 0#32) = 1#1 := by
      show Ideal.cmp .oeq _ _ = _
      simp [Ideal.cmp, Ideal.ofBits, Ideal.ieee]
    rw [this]; rfl
  · have hne : FloatOps.cmpf (F := Ideal) (φ := .f32) .oeq (A : EReal) (Ideal.ofBits .f32 0#32) = 0#1 := by
      show Ideal.cmp .oeq _ _ = _
      simp [Ideal.cmp, Ideal.ofBits, Ideal.ieee, hz]
    have hexp : expo1 (A : EReal) = Scalar.select (IntOp.cmpi .eq (biased1 ((A * (9586981 * (2 : ℝ) ^ (-32 : ℤ)) : ℝ) : EReal)) 0#32) 0#32
        (IntOp.subi (biased1 ((A * (9586981 * (2 : ℝ) ^ (-32 : ℤ)) : ℝ) : EReal)) 126#32) := by
      unfold expo1
      rw [hne, scale_const, ← EReal.coe_mul]; rfl
    obtain ⟨B, hB, hle, hlo, hhi⟩ := biased1_spec (A * (9586981 * (2 : ℝ) ^ (-32 : ℤ)))
    have hlow : B ≤ 246 := by
      rcases hlo with h | h
      · omega
      · by_contra hc
        have : (2 : ℝ) ^ (120 : ℤ) ≤ (2 : ℝ) ^ ((B : ℤ) - 127) := zpow_le_zpow_right₀ (by norm_num) (by omega)
        have h' := this.trans h
        have : A * (9586981 * (2 : ℝ) ^ (-32 : ℤ)) ≤ (2 : ℝ) ^ 128 * (9586981 * (2 : ℝ) ^ (-32 : ℤ)) := by
          apply mul_le_mul_of_nonneg_right hA; positivity
        have := h'.trans this
        norm_num at this
    have hhi : A * (9586981 * (2 : ℝ) ^ (-32 : ℤ)) < (2 : ℝ) ^ ((B : ℤ) - 126) := hhi.resolve_left (by omega)
    have hbound : A ≤ 448 * (2 : ℝ) ^ ((B : ℤ) - 126) := by
      have : A ≤ 448 * (A * (9586981 * (2 : ℝ) ^ (-32 : ℤ))) := by norm_num; nlinarith
      linarith
    rw [hB] at hexp
    by_cases hb : B = 0
    · subst hb
      refine ⟨1, one_pos, hbound.trans ?_, (scaleOf_low hhi).symm, one _ (by rw [hexp]; rfl)⟩
      have : (2 : ℝ) ^ (((0 : ℕ) : ℤ) - 126) ≤ (2 : ℝ) ^ (0 : ℤ) := zpow_le_zpow_right₀ (by norm_num) (by norm_num)
      rw [zpow_zero] at this
      linarith
    · have he : expo1 (A : EReal) = BitVec.ofNat 32 B - 126#32 := by
        rw [hexp]
        have : IntOp.cmpi .eq (BitVec.ofNat 32 B) 0#32 = 0#1 := by
          rw [WordCmp.cmpi_eq_eq]
          have : ¬ (BitVec.ofNat 32 B = 0#32) := by
            intro h; have := congrArg BitVec.toNat h; simp at this; omega
          simp [this]
        rw [this]; rfl
      have hs : (2 : ℝ) ^ ((B : ℤ) - 126) = scaleOf A := by
        rw [show (B : ℤ) - 126 = (B : ℤ) - 127 + 1 by ring] at hhi ⊢
        exact (scaleOf_eq (by omega) (hlo.resolve_left hb) hhi).symm
      refine ⟨(2 : ℝ) ^ ((B : ℤ) - 126), by positivity, hbound, hs, ?_, ?_⟩
      · rw [he, (exponent_words ⟨B, by omega⟩ (by dsimp only; omega)).1, power_eq _ (by omega) (by omega)]
        refine congrArg _ (congrArg _ ?_); push_cast; ring
      · rw [he, (exponent_words ⟨B, by omega⟩ (by dsimp only; omega)).2, power_eq _ (by dsimp only; omega) (by dsimp only; omega), ← zpow_neg]
        refine congrArg _ (congrArg _ ?_)
        push_cast [Nat.cast_sub (show B ≤ 253 by omega)]; ring

end Cert.KernelIdeal.Model

end
-- ==== Proof.Kern.Scale.lean ====
/- The scales over the extended reals: no block entry is clipped, so codes times scale give the block back. -/
module

public import proofs.«01_k».proof.Proof.Kern.Stage
public import proofs.«01_k».proof.Proof.Kern.Bits

@[expose] public section

set_option maxRecDepth 16384

noncomputable section

namespace Cert.KernelIdeal.Model

open Idealize.ShloMosaic Cert.KernelIdeal Cert.KernelIdeal.Gen

/-- The largest of finitely many reals, folded from the least extended real. -/
theorem fold_max {n : ℕ} (hn : 0 < n) (g : Fin n → ℝ) {b : EReal} (hb : b = ⊥) :
    ∃ m : ℝ, Finset.fold max b (fun x => ((g x : ℝ) : EReal)) Finset.univ = (m : EReal) ∧ (∀ x, g x ≤ m) ∧ ∃ x, g x = m := by
  subst hb
  obtain ⟨y, -, hy⟩ := Finset.exists_max_image Finset.univ g ⟨⟨0, hn⟩, Finset.mem_univ _⟩
  refine ⟨g y, le_antisymm ?_ ?_, fun x => hy x (Finset.mem_univ x), y, rfl⟩
  · exact (Finset.fold_max_le _).2 ⟨bot_le, fun x _ => EReal.coe_le_coe_iff.2 (hy x (Finset.mem_univ x))⟩
  · exact (Finset.le_fold_max _).2 (.inr ⟨y, Finset.mem_univ y, le_rfl⟩)

theorem bot32 : Ideal.ofBits .f32 4286578688#32 = ⊥ := by
  unfold Ideal.ofBits Ideal.ieee
  simp only [show ((4286578688#32).extractLsb' (8 + 23) 1 == 1#1) = true by decide, show ((4286578688#32).extractLsb' 23 8).toNat = 255 by decide,
    show ((4286578688#32).extractLsb' 0 23).toNat = 0 by decide]
  norm_num

theorem bot16 : Ideal.ofBits .bf16 65408#16 = ⊥ := by
  unfold Ideal.ofBits Ideal.ieee
  simp only [show ((65408#16).extractLsb' (8 + 7) 1 == 1#1) = true by decide, show ((65408#16).extractLsb' 7 8).toNat = 255 by decide,
    show ((65408#16).extractLsb' 0 7).toNat = 0 by decide]
  norm_num

theorem absf_coe (x : ℝ) : FloatOps.absf (F := Ideal) (φ := .bf16) ((x : ℝ) : EReal) = ((|x| : ℝ) : EReal) := by
  show max (x : EReal) (-(x : EReal)) = _
  rw [← EReal.coe_neg, coe_max]; rfl

/-- A lane's magnitude bounds the lane, and is bounded as the block is. -/
theorem amaxRow_spec {B : FVec Ideal S64x128 .bf16} {b : ℕ → ℕ → ℝ} (hb : Is B b) {M : ℝ} (hM : ∀ r l, r < 64 → l < 128 → |b r l| ≤ M) :
    ∃ a : ℕ → ℝ, (∀ l, l < 128 → (∀ r, r < 64 → |b r l| ≤ a l) ∧ a l ≤ M) ∧
      (∀ l, l < 128 → ∃ r, r < 64 ∧ |b r l| = a l) ∧ Is (amaxRow B) (fun _ l => a l) := by
  have key : ∀ l : Fin 128, ∃ m : ℝ, (∀ r : Fin 1, amaxRow B (ix2 r l) = (m : EReal)) ∧ (∀ r, r < 64 → |b r l| ≤ m) ∧ m ≤ M ∧
      ∃ r, r < 64 ∧ |b r l| = m := by
    intro l
    have h1 : ∀ x : Fin 16, ∃ m : ℝ, Finset.fold max (Ideal.ofBits FTy.bf16 65408#16) (fun y : Fin 4 => ((|b (y.val * 16 + x.val) l| : ℝ) : EReal)) Finset.univ = (m : EReal) ∧
        (∀ y : Fin 4, |b (y.val * 16 + x.val) l| ≤ m) ∧ ∃ y : Fin 4, |b (y.val * 16 + x.val) l| = m := fun x => fold_max (by norm_num) _ bot16
    choose g g1 g2 g3 using h1
    obtain ⟨m, m1, m2, x, m3⟩ := fold_max (by norm_num) g bot32
    refine ⟨m, fun r => ?_, fun r hr => ?_, ?_, ?_⟩
    · pointwise [amaxRow]
      simp only [hb _ _, absf_coe, g1, m1]
    · refine le_trans ?_ (m2 ⟨r % 16, by omega⟩)
      have := g2 ⟨r % 16, by omega⟩ ⟨r / 16, by omega⟩
      rwa [show r / 16 * 16 + r % 16 = r by omega] at this
    · obtain ⟨y, hy⟩ := g3 x
      rw [← m3, ← hy]
      exact hM _ _ (by omega) l.2
    · obtain ⟨y, hy⟩ := g3 x
      exact ⟨y.val * 16 + x.val, by omega, hy.trans m3⟩
  choose m h1 h2 h3 h4 using key
  refine ⟨fun l => if h : l < 128 then m ⟨l, h⟩ else 0, fun l hl => ?_, fun l hl => ?_, fun r l => ?_⟩
  · simp only [hl, dif_pos]
    exact ⟨h2 ⟨l, hl⟩, h3 ⟨l, hl⟩⟩
  · simp only [hl, dif_pos]
    exact h4 ⟨l, hl⟩
  · simp only [l.2, dif_pos]
    exact h1 l r

theorem probe_eq (a : FVec Ideal S96x128 .f32) (n : BitVec 32) (b : IVec S96x128 32) (i : S96x128.Idx) : probe a n b i = probe1 (a i) n (b i) := rfl

theorem biased_eq (a : FVec Ideal S96x128 .f32) (i : S96x128.Idx) : biased a i = biased1 (a i) := by
  unfold biased biased1
  simp only [probe_eq]
  rfl

theorem expo_eq (A : FVec Ideal S96x128 .f32) (r : Fin 96) (l : Fin 128) : expo A (ix2 r l) = expo1 (amaxAll A (ix2 r l)) := by
  show Scalar.select (FloatOps.cmpf (F := Ideal) (φ := .f32) .oeq (amaxAll A (ix2 r l)) (Ideal.ofBits .f32 0#32)) 0#32
    (Scalar.select (IntOp.cmpi .eq (biased (mulf (amaxAll A) (broadcast S96x128 (FloatOps.ofBits .f32 991054117#32))) (ix2 r l)) 0#32) 0#32
      (IntOp.subi (biased (mulf (amaxAll A) (broadcast S96x128 (FloatOps.ofBits .f32 991054117#32))) (ix2 r l)) 126#32)) = _
  rw [biased_eq]
  rfl

/-- The scales are positive reals, one per row: each is the scale of its row's largest entry, and lets no entry of its
    block be clipped. -/
theorem scales_spec {A : FVec Ideal S96x128 .f32} {a : ℕ → ℕ → ℝ} (ha : Is A a) (h0 : ∀ r l, r < 96 → l < 128 → 0 ≤ a r l ∧ a r l ≤ (2 : ℝ) ^ 128) :
    ∃ s : ℕ → ℝ, (∀ r, r < 96 → 0 < s r ∧ ∀ l, l < 128 → a r l ≤ 448 * s r) ∧
      (∀ r, r < 96 → ∃ x, x < 128 ∧ (∀ l, l < 128 → a r l ≤ a r x) ∧ s r = scaleOf (a r x)) ∧ Is (scaleAll A) (fun r _ => s r) ∧ Is (invAll A) (fun r _ => (s r)⁻¹) := by
  have key : ∀ r : Fin 96, ∃ s : ℝ, 0 < s ∧ (∀ l, l < 128 → a r l ≤ 448 * s) ∧
      (∃ x, x < 128 ∧ (∀ l, l < 128 → a r l ≤ a r x) ∧ s = scaleOf (a r x)) ∧ ∀ l : Fin 128, scaleAll A (ix2 r l) = (s : EReal) ∧ invAll A (ix2 r l) = ((s⁻¹ : ℝ) : EReal) := by
    intro r
    obtain ⟨m, m1, m2, x, m3⟩ := fold_max (n := 128) (by norm_num) (fun l => a r l) bot32
    have hm : ∀ l : Fin 128, amaxAll A (ix2 r l) = (m : EReal) := by
      intro l
      pointwise [amaxAll]
      simp only [ha _ _, m1]
    have hx := h0 r x r.2 x.2
    obtain ⟨s, s0, s1, s4, s2, s3⟩ := expo1_spec m (m3 ▸ hx.1) (m3 ▸ hx.2)
    refine ⟨s, s0, fun l hl => (m2 ⟨l, hl⟩).trans s1, ⟨x, x.2, fun l hl => (m2 ⟨l, hl⟩).trans m3.symm.le, by rw [m3]; exact s4⟩, fun l => ⟨?_, ?_⟩⟩
    · rw [← s2, ← hm l, ← expo_eq]
      pointwise [scaleAll]
      rfl
    · rw [← s3, ← hm l, ← expo_eq]
      pointwise [invAll]
      rfl
  choose s h1 h2 h4 h3 using key
  refine ⟨fun r => if h : r < 96 then s ⟨r, h⟩ else 0, fun r hr => ?_, fun r hr => ?_, fun r l => ?_, fun r l => ?_⟩
  · simp only [hr, dif_pos]
    exact ⟨h1 ⟨r, hr⟩, h2 ⟨r, hr⟩⟩
  · simp only [hr, dif_pos]
    exact h4 ⟨r, hr⟩
  · simp only [r.2, dif_pos]
    exact (h3 r l).1
  · simp only [r.2, dif_pos]
    exact (h3 r l).2

theorem top_const : Ideal.ofBits .f32 1138753536#32 = ((448 : ℝ) : EReal) := by
  unfold Ideal.ofBits Ideal.ieee
  simp only [show ((1138753536#32).extractLsb' (8 + 23) 1 == 1#1) = false by decide, show ((1138753536#32).extractLsb' 23 8).toNat = 135 by decide,
    show ((1138753536#32).extractLsb' 0 23).toNat = 6291456 by decide]
  norm_num

theorem low_const : Ideal.ofBits .f32 3286237184#32 = ((-448 : ℝ) : EReal) := by
  unfold Ideal.ofBits Ideal.ieee
  simp only [show ((3286237184#32).extractLsb' (8 + 23) 1 == 1#1) = true by decide, show ((3286237184#32).extractLsb' 23 8).toNat = 135 by decide,
    show ((3286237184#32).extractLsb' 0 23).toNat = 6291456 by decide]
  norm_num

/-- A block's codes are the block over its scale. -/
theorem code_is {B : FVec Ideal S64x128 .bf16} {V : FVec Ideal S1x128 .f32} {b : ℕ → ℕ → ℝ} {s : ℝ} (hb : Is B b) (hv : Is V (fun _ _ => s⁻¹))
    (h0 : 0 < s) (h1 : ∀ r l, r < 64 → l < 128 → |b r l| ≤ 448 * s) : Is4 (code B V) (fun r l => b r l * s⁻¹) := by
  intro r l
  pointwise [code]
  rw [hb, hv, top_const, low_const, ← EReal.coe_mul, coe_max, coe_min]
  refine congrArg _ ?_
  have h := abs_le.1 (h1 r l r.2 l.2)
  have e : b r l * s⁻¹ = b r l / s := rfl
  have h2 : b r l * s⁻¹ ≤ 448 := by rw [e, div_le_iff₀ h0]; exact h.2
  have h3 : -448 ≤ b r l * s⁻¹ := by rw [e, le_div_iff₀ h0]; linarith [h.1]
  rw [max_eq_right h3, min_eq_right h2]

end Cert.KernelIdeal.Model

end
-- ==== Proof.Kern.Out.lean ====
/- The outputs of a pair of chunks over the extended reals. -/
module

public import proofs.«01_k».proof.Proof.Kern.Pack
public import proofs.«01_k».proof.Proof.Kern.Scale

@[expose] public section

set_option maxRecDepth 16384

noncomputable section

namespace Cert.KernelIdeal.Model

open Idealize.ShloMosaic Cert.KernelIdeal Cert.KernelIdeal.Gen

theorem q2_is {H0 H1 : Vec Ideal S1x1x64x128 .fp8e4m3} {a b : ℕ → ℕ → ℝ} (ha : Is4 H0 a) (hb : Is4 H1 b) :
    Is (q2 H0 H1) (fun r d => if r < 64 then a r d else b (r - 64) d) := by
  intro r l
  pointwise [q2, sq]
  simp only [ha _ _, hb _ _]
  split_ifs <;> rfl

/-- The lane number modulo 64. -/
theorem mod_word : ∀ l : Fin 128, IntOp.andi (BitVec.ofNat 32 l) 63#32 = BitVec.ofNat 32 (l % 64) := by decide +kernel

theorem sle_word' {a b : ℕ} (ha : a < 256) (hb : b < 256) : IntOp.cmpi .sle (BitVec.ofNat 32 a) (BitVec.ofNat 32 b) = BitVec.ofBool (decide (a ≤ b)) :=
  WordCmp.cmpi_sle_ofNat (w := 32) (by norm_num; omega) (by norm_num; omega)

theorem att_is {K : Vec Ideal S1x1x64x128 .fp8e4m3} {Q : FVec Ideal S128x128 .fp8e4m3} {k q : ℕ → ℕ → ℝ} (hk : Is4 K k) (hq : Is Q q) :
    Is (att K Q) (fun s x => if s ≤ x % 64 then ∑ d ∈ Finset.range 128, k s d * q x d else 0) := by
  intro r l
  pointwise [att, lane63, lane, sq]
  rw [mod_word, sle_word' (by omega) (by omega)]
  simp only [hk _ _, hq _ _]
  rw [coe_dot (fun d => k r d) (fun d => q l d)]
  rw [Scalar.select_decide]
  split_ifs <;> rfl

theorem uStack_is {U : FVec Ideal S40x128 .f32} {S T : FVec Ideal S1x128 .f32} {u : ℕ → ℕ → ℝ} {s t : ℝ} (hu : Is U u)
    (hs : Is S (fun _ _ => s)) (ht : Is T (fun _ _ => t)) :
    Is (uStack U S T) (fun r l => (if r < 40 then u r l else 0) * (if l < 64 then s else t)) := by
  intro r l
  have h := stack_is hu
  pointwise [uStack, first, lane]
  simp only [h _ _, hs _ _, ht _ _, sel_lane]
  split_ifs <;> rw [← EReal.coe_mul]

theorem uWide_is {U : FVec Ideal S40x128 .f32} {S T : FVec Ideal S1x128 .f32} {u : ℕ → ℕ → ℝ} {s t : ℝ} (hu : Is U u)
    (hs : Is S (fun _ _ => s)) (ht : Is T (fun _ _ => t)) :
    Is (uWide U S T) (fun r l => (if r < 40 then u r (l % 128) else 0) * (if l % 128 < 64 then s else t)) := by
  intro r l
  have h := uStack_is hu hs ht
  pointwise [uWide]
  simp only [h _ _]
  by_cases h1 : (l : ℕ) < 128
  · rw [dif_pos h1, Nat.mod_eq_of_lt h1]
  · by_cases h2 : (l : ℕ) - 128 < 128
    · rw [dif_neg h1, dif_pos h2, show (l : ℕ) % 128 = l - 128 by omega]
    · rw [dif_neg h1, dif_neg h2, show (l : ℕ) % 128 = l - 128 - 128 by omega]

theorem attStack_is {A B : FVec Ideal S64x128 .f32} {a b : ℕ → ℕ → ℝ} (ha : Is A a) (hb : Is B b) :
    Is (attStack A B) (fun r c => if r < 128 then (if r < 64 then (if c < 128 then a r c else 0) else if c < 128 then 0 else b (r - 64) (c - 128)) else 0) := by
  intro r l
  have h0 := diag_is (A := bf (hi A)) (B := bf (hi B)) ha hb
  have h1 := diag_is (A := bf (mid A)) (B := bf (mid B)) (mid_is ha) (mid_is hb)
  have h2 := diag_is (A := bf (lo A)) (B := bf (lo B)) (lo_is ha) (lo_is hb)
  pointwise [attStack]
  simp only [h0 _ _, h1 _ _, h2 _ _]
  split_ifs <;> rfl

theorem kCat_is {A B : Vec Ideal S1x120x128 .bf16} {a b : ℕ → ℕ → ℝ} (ha : Is3 A a) (hb : Is3 B b) :
    Is (kCat A B) (fun r c => if c < 128 then a r c else b r (c - 128)) := by
  intro r l
  pointwise [kCat]
  simp only [ha _ _, hb _ _]
  split_ifs <;> rfl

theorem qDiag_is {A B : FVec Ideal S128x128 .fp8e4m3} {a b : ℕ → ℕ → ℝ} (ha : Is A a) (hb : Is B b) :
    Is (qDiag A B) (fun r c => if r < 128 then (if c < 128 then a r c else 0) else if c < 128 then 0 else b (r - 128) (c - 128)) := by
  intro r l
  pointwise [qDiag, z128]
  simp only [ha _ _, hb _ _]
  split_ifs <;> rfl

/-- The slots' products of a pair: those of each chunk's writes up to the step, and those of the state before the chunk. -/
theorem zPair_is {U : FVec Ideal S40x128 .f32} {S T : FVec Ideal S1x128 .f32} {A B : FVec Ideal S64x128 .f32} {P Q : FVec Ideal S128x128 .fp8e4m3}
    {K L : Vec Ideal S1x120x128 .bf16} {u a b p q k l : ℕ → ℕ → ℝ} {s t : ℝ} (hu : Is U u) (hs : Is S (fun _ _ => s)) (ht : Is T (fun _ _ => t))
    (ha : Is A a) (hb : Is B b) (hp : Is P p) (hq : Is Q q) (hk : Is3 K (fun r d => if r < 40 then k r d else 0))
    (hl : Is3 L (fun r d => if r < 40 then l r d else 0)) :
    Is (zPair U S T A B P Q K L) (fun r c => if c < 128
      then ∑ i ∈ Finset.range 64, u r i * (s * a i c) + ∑ d ∈ Finset.range 128, k r d * p c d
      else ∑ i ∈ Finset.range 64, u r (64 + i) * (t * b i (c - 128)) + ∑ d ∈ Finset.range 128, l r d * q (c - 128) d) := by
  intro r c
  have h1 := uWide_is hu hs ht
  have h2 := attStack_is ha hb
  have h3 := kCat_is hk hl
  have h4 := qDiag_is hp hq
  pointwise [zPair, sum3]
  simp only [row_dot h1 h2, row_dot' h3 h4, ← EReal.coe_add]
  refine congrArg _ ?_
  have hr := r.2
  simp only [show ∀ n : ℕ, ¬ (40 + n < 40) by omega, show ∀ n : ℕ, ¬ (80 + n < 40) by omega, hr, if_true, if_false, zero_mul, ite_self,
    Finset.sum_const_zero, add_zero]
  split_ifs with h
  · rw [sum_window (N := 384) (a := 0) (n := 64) (by norm_num) (fun i _ hi => by rcases hi with hi | hi <;> split_ifs <;> first | omega | simp),
      sum_window (N := 256) (a := 0) (n := 128) (by norm_num) (fun i _ hi => by rcases hi with hi | hi <;> split_ifs <;> first | omega | simp)]
    refine congrArg₂ (· + ·) ?_ ?_
    · refine Finset.sum_congr rfl fun i hi => ?_
      have := Finset.mem_range.1 hi
      rw [zero_add, Nat.mod_eq_of_lt (by omega), if_pos (by omega), if_pos (by omega), if_pos (by omega), mul_assoc]
    · refine Finset.sum_congr rfl fun i hi => ?_
      have := Finset.mem_range.1 hi
      rw [zero_add, if_pos (by omega), if_pos (by omega)]
  · rw [sum_window (N := 384) (a := 64) (n := 64) (by norm_num) (fun i _ hi => by rcases hi with hi | hi <;> split_ifs <;> first | omega | simp),
      sum_window (N := 256) (a := 128) (n := 128) (by norm_num) (fun i _ hi => by rcases hi with hi | hi <;> split_ifs <;> first | omega | simp)]
    refine congrArg₂ (· + ·) ?_ ?_
    · refine Finset.sum_congr rfl fun i hi => ?_
      have := Finset.mem_range.1 hi
      rw [Nat.mod_eq_of_lt (by omega), if_neg (by omega), if_pos (by omega), if_neg (by omega), mul_assoc, Nat.add_sub_cancel_left]
    · refine Finset.sum_congr rfl fun i hi => ?_
      have := Finset.mem_range.1 hi
      rw [if_neg (by omega), if_neg (by omega), Nat.add_sub_cancel_left]

theorem eb0_is {E : FVec Ideal S40x128 .f32} {e : ℕ → ℕ → ℝ} (he : Is E e) : Is (eb0 E) (fun r l => e r (l % 64)) := by
  intro r l
  pointwise [eb0, rolled, first40, first, lane]
  simp only [he _ _, sel_lane]
  split_ifs <;> congr 2 <;> omega

theorem eb1_is {E : FVec Ideal S40x128 .f32} {e : ℕ → ℕ → ℝ} (he : Is E e) : Is (eb1 E) (fun r l => e r (64 + l % 64)) := by
  intro r l
  pointwise [eb1, rolled, first40, first, lane]
  simp only [he _ _, sel_lane]
  split_ifs <;> congr 2 <;> omega

theorem scale_named : Named.named (F := Ideal) κ "log2e_scale" (φ := .f32) 1040356334#32 = (((Real.log 2)⁻¹ * (Real.sqrt 128)⁻¹ : ℝ) : EReal) := rfl

theorem logits_is {Z E : FVec Ideal S40x128 .f32} {S T : FVec Ideal S1x128 .f32} {z e : ℕ → ℕ → ℝ} {s t : ℝ} (hz : Is Z z) (he : Is E e)
    (hs : Is S (fun _ _ => s)) (ht : Is T (fun _ _ => t)) :
    Is (logits Z E S T) (fun r l => z r l * (e r l * ((if l < 64 then s else t) * ((Real.log 2)⁻¹ * (Real.sqrt 128)⁻¹)))) := by
  intro r l
  pointwise [logits, row40, first, lane]
  simp only [hz _ _, he _ _, hs _ _, ht _ _, sel_lane]
  rw [scale_named]
  split_ifs <;> rw [← EReal.coe_mul, ← EReal.coe_mul, ← EReal.coe_mul]

theorem pe_is {X E : FVec Ideal S40x128 .f32} {x e : ℕ → ℕ → ℝ} (hx : Is X x) (he : Is E e) :
    Is (pe X E) (fun r l => (2 : ℝ) ^ x r l / (∑ j ∈ Finset.range 40, (2 : ℝ) ^ x j l) * e r l) := by
  intro r l
  pointwise [pe, pex, psum, top, row40]
  simp only [hx _ _, he _ _]
  obtain ⟨m, m1, -, -⟩ := fold_max (n := 40) (by norm_num) (fun j => x j l) bot32
  simp only [m1]
  have e2 : ∀ j : ℕ, FloatOps.exp2 (F := Ideal) (φ := .f32) (((x j l : ℝ) : EReal) - (m : EReal)) = (((2 : ℝ) ^ x j l / (2 : ℝ) ^ m : ℝ) : EReal) := by
    intro j
    rw [← Real.rpow_sub (by norm_num), ← EReal.coe_sub]
    rfl
  simp only [e2]
  have hs : ∑ j : Fin 40, (((2 : ℝ) ^ x j l / (2 : ℝ) ^ m : ℝ) : EReal) = (((∑ j ∈ Finset.range 40, (2 : ℝ) ^ x j l) / (2 : ℝ) ^ m : ℝ) : EReal) := by
    rw [coe_sum, Finset.sum_range, Finset.sum_div]
  have hm : (0 : ℝ) < (2 : ℝ) ^ m := Real.rpow_pos_of_pos (by norm_num) m
  have hp : 0 < ∑ j ∈ Finset.range 40, (2 : ℝ) ^ x j l := Finset.sum_pos (fun j _ => Real.rpow_pos_of_pos (by norm_num) _) ⟨0, by simp⟩
  rw [hs, Ideal.div_coe (by positivity), ← EReal.coe_mul, ← EReal.coe_mul]
  refine congrArg _ ?_
  field_simp

theorem mm_is {A B : FVec Ideal S128x256 .f32} {a b : ℕ → ℕ → ℝ} (ha : Is A a) (hb : Is B b) :
    Is (mm A B) (fun r c => if c % 64 ≤ r % 64 then (if c < 64 then a r c else b r c) else 0) := by
  intro r l
  pointwise [mm, left, right, lane63, lane, first]
  rw [mod_word, mod_word, sle_word' (by omega) (by omega)]
  simp only [ha _ _, hb _ _, sel_lane]
  rw [Scalar.select_decide]
  split_ifs <;> rfl

theorem mWide_is {M : FVec Ideal S128x128 .f32} {m : ℕ → ℕ → ℝ} (hm : Is M m) : Is (mWide M) (fun r k => if k < 128 then m r k else 0) := by
  intro r l
  have h0 : Is (hi (F := Ideal) M) m := hm
  have h1 := mid_is hm
  have h2 := lo_is hm
  pointwise [mWide, bf]
  simp only [h0 _ _, h1 _ _, h2 _ _]
  split_ifs <;> rfl

theorem vTall_is {C : Vec Ideal S1x1x128x128 .bf16} {v : ℕ → ℕ → ℝ} (hv : Is4 C v) :
    Is (vTall C) (fun k c => if k % 128 < 64 then (if c < 128 then v (k % 128) c else 0) else if c < 128 then 0 else v (k % 128) (c - 128)) := by
  intro r l
  have hd := diagOf_is (X := shapeCast S128x128 C shapeCasts_S1x1x128x128_S128x128) (x := v) (by intro r l; pointwise; exact hv _ _)
  pointwise [vTall]
  simp only [hd _ _]
  by_cases h1 : (r : ℕ) < 128
  · rw [dif_pos h1, Nat.mod_eq_of_lt h1]
  · by_cases h2 : (r : ℕ) - 128 < 128
    · rw [dif_neg h1, dif_pos h2, show (r : ℕ) % 128 = r - 128 by omega]
    · rw [dif_neg h1, dif_neg h2, show (r : ℕ) % 128 = r - 128 - 128 by omega]

theorem oPair_is {M : FVec Ideal S128x128 .f32} {C : Vec Ideal S1x1x128x128 .bf16} {m v : ℕ → ℕ → ℝ} (hm : Is M m) (hv : Is4 C v) :
    Is (oPair M C) (fun r c => if c < 128 then ∑ i ∈ Finset.range 64, m r i * v i c
      else ∑ i ∈ Finset.range 64, m r (64 + i) * v (64 + i) (c - 128)) := by
  intro r l
  pointwise [oPair]
  rw [row_dot (mWide_is hm) (vTall_is hv)]
  refine congrArg _ ?_
  split_ifs with h
  · rw [sum_window (N := 384) (a := 0) (n := 64) (by norm_num) (fun i _ hi => by rcases hi with hi | hi <;> split_ifs <;> first | omega | simp)]
    refine Finset.sum_congr rfl fun i hi => ?_
    have := Finset.mem_range.1 hi
    rw [zero_add, if_pos (by omega), Nat.mod_eq_of_lt (by omega), if_pos (by omega)]
  · rw [sum_window (N := 384) (a := 64) (n := 64) (by norm_num) (fun i _ hi => by rcases hi with hi | hi <;> split_ifs <;> first | omega | simp)]
    refine Finset.sum_congr rfl fun i hi => ?_
    have := Finset.mem_range.1 hi
    rw [if_pos (by omega), Nat.mod_eq_of_lt (by omega), if_neg (by omega)]

theorem out0_is {O C : FVec Ideal S128x256 .f32} {o c : ℕ → ℕ → ℝ} (ho : Is O o) (hc : Is C c) : Is (out0 O C) (fun r d => o r d + c r (128 + d)) := by
  intro r l
  pointwise [out0, bf, left, right]
  simp only [ho _ _, hc _ _]
  rfl

theorem out1_is {O C : FVec Ideal S128x256 .f32} {o c : ℕ → ℕ → ℝ} (ho : Is O o) (hc : Is C c) : Is (out1 O C) (fun r d => o r (128 + d) + c r (128 + d)) := by
  intro r l
  pointwise [out1, bf, left, right]
  simp only [ho _ _, hc _ _]
  rfl

theorem head0_is {X : FVec Ideal S128x128 .bf16} {x : ℕ → ℕ → ℝ} (h : Is X x) : Is4 (head0 X) x := by
  intro r l
  pointwise [head0]
  rw [h]

theorem head1_is {X : FVec Ideal S128x128 .bf16} {x : ℕ → ℕ → ℝ} (h : Is X x) : Is4 (head1 X) (fun r d => x (64 + r) d) := by
  intro r l
  pointwise [head1]
  rw [h]

end Cert.KernelIdeal.Model

end
-- ==== Proof.Kern.Quant.lean ====
/- The codes and the scales: whatever power of two a block's scale is, its codes times it are the block. -/
module

public import proofs.«01_k».proof.Proof.Kern.Load
public import proofs.«01_k».proof.Proof.Kern.Out

@[expose] public section

set_option maxRecDepth 16384

noncomputable section

namespace Cert.KernelIdeal.Model

open Idealize.ShloMosaic Cert.KernelIdeal Cert.KernelIdeal.Gen

variable {E : Env Ideal} (I : Inputs E)

/-- A chunk read through the slice of its head. -/
theorem chunk_read {X : S1x1x64x128.Idx → EReal} {x : ℕ → ℕ → ℝ} (h : Is4 X x) (c : Fin 32) (e : (r64 c).toLoadRect.shape.numel = (lift64 c).shape.numel) :
    Is (shapeCast S64x128 (LoadRect.valAlong (lr := (r64 c).toLoadRect) (LR := lift64 c) e (X : (lift64 c).shape.Idx → EReal)) shapeCasts_S64x128_S64x128) x := by
  intro r l
  show shapeCast S64x128 (shapeCast S64x128 X (by decide)) shapeCasts_S64x128_S64x128 (ix2 r l) = _
  pointwise
  exact h _ _

/-- Chunk `c` of the queries of head `h`. -/
theorem qBlk_is (h : Fin 2) (c : Fin 32) : Is (qBlk E h c) (fun r d => I.q h (64 * c + r) d) := by
  refine chunk_read (X := View.readAt (Elt Ideal) E.a2.view ((rHead h).withinL (lift64 c) (fun _ => rfl)) (E.h2.unread E.x0)) ?_ c (lift64_numel c)
  intro r l
  show E.a2.view.read (Elt Ideal) (E.h2.unread E.x0) (((rHead h).withinL (lift64 c) (fun _ => rfl)).idx _) = _
  rw [E.h2.read_unread]
  refine Eq.trans (congrArg E.x0 ?_) (I.hq h ⟨64 * c + r, by omega⟩ l)
  funext a
  fin_cases a
  · rfl
  · exact Fin.ext (show h.val + 0 + 1 * 0 = h.val by omega)
  · exact Fin.ext (show 0 + 64 * c.val + 1 * r.val = 64 * c.val + r.val by omega)
  · exact Fin.ext (show 0 + 0 + 1 * l.val = l.val by omega)

/-- Chunk `c` of the keys. -/
theorem kBlk_is (c : Fin 32) : Is (kBlk E c) (fun r d => I.k (64 * c + r) d) := by
  refine chunk_read (X := View.readAt (Elt Ideal) E.a3.view (rHeadK.withinL (lift64 c) (fun _ => rfl)) (E.h3.unread E.x1)) ?_ c (lift64_numel c)
  intro r l
  show E.a3.view.read (Elt Ideal) (E.h3.unread E.x1) ((rHeadK.withinL (lift64 c) (fun _ => rfl)).idx _) = _
  rw [E.h3.read_unread]
  refine Eq.trans (congrArg E.x1 ?_) (I.hk ⟨64 * c + r, by omega⟩ l)
  funext a
  fin_cases a
  · rfl
  · rfl
  · exact Fin.ext (show 0 + 64 * c.val + 1 * r.val = 64 * c.val + r.val by omega)
  · exact Fin.ext (show 0 + 0 + 1 * l.val = l.val by omega)

/-- The magnitudes bound their blocks, and each is one of its block. -/
theorem amax_spec : ∃ a : ℕ → ℕ → ℝ, (∀ h c r l, h < 2 → c < 32 → r < 64 → l < 128 → |I.q h (64 * c + r) l| ≤ a (32 * h + c) l) ∧
    (∀ c r l, c < 32 → r < 64 → l < 128 → |I.k (64 * c + r) l| ≤ a (64 + c) l) ∧
    (∀ h c l, h < 2 → c < 32 → l < 128 → ∃ r, r < 64 ∧ |I.q h (64 * c + r) l| = a (32 * h + c) l) ∧
    (∀ c l, c < 32 → l < 128 → ∃ r, r < 64 ∧ |I.k (64 * c + r) l| = a (64 + c) l) ∧
    (∀ r l, r < 96 → l < 128 → 0 ≤ a r l ∧ a r l ≤ (2 : ℝ) ^ 128) ∧ Is (amax E (amaxL E)) a := by
  have hQ := fun (h : Fin 2) (c : Fin 32) => amaxRow_spec (qBlk_is I h c) (M := (2 : ℝ) ^ 128) fun r l hr hl => I.bq h _ l h.2 (by omega) hl
  have hK := fun (c : Fin 32) => amaxRow_spec (kBlk_is I c) (M := (2 : ℝ) ^ 128) fun r l hr hl => I.bk _ l (by omega) hl
  choose aq hq1 hq3 hq2 using hQ
  choose ak hk1 hk3 hk2 using hK
  let a : ℕ → ℕ → ℝ := fun r l => if r < 32 then aq 0 (Fin.ofNat 32 r) l else if r < 64 then aq 1 (Fin.ofNat 32 (r - 32)) l else ak (Fin.ofNat 32 (r - 64)) l
  have e0 : ∀ (c : Fin 32) l, a (rowQ 0 c) l = aq 0 c l := fun c l => by
    have h : (rowQ 0 c).val = c.val := by simp [rowQ]
    simp only [a, h, c.2, if_true]; congr 1; exact Fin.ext (Nat.mod_eq_of_lt c.2)
  have e1 : ∀ (c : Fin 32) l, a (rowQ 1 c) l = aq 1 c l := fun c l => by
    have h : (rowQ 1 c).val = 32 + c.val := by simp [rowQ]
    simp only [a, h]; rw [if_neg (by omega), if_pos (by omega)]; congr 1; exact Fin.ext ((congrArg (· % 32) (Nat.add_sub_cancel_left ..)).trans (Nat.mod_eq_of_lt c.2))
  have e2 : ∀ (c : Fin 32) l, a (rowK c) l = ak c l := fun c l => by
    have h : (rowK c).val = 64 + c.val := rfl
    simp only [a, h]; rw [if_neg (by omega), if_neg (by omega)]; congr 1; exact Fin.ext ((congrArg (· % 32) (Nat.add_sub_cancel_left ..)).trans (Nat.mod_eq_of_lt c.2))
  have b0 : ∀ h c r l, h < 2 → c < 32 → r < 64 → l < 128 → |I.q h (64 * c + r) l| ≤ a (32 * h + c) l := fun h c r l hh hc hr hl => by
    rcases (by omega : h = 0 ∨ h = 1) with rfl | rfl
    · have := e0 ⟨c, hc⟩ l
      simp only [rowQ] at this
      exact ((hq1 0 ⟨c, hc⟩ l hl).1 r hr).trans this.symm.le
    · have := e1 ⟨c, hc⟩ l
      simp only [rowQ] at this
      exact ((hq1 1 ⟨c, hc⟩ l hl).1 r hr).trans this.symm.le
  have b1 : ∀ c r l, c < 32 → r < 64 → l < 128 → |I.k (64 * c + r) l| ≤ a (64 + c) l := fun c r l hc hr hl => by
    have := e2 ⟨c, hc⟩ l
    simp only [rowK] at this
    exact ((hk1 ⟨c, hc⟩ l hl).1 r hr).trans this.symm.le
  have b2 : ∀ h c l, h < 2 → c < 32 → l < 128 → ∃ r, r < 64 ∧ |I.q h (64 * c + r) l| = a (32 * h + c) l := fun h c l hh hc hl => by
    rcases (by omega : h = 0 ∨ h = 1) with rfl | rfl
    · obtain ⟨r, hr, e⟩ := hq3 0 ⟨c, hc⟩ l hl
      have := e0 ⟨c, hc⟩ l
      simp only [rowQ] at this
      exact ⟨r, hr, e.trans this.symm⟩
    · obtain ⟨r, hr, e⟩ := hq3 1 ⟨c, hc⟩ l hl
      have := e1 ⟨c, hc⟩ l
      simp only [rowQ] at this
      exact ⟨r, hr, e.trans this.symm⟩
  have b3 : ∀ c l, c < 32 → l < 128 → ∃ r, r < 64 ∧ |I.k (64 * c + r) l| = a (64 + c) l := fun c l hc hl => by
    obtain ⟨r, hr, e⟩ := hk3 ⟨c, hc⟩ l hl
    have := e2 ⟨c, hc⟩ l
    simp only [rowK] at this
    exact ⟨r, hr, e.trans this.symm⟩
  refine ⟨a, b0, b1, b2, b3, fun r l hr hl => ?_, ?_⟩
  · by_cases h1 : r < 32
    · have e := e0 ⟨r, h1⟩ l
      simp only [rowQ] at e
      rw [show 32 * ((0 : Fin 2) : ℕ) + r = r by simp] at e
      exact ⟨(abs_nonneg _).trans ((hq1 0 ⟨r, h1⟩ l hl).1 0 (by norm_num)) |>.trans e.symm.le, e.le.trans (hq1 0 ⟨r, h1⟩ l hl).2⟩
    · by_cases h2 : r < 64
      · have e := e1 ⟨r - 32, by omega⟩ l
        simp only [rowQ] at e
        rw [show 32 * ((1 : Fin 2) : ℕ) + (r - 32) = r by simp; omega] at e
        exact ⟨(abs_nonneg _).trans ((hq1 1 ⟨r - 32, by omega⟩ l hl).1 0 (by norm_num)) |>.trans e.symm.le, e.le.trans (hq1 1 ⟨r - 32, by omega⟩ l hl).2⟩
      · have e := e2 ⟨r - 64, by omega⟩ l
        simp only [rowK] at e
        rw [show 64 + (r - 64) = r by omega] at e
        exact ⟨(abs_nonneg _).trans ((hk1 ⟨r - 64, by omega⟩ l hl).1 0 (by norm_num)) |>.trans e.symm.le, e.le.trans (hk1 ⟨r - 64, by omega⟩ l hl).2⟩
  · intro r l
    unfold amax
    rw [View.readCov_eq_canon']
    have piece : ∀ (n : Fin 96) (X : FVec Ideal S1x128 .f32) (x : ℕ → ℝ), Is X (fun _ l => x l) → (∀ l, a n l = x l) → ∀ z : (rS n).shape.Idx,
        X z = (fun y : S96x128.Idx => ((a (y 0) (y 1) : ℝ) : EReal)) ((rS n).emb z) := fun n X x hX hx z => by
      obtain ⟨r, l, rfl⟩ := eq_ix2 (n := 1) (m := 128) z
      refine (hX r l).trans ?_
      show _ = ((a (n + 1 * r) (0 + 1 * l) : ℝ) : EReal)
      rw [show n.val + 1 * r.val = n by omega, zero_add, one_mul, hx]
    have cover : ∀ n : Fin 96, n.val = r.val → rAll.toLoadRect.idx (ix2 r l) ∈ (rS n).set := fun n hn => by
      rw [rS, Rect.mem_set_unit]
      intro a
      fin_cases a <;> simp [rAll] <;> omega
    refine (View.canon_apply_of_pieces (Val := Elt Ideal) (fun y : S96x128.Idx => ((a (y 0) (y 1) : ℝ) : EReal)) _ ?_ _ ?_).trans ?_
    · intro p hp
      rcases List.mem_append.1 hp with hp | hp
      · rcases List.mem_append.1 hp with hp | hp
        · obtain ⟨c, -, rfl⟩ := List.mem_map.1 hp
          exact piece _ _ _ (hk2 c) (e2 c)
        · obtain ⟨c, -, rfl⟩ := List.mem_map.1 hp
          exact piece _ _ _ (hq2 1 c) (e1 c)
      · obtain ⟨c, -, rfl⟩ := List.mem_map.1 hp
        exact piece _ _ _ (hq2 0 c) (e0 c)
    · by_cases h1 : r.val < 32
      · exact ⟨_, List.mem_append_right _ (List.mem_map.2 ⟨⟨r, h1⟩, mem32 _, rfl⟩), cover _ (by simp [rowQ])⟩
      · by_cases h2 : r.val < 64
        · exact ⟨_, List.mem_append_left _ (List.mem_append_right _ (List.mem_map.2 ⟨⟨r - 32, by omega⟩, mem32 _, rfl⟩)), cover _ (by simp [rowQ]; omega)⟩
        · exact ⟨_, List.mem_append_left _ (List.mem_append_left _ (List.mem_map.2 ⟨⟨r - 64, by omega⟩, mem32 _, rfl⟩)), cover _ (by simp [rowK]; omega)⟩
    · show ((a (0 + 1 * r) (0 + 1 * l) : ℝ) : EReal) = _
      rw [zero_add, zero_add, one_mul, one_mul]

/-- The scale of every row: positive, the scale of its block, no block beyond 448 of its own, stored and read back with
    its inverse. -/
structure Scales (I : Inputs E) where
  s : ℕ → ℝ
  pos : ∀ r, r < 96 → 0 < s r
  bq : ∀ h c r l, h < 2 → c < 32 → r < 64 → l < 128 → |I.q h (64 * c + r) l| ≤ 448 * s (32 * h + c)
  bk : ∀ c r l, c < 32 → r < 64 → l < 128 → |I.k (64 * c + r) l| ≤ 448 * s (64 + c)
  scq : ∀ h c, h < 2 → c < 32 → IsScale (fun r l => I.q h (64 * c + r) l) (s (32 * h + c))
  sck : ∀ c, c < 32 → IsScale (fun r l => I.k (64 * c + r) l) (s (64 + c))
  all : Is (scaleAll (amax E (amaxL E))) (fun r _ => s r)
  hs : ∀ r : Fin 96, Is (sc E (scL E (amaxL E)) r) (fun _ _ => s r)
  hi : ∀ r : Fin 96, Is (iv E (ivL E (amaxL E)) r) (fun _ _ => (s r)⁻¹)

/-- One whole piece of a scale scratch, read back by a row. -/
theorem row_read (v : Memref sig .tc .vmem S96x128 .f32) {X : FVec Ideal S96x128 .f32} {x : ℕ → ℝ} (h : Is X (fun r _ => x r)) (n : Fin 96) :
    Is (v.view.readCov ([⟨rAll, X⟩] : List (View.Piece (Elt Ideal) S96x128 .f32)) (rS n).toLoadRect) (fun _ _ => x n) := by
  intro r l
  have e : View.canon ([⟨rAll, X⟩] : List (View.Piece (Elt Ideal) S96x128 .f32)) = X :=
    View.canon_unit_zero (by funext a; fin_cases a <;> rfl) _ _
  rw [View.readCov_eq_canon', e]
  refine Eq.trans (congrArg X ?_) (h n l)
  funext a
  fin_cases a
  · exact Fin.ext (show n.val + 1 * r.val = n by omega)
  · exact Fin.ext (show 0 + 1 * l.val = l by omega)

theorem scales_exist : Nonempty (Scales I) := by
  obtain ⟨a, h1, h2, h5, h6, h3, h4⟩ := amax_spec I
  obtain ⟨s, s1, s4, s2, s3⟩ := scales_spec h4 h3
  refine ⟨⟨s, fun r hr => (s1 r hr).1, fun h c r l hh hc hr hl => (h1 h c r l hh hc hr hl).trans ((s1 _ (by omega)).2 l hl),
    fun c r l hc hr hl => (h2 c r l hc hr hl).trans ((s1 _ (by omega)).2 l hl), fun h c hh hc => ?_, fun c hc => ?_, s2, row_read E.a17 s2, row_read E.a18 s3⟩⟩
  · obtain ⟨x, hx, m1, m2⟩ := s4 (32 * h + c) (by omega)
    obtain ⟨r, hr, e⟩ := h5 h c x hh hc hx
    exact ⟨_, ⟨fun r l hr hl => (h1 h c r l hh hc hr hl).trans (m1 l hl), r, x, hr, hx, e⟩, m2⟩
  · obtain ⟨x, hx, m1, m2⟩ := s4 (64 + c) (by omega)
    obtain ⟨r, hr, e⟩ := h6 c x hc hx
    exact ⟨_, ⟨fun r l hr hl => (h2 c r l hc hr hl).trans (m1 l hl), r, x, hr, hx, e⟩, m2⟩

end Cert.KernelIdeal.Model

end
-- ==== Proof.Kern.Codes.lean ====
/- The codes read back: each block over its scale. -/
module

public import proofs.«01_k».proof.Proof.Kern.Quant

@[expose] public section

set_option maxRecDepth 16384

noncomputable section

namespace Cert.KernelIdeal.Model

open Idealize.ShloMosaic Cert.KernelIdeal Cert.KernelIdeal.Gen

variable {E : Env Ideal} {I : Inputs E} (S : Scales I)

/-- The key codes as stored. -/
def kcQ (E : Env Ideal) : List (View.Piece (Elt Ideal) S1x1x2048x128 .fp8e4m3) := kcL E (ivL E (amaxL E))
/-- The query codes as stored. -/
def qcQ (E : Env Ideal) : List (View.Piece (Elt Ideal) S1x2x2048x128 .fp8e4m3) := qcL E (ivL E (amaxL E))

/-- The key codes at any step. -/
theorem kc_canon (t : Fin 2048) (d : Fin 128) :
    View.canon (Val := Elt Ideal) (kcQ E) (ix4 0 0 t d) = ((I.k t d * (S.s (64 + t / 64))⁻¹ : ℝ) : EReal) := by
  refine (View.canon_apply_of_pieces (Val := Elt Ideal) (e := .fp8e4m3) (fun y : S1x1x2048x128.Idx => ((I.k (y 2) (y 3) * (S.s (64 + (y 2).val / 64))⁻¹ : ℝ) : EReal)) _ ?_ _ ?_)
  · intro p hp x
    obtain ⟨c, -, rfl⟩ := List.mem_map.1 hp
    obtain ⟨r, l, rfl⟩ := eq_ix4 (n := 64) (m := 128) x
    refine (code_is (kBlk_is I c) (S.hi (rowK c)) (S.pos _ (rowK c).2) (fun r l hr hl => S.bk c r l c.2 hr hl) r l).trans ?_
    show _ = ((I.k (64 * c + 1 * r) (0 + 1 * l) * (S.s (64 + (64 * c + 1 * r) / 64))⁻¹ : ℝ) : EReal)
    rw [one_mul, zero_add, one_mul, show (64 * c.val + r.val) / 64 = c by omega]
    rfl
  · refine ⟨_, List.mem_map.2 ⟨⟨t.val / 64, by omega⟩, mem32 _, rfl⟩, ?_⟩
    show _ ∈ (rK ⟨t.val / 64, _⟩).set
    rw [rK, Rect.mem_set_unit]
    intro a
    fin_cases a <;> simp <;> omega

/-- The query codes at any head and step. -/
theorem qc_canon (h : Fin 2) (t : Fin 2048) (d : Fin 128) :
    View.canon (Val := Elt Ideal) (qcQ E) (ix4 0 h t d) = ((I.q h t d * (S.s (32 * h + t / 64))⁻¹ : ℝ) : EReal) := by
  have piece : ∀ (h : Fin 2) (c : Fin 32) (x : (rQ h c).shape.Idx), code (qBlk E h c) (iv E (ivL E (amaxL E)) (rowQ h c)) x =
      (fun y : S1x2x2048x128.Idx => ((I.q (y 1) (y 2) (y 3) * (S.s (32 * (y 1).val + (y 2).val / 64))⁻¹ : ℝ) : EReal)) ((rQ h c).emb x) := fun h c x => by
    obtain ⟨r, l, rfl⟩ := eq_ix4 (n := 64) (m := 128) x
    refine (code_is (qBlk_is I h c) (S.hi (rowQ h c)) (S.pos _ (rowQ h c).2) (fun r l hr hl => S.bq h c r l h.2 c.2 hr hl) r l).trans ?_
    show _ = ((I.q (h + 1 * 0) (64 * c + 1 * r) (0 + 1 * l) * (S.s (32 * (h + 1 * 0) + (64 * c + 1 * r) / 64))⁻¹ : ℝ) : EReal)
    simp only [mul_zero, add_zero, one_mul, zero_add]
    rw [show (64 * c.val + r.val) / 64 = c by omega]
    rfl
  have cover : ∀ h' : Fin 2, h' = h → (ix4 0 h t d : S1x2x2048x128.Idx) ∈ (rQ h' ⟨t.val / 64, by omega⟩).set := fun h' e => by
    subst e
    rw [rQ, Rect.mem_set_unit]
    intro a
    fin_cases a <;> simp <;> omega
  refine (View.canon_apply_of_pieces (Val := Elt Ideal) (e := .fp8e4m3) (fun y : S1x2x2048x128.Idx => ((I.q (y 1) (y 2) (y 3) * (S.s (32 * (y 1).val + (y 2).val / 64))⁻¹ : ℝ) : EReal)) _ ?_ _ ?_)
  · intro p hp
    rcases List.mem_append.1 hp with hp | hp
    · obtain ⟨c, -, rfl⟩ := List.mem_map.1 hp
      exact piece 1 c
    · obtain ⟨c, -, rfl⟩ := List.mem_map.1 hp
      exact piece 0 c
  · rcases (by omega : h = 0 ∨ h = 1) with e | e
    · exact ⟨_, List.mem_append_right _ (List.mem_map.2 ⟨⟨t.val / 64, by omega⟩, mem32 _, rfl⟩), cover 0 e.symm⟩
    · exact ⟨_, List.mem_append_left _ (List.mem_map.2 ⟨⟨t.val / 64, by omega⟩, mem32 _, rfl⟩), cover 1 e.symm⟩

/-- The key codes of a pair of chunks. -/
theorem kc2_is (i : Fin 16) : Is4 (kc2 E (kcQ E) i) (fun r d => I.k (128 * i + r) d * (S.s (64 + (128 * i + r) / 64))⁻¹) := by
  intro r l
  unfold kc2
  rw [View.readCov_eq_canon']
  refine Eq.trans (congrArg _ ?_) (kc_canon S ⟨128 * i + r, by omega⟩ l)
  funext a
  fin_cases a
  · rfl
  · rfl
  · exact Fin.ext (show 128 * i.val + 1 * r.val = 128 * i.val + r.val by omega)
  · exact Fin.ext (show 0 + 1 * l.val = l.val by omega)

/-- The key codes of a chunk. -/
theorem kc1_is (c : Fin 32) : Is4 (E.a11.view.readCov (kcQ E) (rK c).toLoadRect) (fun r d => I.k (64 * c + r) d * (S.s (64 + c))⁻¹) := by
  intro r l
  rw [View.readCov_eq_canon']
  refine Eq.trans (congrArg _ ?_) ((kc_canon S ⟨64 * c + r, by omega⟩ l).trans ?_)
  · funext a
    fin_cases a
    · rfl
    · rfl
    · exact Fin.ext (show 64 * c.val + 1 * r.val = 64 * c.val + r.val by omega)
    · exact Fin.ext (show 0 + 1 * l.val = l.val by omega)
  · show ((I.k (64 * c + r) l * (S.s (64 + (64 * c + r) / 64))⁻¹ : ℝ) : EReal) = _
    rw [show (64 * c.val + r.val) / 64 = c by omega]

/-- The query codes of a chunk of one head. -/
theorem qc1_is (h : Fin 2) (c : Fin 32) : Is4 (E.a9.view.readCov (qcQ E) (rQ h c).toLoadRect) (fun r d => I.q h (64 * c + r) d * (S.s (32 * h + c))⁻¹) := by
  intro r l
  rw [View.readCov_eq_canon']
  refine Eq.trans (congrArg _ ?_) ((qc_canon S h ⟨64 * c + r, by omega⟩ l).trans ?_)
  · funext a
    fin_cases a
    · rfl
    · exact Fin.ext (show h.val + 1 * 0 = h.val by omega)
    · exact Fin.ext (show 64 * c.val + 1 * r.val = 64 * c.val + r.val by omega)
    · exact Fin.ext (show 0 + 1 * l.val = l.val by omega)
  · show ((I.q h (64 * c + r) l * (S.s (32 * h + (64 * c + r) / 64))⁻¹ : ℝ) : EReal) = _
    rw [show (64 * c.val + r.val) / 64 = c by omega]

/-- Both heads' codes of a chunk, stacked. -/
theorem qq_is (c : Fin 32) : Is (qq E (qcQ E) c) (fun r d => if r < 64 then I.q 0 (64 * c + r) d * (S.s c)⁻¹ else I.q 1 (64 * c + (r - 64)) d * (S.s (32 + c))⁻¹) := by
  refine (q2_is (qc1_is S 0 c) (qc1_is S 1 c)).congr fun r d hr hd => ?_
  simp

/-- The masked products of a chunk's key and query codes. -/
theorem aa_is (c : Fin 32) : Is (aa E (qcQ E) (kcQ E) c) (fun s x => if s ≤ x % 64 then ∑ d ∈ Finset.range 128, I.k (64 * c + s) d * (S.s (64 + c))⁻¹ *
    (if x < 64 then I.q 0 (64 * c + x) d * (S.s c)⁻¹ else I.q 1 (64 * c + (x - 64)) d * (S.s (32 + c))⁻¹) else 0) :=
  att_is (kc1_is S c) (qq_is S c)

end Cert.KernelIdeal.Model

end
-- ==== Proof.Kern.States.lean ====
/- The states over the extended reals: one step of a pair of chunks, and what is kept of the states. -/
module

public import proofs.«01_k».proof.Proof.Kern.Stage

@[expose] public section

set_option maxRecDepth 16384

noncomputable section

namespace Cert.KernelIdeal.Model

open Idealize.ShloMosaic Cert.KernelIdeal Cert.KernelIdeal.Gen

theorem dv_is {E U : FVec Ideal S40x128 .f32} {C : Vec Ideal S1x1x128x128 .bf16} {e u k : ℕ → ℕ → ℝ} (he : Is E e) (hu : Is U u)
    (hk : Is4 C k) :
    Is (dv E U C) (fun r c => if c < 128 then e r 63 * ∑ s ∈ Finset.range 64, u r s * k s c
      else e r 127 * ∑ s ∈ Finset.range 64, u r (64 + s) * k (64 + s) (c - 128)) := dk_is (C := C) he hu hk

/-- The key state in the middle of a pair. -/
theorem kMid_is {E U st : FVec Ideal S40x128 .f32} {C : Vec Ideal S1x1x128x128 .fp8e4m3} {S : FVec Ideal S1x128 .f32} {e u k x : ℕ → ℕ → ℝ} {s0 : ℝ}
    (he : Is E e) (hu : Is U u) (hk : Is4 C k) (hs : Is S (fun _ _ => s0)) (hx : Is st x) :
    Is (kMid E U C S st) (fun r d => e r 63 * (x r d + ∑ s ∈ Finset.range 64, u r s * (k s d * s0))) := by
  intro r l
  have hd := dk_is he hu hk
  pointwise [kMid, decay0, half0, row40]
  simp only [he _ _, hx _ _, hs _ _, hd _ _]
  rw [if_pos l.2, ← EReal.coe_mul, ← EReal.coe_mul, ← EReal.coe_add, mul_add, mul_assoc, Finset.sum_mul]
  simp only [mul_assoc]
  rfl

/-- The key state after a pair, from the one in its middle. -/
theorem kEnd_is {E U st : FVec Ideal S40x128 .f32} {C : Vec Ideal S1x1x128x128 .fp8e4m3} {S T : FVec Ideal S1x128 .f32} {e u k y : ℕ → ℕ → ℝ} {s1 : ℝ}
    (he : Is E e) (hu : Is U u) (hk : Is4 C k) (hs : Is T (fun _ _ => s1)) (hy : Is (kMid E U C S st) y) :
    Is (kEnd E U C S T st) (fun r d => e r 127 * (y r d + ∑ s ∈ Finset.range 64, u r (64 + s) * (k (64 + s) d * s1))) := by
  intro r l
  have hd := dk_is he hu hk
  pointwise [kEnd, decay1, half1, row40]
  simp only [he _ _, hy _ _, hs _ _, hd _ _]
  rw [if_neg (by omega), ← EReal.coe_mul, ← EReal.coe_mul, ← EReal.coe_add, mul_add, mul_assoc, Finset.sum_mul]
  simp only [mul_assoc, Nat.add_sub_cancel_left]
  rfl

/-- The value state in the middle of a pair. -/
theorem vMid_is {E U st : FVec Ideal S40x128 .f32} {C : Vec Ideal S1x1x128x128 .bf16} {e u k x : ℕ → ℕ → ℝ}
    (he : Is E e) (hu : Is U u) (hk : Is4 C k) (hx : Is st x) :
    Is (vMid E U C st) (fun r d => e r 63 * (x r d + ∑ s ∈ Finset.range 64, u r s * k s d)) := by
  intro r l
  have hd := dv_is he hu hk
  pointwise [vMid, decay0, half0]
  simp only [he _ _, hx _ _, hd _ _]
  rw [if_pos l.2, ← EReal.coe_mul, ← EReal.coe_add, mul_add]
  rfl

/-- The value state after a pair, from the one in its middle. -/
theorem vEnd_is {E U st : FVec Ideal S40x128 .f32} {C : Vec Ideal S1x1x128x128 .bf16} {e u k y : ℕ → ℕ → ℝ}
    (he : Is E e) (hu : Is U u) (hk : Is4 C k) (hy : Is (vMid E U C st) y) :
    Is (vEnd E U C st) (fun r d => e r 127 * (y r d + ∑ s ∈ Finset.range 64, u r (64 + s) * k (64 + s) d)) := by
  intro r l
  have hd := dv_is he hu hk
  pointwise [vEnd, decay1, half1]
  simp only [he _ _, hy _ _, hd _ _]
  rw [if_neg (by omega), ← EReal.coe_mul, ← EReal.coe_add, mul_add]
  simp only [Nat.add_sub_cancel_left]
  rfl

theorem zS_is : Is (zS (F := Ideal)) (fun _ _ => 0) := by
  intro r l
  pointwise [zS]
  rfl

/-- What is kept of a key state: the state, then zeros. -/
theorem kKeep_is {X : FVec Ideal S40x128 .f32} {x : ℕ → ℕ → ℝ} (h : Is X x) : Is3 (kKeep X) (fun r l => if r < 40 then x r l else 0) := by
  intro r l
  have hs := stack_is h
  pointwise [kKeep]
  exact hs _ _

end Cert.KernelIdeal.Model

end
-- ==== Proof.Kern.Carry.lean ====
/- The states carried from pair to pair, the states kept for the outputs, and the final states. -/
module

public import proofs.«01_k».proof.Proof.Kern.Codes
public import proofs.«01_k».proof.Proof.Kern.States
public import proofs.«01_k».proof.Proof.Kern.Pack

@[expose] public section

set_option maxRecDepth 16384

noncomputable section

namespace Cert.KernelIdeal.Model

open Idealize.ShloMosaic Cert.KernelIdeal Cert.KernelIdeal.Gen

variable {E : Env Ideal} {I : Inputs E}

/-- The scales' piece. -/
def scQ (E : Env Ideal) : List (View.Piece (Elt Ideal) S96x128 .f32) := scL E (amaxL E)

/-- A code times its scale is the entry. -/
theorem unscale {x s : ℝ} (h : 0 < s) : x * s⁻¹ * s = x := by rw [mul_assoc, inv_mul_cancel₀ h.ne', mul_one]

/-- One step of a state. -/
theorem stS_succ (f x : ℕ → ℕ → ℝ) (c j d : ℕ) : stS f x (c + 1) j d = ebS f j (64 * c + 63) * (stS f x c j d + ∑ s ∈ Finset.range 64, uS f j (64 * c + s) * x (64 * c + s) d) := rfl

/-- The key state in the middle of pair `i`, from the state before it. -/
theorem kMid_state (S : Scales I) (i : Fin 16) {X : FVec Ideal S40x128 .f32} (hX : Is X (fun j d => stS I.f I.k (2 * i) j d)) :
    Is (kMid (eb E (ebL E) i) (u E (uL E) i) (kc2 E (kcQ E) i) (sc E (scQ E) (rowK (ch0 i))) X) (fun j d => stS I.f I.k (2 * i + 1) j d) := by
  refine (kMid_is (eb_is I i) (u_is I i) (kc2_is S i) (S.hs (rowK (ch0 i))) hX).congr fun j d hj hd => ?_
  rw [stS_succ I.f I.k (2 * i.val), show 64 * (2 * i.val) + 63 = 128 * i + 63 by omega]
  refine congrArg₂ (· * ·) rfl (congrArg₂ (· + ·) rfl (Finset.sum_congr rfl fun s hs => ?_))
  have := Finset.mem_range.1 hs
  rw [show 64 + (128 * i.val + s) / 64 = (rowK (ch0 i)).val by simp only [rowK, ch0]; omega, unscale (S.pos _ (rowK (ch0 i)).2), show 64 * (2 * i.val) + s = 128 * i + s by omega]

/-- The key state after pair `i`. -/
theorem kEnd_state (S : Scales I) (i : Fin 16) {X : FVec Ideal S40x128 .f32} (hX : Is X (fun j d => stS I.f I.k (2 * i) j d)) :
    Is (kEnd (eb E (ebL E) i) (u E (uL E) i) (kc2 E (kcQ E) i) (sc E (scQ E) (rowK (ch0 i))) (sc E (scQ E) (rowK (ch1 i))) X) (fun j d => stS I.f I.k (2 * i + 2) j d) := by
  refine (kEnd_is (eb_is I i) (u_is I i) (kc2_is S i) (S.hs (rowK (ch1 i))) (kMid_state S i hX)).congr fun j d hj hd => ?_
  rw [show 2 * i.val + 2 = 2 * i.val + 1 + 1 from rfl, stS_succ I.f I.k (2 * i.val + 1), show 64 * (2 * i.val + 1) + 63 = 128 * i + 127 by omega]
  refine congrArg₂ (· * ·) rfl (congrArg₂ (· + ·) rfl (Finset.sum_congr rfl fun s hs => ?_))
  have := Finset.mem_range.1 hs
  rw [show 64 + (128 * i.val + (64 + s)) / 64 = (rowK (ch1 i)).val by simp only [rowK, ch1]; omega, unscale (S.pos _ (rowK (ch1 i)).2), show 64 * (2 * i.val + 1) + s = 128 * i + (64 + s) by omega]

/-- The value state in the middle of pair `i`. -/
theorem vMid_state (i : Fin 16) {X : FVec Ideal S40x128 .f32} (hX : Is X (fun j d => stS I.f I.v (2 * i) j d)) :
    Is (vMid (eb E (ebL E) i) (u E (uL E) i) (vb E i) X) (fun j d => stS I.f I.v (2 * i + 1) j d) := by
  refine (vMid_is (eb_is I i) (u_is I i) (vb_is I i) hX).congr fun j d hj hd => ?_
  rw [stS_succ I.f I.v (2 * i.val), show 64 * (2 * i.val) + 63 = 128 * i + 63 by omega]
  refine congrArg₂ (· * ·) rfl (congrArg₂ (· + ·) rfl (Finset.sum_congr rfl fun s hs => ?_))
  rw [show 64 * (2 * i.val) + s = 128 * i + s by omega]

/-- The value state after pair `i`. -/
theorem vEnd_state (i : Fin 16) {X : FVec Ideal S40x128 .f32} (hX : Is X (fun j d => stS I.f I.v (2 * i) j d)) :
    Is (vEnd (eb E (ebL E) i) (u E (uL E) i) (vb E i) X) (fun j d => stS I.f I.v (2 * i + 2) j d) := by
  refine (vEnd_is (eb_is I i) (u_is I i) (vb_is I i) (vMid_state i hX)).congr fun j d hj hd => ?_
  rw [show 2 * i.val + 2 = 2 * i.val + 1 + 1 from rfl, stS_succ I.f I.v (2 * i.val + 1), show 64 * (2 * i.val + 1) + 63 = 128 * i + 127 by omega]
  refine congrArg₂ (· * ·) rfl (congrArg₂ (· + ·) rfl (Finset.sum_congr rfl fun s hs => ?_))
  rw [show 64 * (2 * i.val + 1) + s = 128 * i + (64 + s) by omega]

theorem pr_val {n : ℕ} (h : n < 16) : (pr n).val = n := Nat.mod_eq_of_lt h

/-- The key state before pair `n`. -/
theorem kSt_is (S : Scales I) : ∀ n, n ≤ 16 → Is (kSt E (ebL E) (uL E) (scQ E) (kcQ E) n) (fun j d => stS I.f I.k (2 * n) j d)
  | 0, _ => zS_is
  | n + 1, h => by
    have ih := kSt_is S n (by omega)
    have e := pr_val (n := n) (by omega)
    have := kEnd_state S (pr n) (X := kSt E (ebL E) (uL E) (scQ E) (kcQ E) n) (by rw [e]; exact ih)
    rw [e] at this
    exact this

/-- The value state before pair `n`. -/
theorem vSt_is (I : Inputs E) : ∀ n, n ≤ 16 → Is (vSt E (ebL E) (uL E) n) (fun j d => stS I.f I.v (2 * n) j d)
  | 0, _ => zS_is
  | n + 1, h => by
    have ih := vSt_is I n (by omega)
    have e := pr_val (n := n) (by omega)
    have := vEnd_state (I := I) (pr n) (X := vSt E (ebL E) (uL E) n) (by rw [e]; exact ih)
    rw [e] at this
    exact this

/-! ## The kept states -/

/-- The kept key states, as stored. -/
def k0Q (E : Env Ideal) : List (View.Piece (Elt Ideal) S32x120x128 .bf16) := k0L E (ebL E) (uL E) (scQ E) (kcQ E)
/-- The kept value states, as stored. -/
def v0Q (E : Env Ideal) : List (View.Piece (Elt Ideal) S32x240x128 .bf16) := v0L E (ebL E) (uL E)

/-- The kept key state of chunk `c`. -/
theorem k0_is (S : Scales I) (c : Fin 32) : Is3 (k0 E (k0Q E) c) (fun r d => if r < 40 then stS I.f I.k c r d else 0) := by
  intro r l
  unfold k0
  rw [View.readCov_eq_canon']
  have piece : ∀ (c : Fin 32) (X : FVec Ideal S40x128 .f32), Is X (fun j d => stS I.f I.k c j d) → ∀ x : (rK0 c).shape.Idx,
      kKeep X x = (fun y : S32x120x128.Idx => (((if (y 1).val < 40 then stS I.f I.k (y 0) (y 1) (y 2) else 0 : ℝ)) : EReal)) ((rK0 c).emb x) := fun c X hX x => by
    obtain ⟨r, l, rfl⟩ := eq_ix3 (n := 120) (m := 128) x
    refine (kKeep_is hX r l).trans ?_
    show _ = (((if 0 + 1 * r.val < 40 then stS I.f I.k (c + 1 * 0) (0 + 1 * r) (0 + 1 * l) else 0 : ℝ)) : EReal)
    simp only [mul_zero, add_zero, one_mul, zero_add]
  refine (View.canon_apply_of_pieces (Val := Elt Ideal) (e := .bf16) (fun y : S32x120x128.Idx => (((if (y 1).val < 40 then stS I.f I.k (y 0) (y 1) (y 2) else 0 : ℝ)) : EReal)) _ ?_ _ ?_).trans ?_
  · intro p hp
    obtain ⟨i, -, hp⟩ := List.mem_flatMap.1 hp
    have hs := kSt_is S i.val i.2.le
    rcases List.mem_cons.1 hp with rfl | hp
    · exact piece (ch1 i) _ (kMid_state S i hs)
    · rw [List.mem_singleton.1 hp]
      exact piece (ch0 i) _ hs
  · have cover : ∀ n : Fin 32, n = c → (rK0 c).toLoadRect.idx (ix3 0 r l) ∈ (rK0 n).set := fun n hn => by
      subst hn
      exact (rK0 n).toLoadRect.idx_mem _
    by_cases h : c.val % 2 = 0
    · exact ⟨_, List.mem_flatMap.2 ⟨⟨c.val / 2, by omega⟩, mem16 _, List.mem_cons_of_mem _ (List.mem_singleton_self _)⟩, cover _ (Fin.ext (by simp only [ch0]; omega))⟩
    · exact ⟨_, List.mem_flatMap.2 ⟨⟨c.val / 2, by omega⟩, mem16 _, List.mem_cons_self⟩, cover _ (Fin.ext (by simp only [ch1]; omega))⟩
  · show (((if 0 + 1 * r.val < 40 then stS I.f I.k (c + 1 * 0) (0 + 1 * r) (0 + 1 * l) else 0 : ℝ)) : EReal) = _
    simp only [mul_zero, add_zero, one_mul, zero_add]

/-- The kept value state of chunk `c`. -/
theorem v0_is (I : Inputs E) (c : Fin 32) : Is3 (v0 E (v0Q E) c) (packed fun j d => stS I.f I.v c j d) := by
  intro r l
  unfold v0
  rw [View.readCov_eq_canon']
  have piece : ∀ (c : Fin 32) (X : FVec Ideal S40x128 .f32), Is X (fun j d => stS I.f I.v c j d) → ∀ x : (rV0 c).shape.Idx,
      vKeep X x = (fun y : S32x240x128.Idx => ((packed (fun j d => stS I.f I.v (y 0) j d) (y 1) (y 2) : ℝ) : EReal)) ((rV0 c).emb x) := fun c X hX x => by
    obtain ⟨r, l, rfl⟩ := eq_ix3 (n := 240) (m := 128) x
    refine (vKeep_is hX r l).trans ?_
    show _ = ((packed (fun j d => stS I.f I.v (c + 1 * 0) j d) (0 + 1 * r) (0 + 1 * l) : ℝ) : EReal)
    simp only [mul_zero, add_zero, one_mul, zero_add]
  refine (View.canon_apply_of_pieces (Val := Elt Ideal) (e := .bf16) (fun y : S32x240x128.Idx => ((packed (fun j d => stS I.f I.v (y 0) j d) (y 1) (y 2) : ℝ) : EReal)) _ ?_ _ ?_).trans ?_
  · intro p hp
    obtain ⟨i, -, hp⟩ := List.mem_flatMap.1 hp
    have hs := vSt_is I i.val i.2.le
    rcases List.mem_cons.1 hp with rfl | hp
    · exact piece (ch1 i) _ (vMid_state i hs)
    · rw [List.mem_singleton.1 hp]
      exact piece (ch0 i) _ hs
  · have cover : ∀ n : Fin 32, n = c → (rV0 c).toLoadRect.idx (ix3 0 r l) ∈ (rV0 n).set := fun n hn => by
      subst hn
      exact (rV0 n).toLoadRect.idx_mem _
    by_cases h : c.val % 2 = 0
    · exact ⟨_, List.mem_flatMap.2 ⟨⟨c.val / 2, by omega⟩, mem16 _, List.mem_cons_of_mem _ (List.mem_singleton_self _)⟩, cover _ (Fin.ext (by simp only [ch0]; omega))⟩
    · exact ⟨_, List.mem_flatMap.2 ⟨⟨c.val / 2, by omega⟩, mem16 _, List.mem_cons_self⟩, cover _ (Fin.ext (by simp only [ch1]; omega))⟩
  · show ((packed (fun j d => stS I.f I.v (c + 1 * 0) j d) (0 + 1 * r) (0 + 1 * l) : ℝ) : EReal) = _
    simp only [mul_zero, add_zero, one_mul, zero_add]

/-! ## The final states -/

/-- A final state's one piece. -/
theorem final_read {X : FVec Ideal S40x128 .f32} {x : ℕ → ℕ → ℝ} (h : Is X x) :
    Is4 (View.canon ([⟨rSt, shapeCast S1x1x40x128 X shapeCasts_S40x128_S1x1x40x128⟩] : List (View.Piece (Elt Ideal) S1x1x40x128 .f32))) x := by
  intro r l
  have e : View.canon ([⟨rSt, shapeCast S1x1x40x128 X shapeCasts_S40x128_S1x1x40x128⟩] : List (View.Piece (Elt Ideal) S1x1x40x128 .f32)) =
      shapeCast S1x1x40x128 X shapeCasts_S40x128_S1x1x40x128 := View.canon_unit_zero (by funext a; fin_cases a <;> rfl) _ _
  rw [e]
  pointwise
  exact h _ _

theorem ks_is (S : Scales I) : Is4 (View.canon (ksL E (ebL E) (uL E) (scQ E) (kcQ E))) (fun j d => stS I.f I.k 32 j d) := final_read (kSt_is S 16 le_rfl)
theorem vs_is (I : Inputs E) : Is4 (View.canon (vsL E (ebL E) (uL E))) (fun j d => stS I.f I.v 32 j d) := final_read (vSt_is I 16 le_rfl)

end Cert.KernelIdeal.Model

end
-- ==== Proof.Kern.Result.lean ====
/- The outputs of one grid point. -/
module

public import proofs.«01_k».proof.Proof.Kern.Carry

@[expose] public section

set_option maxRecDepth 16384

noncomputable section

namespace Cert.KernelIdeal.Model

open Idealize.ShloMosaic Cert.KernelIdeal Cert.KernelIdeal.Gen

variable {E : Env Ideal} {I : Inputs E}

/-- The query at lane `x` of chunk `c`: head `x / 64`, step `64 c + x % 64`. -/
def qh (I : Inputs E) (c x : ℕ) : ℕ → ℝ := fun d => I.q (x / 64) (64 * c + x % 64) d

/-- Scales cancel between codes and logits. -/
theorem unscale_logit {sk p e κ : ℝ} {t : ℕ} {u st q : ℕ → ℝ} {k : ℕ → ℕ → ℝ} (hs : 0 < sk) (hp : 0 < p) :
    (∑ s ∈ Finset.range 64, u s * (sk * (if s ≤ t then ∑ d ∈ Finset.range 128, k s d * sk⁻¹ * (q d * p⁻¹) else 0)) +
      ∑ d ∈ Finset.range 128, st d * (q d * p⁻¹)) * (e * (p * κ)) =
    (∑ s ∈ Finset.range 64, u s * (if s ≤ t then ∑ d ∈ Finset.range 128, k s d * q d else 0) + ∑ d ∈ Finset.range 128, st d * q d) * (e * κ) := by
  have h1 : ∀ s, u s * (sk * (if s ≤ t then ∑ d ∈ Finset.range 128, k s d * sk⁻¹ * (q d * p⁻¹) else 0)) =
      u s * (if s ≤ t then ∑ d ∈ Finset.range 128, k s d * q d else 0) * p⁻¹ := fun s => by
    split_ifs
    · rw [mul_assoc, Finset.mul_sum, Finset.sum_mul]
      refine congrArg _ (Finset.sum_congr rfl fun d _ => ?_)
      field_simp
    · simp
  have h2 : ∀ d, st d * (q d * p⁻¹) = st d * q d * p⁻¹ := fun d => (mul_assoc _ _ _).symm
  simp only [h1, h2]
  rw [← Finset.sum_mul, ← Finset.sum_mul, ← add_mul]
  field_simp

/-- A lane's head and step. -/
theorem lane_cases {α : Type} {x : ℕ} (hx : x < 128) (a b : α) (f : ℕ → ℕ → α) (h0 : x < 64 → a = f 0 x) (h1 : 64 ≤ x → b = f 1 (x - 64)) :
    (if x < 64 then a else b) = f (x / 64) (x % 64) := by
  split_ifs with h
  · rw [h0 h, Nat.div_eq_of_lt h, Nat.mod_eq_of_lt h]
  · rw [h1 (by omega), show x / 64 = 1 by omega, show x % 64 = x - 64 by omega]

/-- The stacked query codes, by lane. -/
theorem qq_lane (S : Scales I) (c : Fin 32) : Is (qq E (qcQ E) c) (fun x d => qh I c x d * (S.s (32 * (x / 64) + c))⁻¹) := by
  refine (qq_is S c).congr fun x d hx hd => ?_
  rw [lane_cases hx _ _ (fun h t => I.q h (64 * c + t) d * (S.s (32 * h + c))⁻¹) (fun _ => by simp) (fun _ => by simp)]
  rfl

/-- The masked products, by lane. -/
theorem aa_lane (S : Scales I) (c : Fin 32) : Is (aa E (qcQ E) (kcQ E) c) (fun s x => if s ≤ x % 64 then
    ∑ d ∈ Finset.range 128, I.k (64 * c + s) d * (S.s (64 + c))⁻¹ * (qh I c x d * (S.s (32 * (x / 64) + c))⁻¹) else 0) :=
  att_is (kc1_is S c) (qq_lane S c)

/-- The slots' products, by lane of either chunk. -/
theorem zz_lane (S : Scales I) (i : Fin 16) : Is (zz E (uL E) (scQ E) (qcQ E) (kcQ E) (k0Q E) i) (fun j c => if c < 128
    then ∑ s ∈ Finset.range 64, uS I.f j (128 * i + s) * (S.s (rowK (ch0 i)) * (if s ≤ c % 64 then
      ∑ d ∈ Finset.range 128, I.k (64 * (ch0 i).val + s) d * (S.s (64 + (ch0 i).val))⁻¹ * (qh I (ch0 i) c d * (S.s (32 * (c / 64) + (ch0 i).val))⁻¹) else 0)) +
      ∑ d ∈ Finset.range 128, stS I.f I.k (ch0 i) j d * (qh I (ch0 i) c d * (S.s (32 * (c / 64) + (ch0 i).val))⁻¹)
    else ∑ s ∈ Finset.range 64, uS I.f j (128 * i + (64 + s)) * (S.s (rowK (ch1 i)) * (if s ≤ (c - 128) % 64 then
      ∑ d ∈ Finset.range 128, I.k (64 * (ch1 i).val + s) d * (S.s (64 + (ch1 i).val))⁻¹ * (qh I (ch1 i) (c - 128) d * (S.s (32 * ((c - 128) / 64) + (ch1 i).val))⁻¹) else 0)) +
      ∑ d ∈ Finset.range 128, stS I.f I.k (ch1 i) j d * (qh I (ch1 i) (c - 128) d * (S.s (32 * ((c - 128) / 64) + (ch1 i).val))⁻¹)) :=
by
  have h := zPair_is (u_is I i) (S.hs (rowK (ch0 i))) (S.hs (rowK (ch1 i))) (aa_lane S (ch0 i)) (aa_lane S (ch1 i)) (qq_lane S (ch0 i)) (qq_lane S (ch1 i))
    (k0_is S (ch0 i)) (k0_is S (ch1 i))
  exact h

theorem half0_is {X : FVec Ideal S40x256 .f32} {x : ℕ → ℕ → ℝ} (h : Is X x) : Is (half0 X) x := by
  intro r l
  pointwise [half0]
  rw [h]
theorem half1_is {X : FVec Ideal S40x256 .f32} {x : ℕ → ℕ → ℝ} (h : Is X x) : Is (half1 X) (fun r l => x r (128 + l)) := by
  intro r l
  pointwise [half1]
  rw [h]

/-- The scale of a lane's query. -/
theorem scale_lane (S : Scales I) (c : Fin 32) {x : ℕ} (hx : x < 128) :
    (if x < 64 then S.s (rowQ 0 c) else S.s (rowQ 1 c)) = S.s (32 * (x / 64) + c) :=
  lane_cases hx _ _ (fun h _ => S.s (32 * h + c)) (fun _ => by simp [rowQ]) (fun _ => by simp [rowQ])

theorem div_lane {x : ℕ} (hx : x < 128) (c : Fin 32) : 32 * (x / 64) + c.val < 96 := by omega

/-- The first chunk's logits. -/
theorem lg0_is (S : Scales I) (i : Fin 16) : Is (lg0 E (ebL E) (uL E) (scQ E) (qcQ E) (kcQ E) (k0Q E) i)
    (fun j x => lgS I.f I.k (qh I (ch0 i) x) (ch0 i) (x % 64) j) := by
  refine (logits_is (half0_is (zz_lane S i)) (eb0_is (eb_is I i)) (S.hs (rowQ 0 (ch0 i))) (S.hs (rowQ 1 (ch0 i)))).congr fun j x hj hx => ?_
  rw [if_pos hx, scale_lane S _ hx]
  refine (unscale_logit (S.pos _ (rowK (ch0 i)).2) (S.pos _ (div_lane hx _))).trans ?_
  rw [lgS, zS', show 128 * i.val = 64 * (ch0 i).val by simp only [ch0]; omega]

/-- The second chunk's logits. -/
theorem lg1_is (S : Scales I) (i : Fin 16) : Is (lg1 E (ebL E) (uL E) (scQ E) (qcQ E) (kcQ E) (k0Q E) i)
    (fun j x => lgS I.f I.k (qh I (ch1 i) x) (ch1 i) (x % 64) j) := by
  refine (logits_is (half1_is (zz_lane S i)) (eb1_is (eb_is I i)) (S.hs (rowQ 0 (ch1 i))) (S.hs (rowQ 1 (ch1 i)))).congr fun j x hj hx => ?_
  rw [if_neg (by omega), scale_lane S _ hx, Nat.add_sub_cancel_left]
  refine (unscale_logit (S.pos _ (rowK (ch1 i)).2) (S.pos _ (div_lane hx _))).trans ?_
  simp only [← add_assoc]
  rw [lgS, zS', show 128 * i.val + 64 = 64 * (ch1 i).val by simp only [ch1]; omega]

/-- The first chunk's weights times decays. -/
theorem pe0_is (S : Scales I) (i : Fin 16) : Is (pe (lg0 E (ebL E) (uL E) (scQ E) (qcQ E) (kcQ E) (k0Q E) i) (eb0 (eb E (ebL E) i)))
    (fun j x => peS I.f I.k (qh I (ch0 i) x) (ch0 i) (x % 64) j) := by
  refine (pe_is (lg0_is S i) (eb0_is (eb_is I i))).congr fun j x hj hx => ?_
  rw [peS, show 128 * i.val = 64 * (ch0 i).val by simp only [ch0]; omega]

/-- The second chunk's. -/
theorem pe1_is (S : Scales I) (i : Fin 16) : Is (pe (lg1 E (ebL E) (uL E) (scQ E) (qcQ E) (kcQ E) (k0Q E) i) (eb1 (eb E (ebL E) i)))
    (fun j x => peS I.f I.k (qh I (ch1 i) x) (ch1 i) (x % 64) j) := by
  refine (pe_is (lg1_is S i) (eb1_is (eb_is I i))).congr fun j x hj hx => ?_
  rw [peS, ← add_assoc, show 128 * i.val + 64 = 64 * (ch1 i).val by simp only [ch1]; omega]

/-- What the first chunk's slots carry. -/
theorem cc0_is (S : Scales I) (i : Fin 16) : Is (cc0 E (ebL E) (uL E) (scQ E) (qcQ E) (kcQ E) (k0Q E) (v0Q E) i)
    (fun x c => ∑ j ∈ Finset.range 40, peS I.f I.k (qh I (ch0 i) x) (ch0 i) (x % 64) j * (if c < 128 then uS I.f j (128 * i + c) else stS I.f I.v (ch0 i) j (c - 128))) :=
  carry_is (pe0_is S i) (u_is I i) (v0_is I (ch0 i))

/-- What the second chunk's slots carry. -/
theorem cc1_is (S : Scales I) (i : Fin 16) : Is (cc1 E (ebL E) (uL E) (scQ E) (qcQ E) (kcQ E) (k0Q E) (v0Q E) i)
    (fun x c => ∑ j ∈ Finset.range 40, peS I.f I.k (qh I (ch1 i) x) (ch1 i) (x % 64) j * (if c < 128 then uS I.f j (128 * i + c) else stS I.f I.v (ch1 i) j (c - 128))) :=
  carry_is (pe1_is S i) (u_is I i) (v0_is I (ch1 i))

/-- The first chunk's outputs, by lane. -/
theorem out0_lane (S : Scales I) (i : Fin 16) : Is (out0 (oo E (ebL E) (uL E) (scQ E) (qcQ E) (kcQ E) (k0Q E) (v0Q E) i) (cc0 E (ebL E) (uL E) (scQ E) (qcQ E) (kcQ E) (k0Q E) (v0Q E) i))
    (fun x d => oS I.f I.k I.v (qh I (ch0 i) x) (ch0 i) (x % 64) d) := by
  have ho := oPair_is (mm_is (cc0_is S i) (cc1_is S i)) (vb_is I i)
  refine (out0_is ho (cc0_is S i)).congr fun x d hx hd => ?_
  simp only [if_pos hd, if_neg (show ¬ 128 + d < 128 by omega), Nat.add_sub_cancel_left]
  rw [oS]
  refine congrArg₂ (· + ·) (Finset.sum_congr rfl fun s hs => ?_) rfl
  have hs := Finset.mem_range.1 hs
  rw [Nat.mod_eq_of_lt hs, if_pos hs, show 128 * i.val = 64 * (ch0 i).val by simp only [ch0]; omega]
  simp only [if_pos (show s < 128 by omega)]

/-- The second chunk's outputs, by lane. -/
theorem out1_lane (S : Scales I) (i : Fin 16) : Is (out1 (oo E (ebL E) (uL E) (scQ E) (qcQ E) (kcQ E) (k0Q E) (v0Q E) i) (cc1 E (ebL E) (uL E) (scQ E) (qcQ E) (kcQ E) (k0Q E) (v0Q E) i))
    (fun x d => oS I.f I.k I.v (qh I (ch1 i) x) (ch1 i) (x % 64) d) := by
  have ho := oPair_is (mm_is (cc0_is S i) (cc1_is S i)) (vb_is I i)
  refine (out1_is ho (cc1_is S i)).congr fun x d hx hd => ?_
  simp only [if_neg (show ¬ 128 + d < 128 by omega), Nat.add_sub_cancel_left]
  rw [oS]
  refine congrArg₂ (· + ·) (Finset.sum_congr rfl fun s hs => ?_) rfl
  have hs := Finset.mem_range.1 hs
  rw [show (64 + s) % 64 = s by omega, if_neg (show ¬ 64 + s < 64 by omega)]
  simp only [if_pos (show 64 + s < 128 by omega), ← add_assoc]
  rw [show 128 * i.val + 64 = 64 * (ch1 i).val by simp only [ch1]; omega]

/-- The outputs' pieces, as stored. -/
def oQ (E : Env Ideal) : List (View.Piece (Elt Ideal) S1x2x2048x128 .bf16) := oL E (ebL E) (uL E) (scQ E) (qcQ E) (kcQ E) (k0Q E) (v0Q E)

/-- The output of head `h` at step `t`, feature `d`. -/
theorem o_is (I : Inputs E) (S : Scales I) (h : Fin 2) (t : Fin 2048) (d : Fin 128) :
    View.canon (Val := Elt Ideal) (oQ E) (ix4 0 h t d) = ((oS I.f I.k I.v (I.q h t) (t / 64) (t % 64) d : ℝ) : EReal) := by
  have piece : ∀ (h : Fin 2) (c : Fin 32) (X : FVec Ideal S1x1x64x128 .bf16), Is4 X (fun r d => oS I.f I.k I.v (I.q h (64 * c + r)) c r d) → ∀ x : (rQ h c).shape.Idx,
      X x = (fun y : S1x2x2048x128.Idx => ((oS I.f I.k I.v (I.q (y 1) (y 2)) ((y 2).val / 64) ((y 2).val % 64) (y 3) : ℝ) : EReal)) ((rQ h c).emb x) := fun h c X hX x => by
    obtain ⟨r, l, rfl⟩ := eq_ix4 (n := 64) (m := 128) x
    refine (hX r l).trans ?_
    show _ = ((oS I.f I.k I.v (I.q (h + 1 * 0) (64 * c + 1 * r)) ((64 * c + 1 * r) / 64) ((64 * c + 1 * r) % 64) (0 + 1 * l) : ℝ) : EReal)
    simp only [mul_zero, add_zero, one_mul, zero_add]
    rw [show (64 * c.val + r.val) / 64 = c by omega, show (64 * c.val + r.val) % 64 = r by omega]
  have p0 : ∀ (c : Fin 32) (X : FVec Ideal S128x128 .bf16), Is X (fun x d => oS I.f I.k I.v (qh I c x) c (x % 64) d) → ∀ x : (rQ 0 c).shape.Idx,
      head0 X x = (fun y : S1x2x2048x128.Idx => ((oS I.f I.k I.v (I.q (y 1) (y 2)) ((y 2).val / 64) ((y 2).val % 64) (y 3) : ℝ) : EReal)) ((rQ 0 c).emb x) := fun c X hX =>
    piece 0 c _ fun r d => (head0_is hX r d).trans (by
      rw [show qh I c r = I.q (0 : Fin 2) (64 * c + r) by funext d; simp only [qh, Nat.mod_eq_of_lt r.2, Nat.div_eq_of_lt r.2]; rfl, Nat.mod_eq_of_lt r.2])
  have p1 : ∀ (c : Fin 32) (X : FVec Ideal S128x128 .bf16), Is X (fun x d => oS I.f I.k I.v (qh I c x) c (x % 64) d) → ∀ x : (rQ 1 c).shape.Idx,
      head1 X x = (fun y : S1x2x2048x128.Idx => ((oS I.f I.k I.v (I.q (y 1) (y 2)) ((y 2).val / 64) ((y 2).val % 64) (y 3) : ℝ) : EReal)) ((rQ 1 c).emb x) := fun c X hX =>
    piece 1 c _ fun r d => (head1_is hX r d).trans (by
      beta_reduce
      rw [show qh I c (64 + r) = I.q (1 : Fin 2) (64 * c + r) by
        funext d; simp only [qh, show (64 + r.val) % 64 = r by omega, show (64 + r.val) / 64 = 1 by omega]; rfl, show (64 + r.val) % 64 = r by omega])
  have cover : ∀ (h' : Fin 2) (c : Fin 32), h' = h → c.val = t.val / 64 → (ix4 0 h t d : S1x2x2048x128.Idx) ∈ (rQ h' c).set := fun h' c e e' => by
    subst e
    rw [rQ, Rect.mem_set_unit]
    intro a
    fin_cases a <;> simp <;> omega
  refine (View.canon_apply_of_pieces (Val := Elt Ideal) (e := .bf16)
    (fun y : S1x2x2048x128.Idx => ((oS I.f I.k I.v (I.q (y 1) (y 2)) ((y 2).val / 64) ((y 2).val % 64) (y 3) : ℝ) : EReal)) _ ?_ _ ?_)
  · intro p hp
    obtain ⟨i, -, hp⟩ := List.mem_flatMap.1 hp
    rcases List.mem_cons.1 hp with rfl | hp
    · exact p1 (ch1 i) _ (out1_lane S i)
    rcases List.mem_cons.1 hp with rfl | hp
    · exact p0 (ch1 i) _ (out1_lane S i)
    rcases List.mem_cons.1 hp with rfl | hp
    · exact p1 (ch0 i) _ (out0_lane S i)
    · rw [List.mem_singleton.1 hp]
      exact p0 (ch0 i) _ (out0_lane S i)
  · have hi : t.val / 64 / 2 < 16 := by omega
    by_cases hc : t.val / 64 % 2 = 0 <;> rcases (by omega : h = 0 ∨ h = 1) with e | e
    · exact ⟨_, List.mem_flatMap.2 ⟨⟨t.val / 64 / 2, hi⟩, mem16 _, List.mem_cons_of_mem _ (List.mem_cons_of_mem _ (List.mem_cons_of_mem _ (List.mem_singleton_self _)))⟩,
        cover 0 _ e.symm (by simp only [ch0]; omega)⟩
    · exact ⟨_, List.mem_flatMap.2 ⟨⟨t.val / 64 / 2, hi⟩, mem16 _, List.mem_cons_of_mem _ (List.mem_cons_of_mem _ List.mem_cons_self)⟩,
        cover 1 _ e.symm (by simp only [ch0]; omega)⟩
    · exact ⟨_, List.mem_flatMap.2 ⟨⟨t.val / 64 / 2, hi⟩, mem16 _, List.mem_cons_of_mem _ List.mem_cons_self⟩,
        cover 0 _ e.symm (by simp only [ch1]; omega)⟩
    · exact ⟨_, List.mem_flatMap.2 ⟨⟨t.val / 64 / 2, hi⟩, mem16 _, List.mem_cons_self⟩,
        cover 1 _ e.symm (by simp only [ch1]; omega)⟩

end Cert.KernelIdeal.Model

end
-- ==== Proof.Kern.Rows.lean ====
/- The rows of scales stored at one grid point: the diagonal of the 32 rows of one head, or of the keys. -/
module

public import proofs.«01_k».proof.Proof.Kern.Stage
public import proofs.«01_k».proof.Proof.Gen.KernelIdeal.Skeleton
public import Idealize.ShloMosaic.Lib.WritesUnit

@[expose] public section

set_option maxRecDepth 16384

noncomputable section

namespace Cert.KernelIdeal.Model

open Idealize.ShloMosaic Cert.KernelIdeal Cert.KernelIdeal.Gen

/-- A sum over the diagonal picks the one entry on it. -/
theorem diag_sum (f : ℕ → EReal) (l : Fin 32) :
    ∑ k : Fin 32, Scalar.select (IntOp.cmpi .eq (BitVec.ofNat 32 (k : ℕ)) (BitVec.ofNat 32 (l : ℕ))) (f k) 0 = f l := by
  have h : ∀ k : Fin 32, Scalar.select (IntOp.cmpi .eq (BitVec.ofNat 32 (k : ℕ)) (BitVec.ofNat 32 (l : ℕ))) (f k) 0 =
      if k = l then f l else 0 := fun k => by
    rw [WordCmp.cmpi_eq_eq]
    by_cases e : k = l
    · subst e; simp [Scalar.select]
    · have hne : ¬ (BitVec.ofNat 32 (k : ℕ) = BitVec.ofNat 32 (l : ℕ)) := fun h' => e (Fin.ext (by
        have := congrArg BitVec.toNat h'
        simp only [BitVec.toNat_ofNat] at this
        omega))
      simp [Scalar.select, hne, e]
  simp only [h, Finset.sum_ite_eq', Finset.mem_univ, if_true]

variable {V : FVec Ideal S96x128 .f32} {s : ℕ → ℝ} (h : Is V (fun r _ => s r)) (l : Fin 32)
include h

/-- The first head's row. -/
theorem row0_is : k0_pay212 (F := Ideal) k0_pay210 (extractStridedSlice S32x128 ![0, 0] V slices_S96x128_o0_0_S32x128) (ix3 0 0 l) = ((s l : ℝ) : EReal) := by
  pointwise [k0_pay212, k0_pay210]
  simp only [h _ _]
  exact diag_sum (fun k => ((s k : ℝ) : EReal)) l

/-- The second head's row. -/
theorem row1_is : k0_pay213 (F := Ideal) V k0_pay210 (ix3 0 0 l) = ((s (32 + l) : ℝ) : EReal) := by
  pointwise [k0_pay213, k0_pay210]
  simp only [h _ _]
  exact diag_sum (fun k => ((s (32 + k) : ℝ) : EReal)) l

/-- The keys' row. -/
theorem rowK_is : k0_pay214 (F := Ideal) V k0_pay210 (ix3 0 0 l) = ((s (64 + l) : ℝ) : EReal) := by
  pointwise [k0_pay214, k0_pay210]
  simp only [h _ _]
  exact diag_sum (fun k => ((s (64 + k) : ℝ) : EReal)) l

omit h

/-! ## The stores -/

/-- The scales, in the layout they are computed in. -/
def scaleRaw {F : FTy → Type} [FloatOps F] (a : FVec F S96x128 .f32) : FVec F S96x128 .f32 :=
  bitcastToFloat .f32 (shli (addi (expo a) (broadcast S96x128 127#32)) (broadcast S96x128 23#32))

theorem raw_is {a : FVec Ideal S96x128 .f32} {x : ℕ → ℕ → ℝ} (h : Is (scaleAll a) x) : Is (scaleRaw a) x := fun r l => by
  rw [← h r l]
  pointwise [scaleAll]
  rfl

/-- The two rows of query scales a grid point stores. -/
@[reducible] def qRows {F : FTy → Type} [FloatOps F] [Named F] (i : grid0.Coords) (V : FVec F S96x128 .f32) : List (View.Piece (Elt F) S12x20x32 .f32) :=
  [⟨Rect.unit (s := S12x20x32) (k0_off1 i 1#32) S1x1x32.size (Gen.k0_off1_inb i 1), k0_pay213 V k0_pay210⟩,
   ⟨Rect.unit (s := S12x20x32) (k0_off1 i 0#32) S1x1x32.size (Gen.k0_off1_inb i 0),
    k0_pay212 k0_pay210 (extractStridedSlice S32x128 ![0, 0] V slices_S96x128_o0_0_S32x128)⟩]

/-- The row of key scales. -/
@[reducible] def kRows {F : FTy → Type} [FloatOps F] [Named F] (i : grid0.Coords) (V : FVec F S96x128 .f32) : List (View.Piece (Elt F) S10x12x32 .f32) :=
  [⟨Rect.unit (s := S10x12x32) (k0_off2 i) S1x1x32.size (Gen.k0_off2_inb i), k0_pay214 V k0_pay210⟩]

section
variable {κ : Kind} {sp : Space} (i : grid0.Coords)

/-- Row `2 g + r` of the query scales, stored at the point of group `g`, is head `r`'s. -/
theorem qRows_hit (v : View sig κ sp S12x20x32 .f32) (f : v.ty.Contents (Elt Ideal)) (h : Is V (fun r _ => s r)) (b : Fin 12) (r : Fin 20) (l : Fin 32)
    (hb : b.val = (i 0).val) (hr : r.val / 2 = (i 1).val) :
    v.read (Elt Ideal) (v.writes (Elt Ideal) f (qRows i V)) (ix3 b r l) = ((s (32 * (r.val % 2) + l) : ℝ) : EReal) := by
  by_cases h1 : r.val % 2 = 1
  · refine (View.read_writes_cons_unit_of_mem v f _ _ _ _ (ix3 0 0 l) (Gen.k0_off1_eq i 1) ?_).trans ((row1_is h l).trans ?_)
    · intro a
      fin_cases a
      · exact hb
      · show r.val = 2 * (i 1).val + 1 + 0; omega
      · show l.val = 0 + l.val; omega
    · rw [h1, mul_one]
  · refine (View.read_writes_cons_unit_of_not_mem v f _ _ _ (ix3 b r l) (Gen.k0_off1_eq i 1) 1 (.inl ?_)).trans ?_
    · show r.val < 2 * (i 1).val + 1; omega
    refine (View.read_writes_cons_unit_of_mem v f _ _ _ _ (ix3 0 0 l) (Gen.k0_off1_eq i 0) ?_).trans ((row0_is h l).trans ?_)
    · intro a
      fin_cases a
      · exact hb
      · show r.val = 2 * (i 1).val + 0 + 0; omega
      · show l.val = 0 + l.val; omega
    · rw [show r.val % 2 = 0 by omega, mul_zero, zero_add]

/-- The other rows are left alone. -/
theorem qRows_miss (v : View sig κ sp S12x20x32 .f32) (f : v.ty.Contents (Elt Ideal)) (b : Fin 12) (r : Fin 20) (l : Fin 32)
    (hm : b.val ≠ (i 0).val ∨ r.val / 2 ≠ (i 1).val) :
    v.read (Elt Ideal) (v.writes (Elt Ideal) f (qRows i V)) (ix3 b r l) = v.read (Elt Ideal) f (ix3 b r l) := by
  by_cases hb : b.val = (i 0).val
  · have hr : r.val / 2 ≠ (i 1).val := hm.resolve_left (fun h => h hb)
    refine (View.read_writes_cons_unit_of_not_mem v f _ _ _ (ix3 b r l) (Gen.k0_off1_eq i 1) 1 ?_).trans
      (View.read_writes_cons_unit_of_not_mem v f _ _ _ (ix3 b r l) (Gen.k0_off1_eq i 0) 1 ?_)
    · show r.val < 2 * (i 1).val + 1 ∨ 2 * (i 1).val + 1 + 1 ≤ r.val; omega
    · show r.val < 2 * (i 1).val + 0 ∨ 2 * (i 1).val + 0 + 1 ≤ r.val; omega
  · refine (View.read_writes_cons_unit_of_not_mem v f _ _ _ (ix3 b r l) (Gen.k0_off1_eq i 1) 0 ?_).trans
      (View.read_writes_cons_unit_of_not_mem v f _ _ _ (ix3 b r l) (Gen.k0_off1_eq i 0) 0 ?_)
    all_goals show b.val < (i 0).val ∨ (i 0).val + 1 ≤ b.val; omega

/-- The row of key scales stored at a point is its group's and batch's. -/
theorem kRows_hit (v : View sig κ sp S10x12x32 .f32) (f : v.ty.Contents (Elt Ideal)) (h : Is V (fun r _ => s r)) (g : Fin 10) (b : Fin 12) (l : Fin 32)
    (hg : g.val = (i 1).val) (hb : b.val = (i 0).val) :
    v.read (Elt Ideal) (v.writes (Elt Ideal) f (kRows i V)) (ix3 g b l) = ((s (64 + l) : ℝ) : EReal) := by
  refine (View.read_writes_cons_unit_of_mem v f _ _ _ _ (ix3 0 0 l) (Gen.k0_off2_eq i) ?_).trans (rowK_is h l)
  intro a
  fin_cases a
  · exact hg
  · exact hb
  · show l.val = 0 + l.val; omega

/-- The other rows are left alone. -/
theorem kRows_miss (v : View sig κ sp S10x12x32 .f32) (f : v.ty.Contents (Elt Ideal)) (g : Fin 10) (b : Fin 12) (l : Fin 32)
    (hm : b.val ≠ (i 0).val ∨ g.val ≠ (i 1).val) :
    v.read (Elt Ideal) (v.writes (Elt Ideal) f (kRows i V)) (ix3 g b l) = v.read (Elt Ideal) f (ix3 g b l) := by
  by_cases hb : b.val = (i 0).val
  · have hg : g.val ≠ (i 1).val := hm.resolve_left (fun h => h hb)
    refine View.read_writes_cons_unit_of_not_mem v f _ _ _ (ix3 g b l) (Gen.k0_off2_eq i) 0 ?_
    show g.val < (i 1).val ∨ (i 1).val + 1 ≤ g.val; omega
  · refine View.read_writes_cons_unit_of_not_mem v f _ _ _ (ix3 g b l) (Gen.k0_off2_eq i) 1 ?_
    show b.val < (i 0).val ∨ (i 0).val + 1 ≤ b.val; omega

end

end Cert.KernelIdeal.Model

end
-- ==== Proof.Kern.Words.lean ====
/- The generated body's stored pieces are the model's, at the first grid point and at the others. -/
module

public import proofs.«01_k».proof.Proof.Run.KernelIdeal.Value
public import proofs.«01_k».proof.Proof.Kern.Bind
public import proofs.«01_k».proof.Proof.Kern.Rows
import all proofs.«01_k».proof.Proof.Run.KernelIdeal.RunA
import all proofs.«01_k».proof.Proof.Run.KernelIdeal.RunB

@[expose] public section

noncomputable section

namespace Cert.KernelIdeal.Model

open Idealize.ShloMosaic Cert.KernelIdeal Cert.KernelIdeal.Gen

variable {F : FTy → Type} [FloatOps F] [Named F]

/-! ## The pieces of the scratch buffers and the outputs, in terms of the inputs alone -/

section
variable (E : Env F)

/-- The scales' piece. -/
def scP : List (View.Piece (Elt F) S96x128 .f32) := scL E (amaxL E)
/-- The inverse scales' piece. -/
def ivP : List (View.Piece (Elt F) S96x128 .f32) := ivL E (amaxL E)
/-- The key codes. -/
def kcP : List (View.Piece (Elt F) S1x1x2048x128 .fp8e4m3) := kcL E (ivP E)
/-- The query codes. -/
def qcP : List (View.Piece (Elt F) S1x2x2048x128 .fp8e4m3) := qcL E (ivP E)
/-- The kept key states. -/
def k0P : List (View.Piece (Elt F) S32x120x128 .bf16) := k0L E (ebL E) (uL E) (scP E) (kcP E)
/-- The kept value states. -/
def v0P : List (View.Piece (Elt F) S32x240x128 .bf16) := v0L E (ebL E) (uL E)
/-- The final key state. -/
def ksP : List (View.Piece (Elt F) S1x1x40x128 .f32) := ksL E (ebL E) (uL E) (scP E) (kcP E)
/-- The final value state. -/
def vsP : List (View.Piece (Elt F) S1x1x40x128 .f32) := vsL E (ebL E) (uL E)
/-- The outputs. -/
def oP : List (View.Piece (Elt F) S1x2x2048x128 .bf16) := oL E (ebL E) (uL E) (scP E) (qcP E) (kcP E) (k0P E) (v0P E)
end

/-- The whole of the triangle's buffer. -/
def rTri : Rect S256x256 := Rect.unit ![0, 0] S256x256.size (by intro a; fin_cases a <;> simp)

/-- The piece of the triangle stored at the first grid point. -/
def triL : List (View.Piece (Elt F) S256x256 .bf16) := [⟨rTri, triW⟩]

variable (c : Dev nD) (i : grid0.Coords) (arg2 : Memref sig .tc .vmem S1x2x2048x128 .bf16) (harg2 : arg2.IsWhole)
  (arg3 : Memref sig .tc .vmem S1x1x2048x128 .bf16) (harg3 : arg3.IsWhole) (arg4 : Memref sig .tc .vmem S1x1x2048x128 .bf16) (harg4 : arg4.IsWhole)
  (arg5 : Memref sig .tc .vmem S1x1x40x2048 .bf16) (harg5 : arg5.IsWhole) (arg6 : Memref sig .tc .vmem S1x2x2048x128 .bf16) (harg6 : arg6.IsWhole)
  (arg7 : Memref sig .tc .vmem S1x1x40x128 .f32) (harg7 : arg7.IsWhole) (arg8 : Memref sig .tc .vmem S1x1x40x128 .f32) (harg8 : arg8.IsWhole)
  (arg9 : Memref sig .tc .vmem S1x2x2048x128 .fp8e4m3) (harg9 : arg9.IsWhole) (arg10 : Memref sig .tc .vmem S12x20x32 .f32) (harg10 : arg10.IsWhole)
  (arg11 : Memref sig .tc .vmem S1x1x2048x128 .fp8e4m3) (harg11 : arg11.IsWhole) (arg12 : Memref sig .tc .vmem S10x12x32 .f32) (harg12 : arg12.IsWhole)
  (arg13 : Memref sig .tc .vmem S256x256 .bf16) (harg13 : arg13.IsWhole) (arg14 : Memref sig .tc .vmem S40x2048 .f32) (harg14 : arg14.IsWhole)
  (arg15 : Memref sig .tc .vmem S40x2048 .f32) (harg15 : arg15.IsWhole) (arg16 : Memref sig .tc .vmem S96x128 .f32) (harg16 : arg16.IsWhole)
  (arg17 : Memref sig .tc .vmem S96x128 .f32) (harg17 : arg17.IsWhole) (arg18 : Memref sig .tc .vmem S96x128 .f32) (harg18 : arg18.IsWhole)
  (arg19 : Memref sig .tc .vmem S32x120x128 .bf16) (harg19 : arg19.IsWhole) (arg20 : Memref sig .tc .vmem S32x240x128 .bf16) (harg20 : arg20.IsWhole)
  (x0 : Vec F S1x2x2048x128 .bf16) (x1 : Vec F S1x1x2048x128 .bf16) (x2 : Vec F S1x1x2048x128 .bf16) (x3 : Vec F S1x1x40x2048 .bf16) (xs0 : Vec F S256x256 .bf16)

/-- The buffers with a triangle of one's choice. -/
@[reducible] def envOf (tri : FVec F S256x256 .bf16) : Env F :=
  ⟨arg2, harg2, arg3, harg3, arg4, harg4, arg5, harg5, arg9, arg11, arg14, arg15, arg16, arg17, arg18, arg19, arg20, x0, x1, x2, x3, tri⟩

/-- The triangle as read back at the first grid point. -/
@[reducible] def triA : FVec F S256x256 .bf16 := arg13.view.readCov triL rTri.toLoadRect
/-- The triangle as read at the other grid points. -/
@[reducible] def triB : FVec F S256x256 .bf16 := View.readAt (Elt F) arg13.view rTri.toLoadRect (harg13.unread xs0)

/-! ## The first grid point -/

section
variable (hc0 : cond0_0 i)

/-- The environment of the first grid point. -/
@[reducible] def envA : Env F := envOf arg2 harg2 arg3 harg3 arg4 harg4 arg5 harg5 arg9 arg11 arg14 arg15 arg16 arg17 arg18 arg19 arg20 x0 x1 x2 x3 (triA arg13)

theorem w_ebA : (kernelRun0_A.sl.HS1_8 c arg5 harg5 arg13 x3) =
    ebL (envA arg2 harg2 arg3 harg3 arg4 harg4 arg5 harg5 arg9 arg11 arg13 arg14 arg15 arg16 arg17 arg18 arg19 arg20 x0 x1 x2 x3) := rfl
theorem w_uA : (kernelRun0_A.sl.HS2_8 c arg5 harg5 arg13 x3) =
    uL (envA arg2 harg2 arg3 harg3 arg4 harg4 arg5 harg5 arg9 arg11 arg13 arg14 arg15 arg16 arg17 arg18 arg19 arg20 x0 x1 x2 x3) := rfl
theorem w_amaxA : (kernelRun0_A.sl.HS3_96 c arg2 harg2 arg3 harg3 x0 x1) =
    amaxL (envA arg2 harg2 arg3 harg3 arg4 harg4 arg5 harg5 arg9 arg11 arg13 arg14 arg15 arg16 arg17 arg18 arg19 arg20 x0 x1 x2 x3) := rfl
theorem w_scA : (kernelRun0_A.sl.HS4_1 c arg2 harg2 arg3 harg3 arg16 x0 x1) =
    scL (envA arg2 harg2 arg3 harg3 arg4 harg4 arg5 harg5 arg9 arg11 arg13 arg14 arg15 arg16 arg17 arg18 arg19 arg20 x0 x1 x2 x3) (kernelRun0_A.sl.HS3_96 c arg2 harg2 arg3 harg3 x0 x1) := rfl
theorem w_ivA : (kernelRun0_A.sl.HS5_1 c arg2 harg2 arg3 harg3 arg16 x0 x1) =
    ivL (envA arg2 harg2 arg3 harg3 arg4 harg4 arg5 harg5 arg9 arg11 arg13 arg14 arg15 arg16 arg17 arg18 arg19 arg20 x0 x1 x2 x3) (kernelRun0_A.sl.HS3_96 c arg2 harg2 arg3 harg3 x0 x1) := rfl
theorem w_kcA : (kernelRun0_A.sl.H9_32 c arg2 harg2 arg3 harg3 arg16 arg18 x0 x1) =
    kcL (envA arg2 harg2 arg3 harg3 arg4 harg4 arg5 harg5 arg9 arg11 arg13 arg14 arg15 arg16 arg17 arg18 arg19 arg20 x0 x1 x2 x3) (kernelRun0_A.sl.HS5_1 c arg2 harg2 arg3 harg3 arg16 x0 x1) := rfl
theorem w_qcA : (kernelRun0_A.sl.H7_64 c arg2 harg2 arg3 harg3 arg16 arg18 x0 x1) =
    qcL (envA arg2 harg2 arg3 harg3 arg4 harg4 arg5 harg5 arg9 arg11 arg13 arg14 arg15 arg16 arg17 arg18 arg19 arg20 x0 x1 x2 x3) (kernelRun0_A.sl.HS5_1 c arg2 harg2 arg3 harg3 arg16 x0 x1) := rfl
theorem w_k0A : (kernelRun0_A.sl.HS6_32 c arg2 harg2 arg3 harg3 arg5 harg5 arg11 arg13 arg14 arg15 arg16 arg17 arg18 x0 x1 x3) =
    k0L (envA arg2 harg2 arg3 harg3 arg4 harg4 arg5 harg5 arg9 arg11 arg13 arg14 arg15 arg16 arg17 arg18 arg19 arg20 x0 x1 x2 x3) (kernelRun0_A.sl.HS1_8 c arg5 harg5 arg13 x3) (kernelRun0_A.sl.HS2_8 c arg5 harg5 arg13 x3) (kernelRun0_A.sl.HS4_1 c arg2 harg2 arg3 harg3 arg16 x0 x1) (kernelRun0_A.sl.H9_32 c arg2 harg2 arg3 harg3 arg16 arg18 x0 x1) := rfl
theorem w_v0A : (kernelRun0_A.sl.HS7_32 c arg4 harg4 arg5 harg5 arg13 arg14 arg15 x2 x3) =
    v0L (envA arg2 harg2 arg3 harg3 arg4 harg4 arg5 harg5 arg9 arg11 arg13 arg14 arg15 arg16 arg17 arg18 arg19 arg20 x0 x1 x2 x3) (kernelRun0_A.sl.HS1_8 c arg5 harg5 arg13 x3) (kernelRun0_A.sl.HS2_8 c arg5 harg5 arg13 x3) := rfl
theorem w_ksA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.1 =
    ksL (envA arg2 harg2 arg3 harg3 arg4 harg4 arg5 harg5 arg9 arg11 arg13 arg14 arg15 arg16 arg17 arg18 arg19 arg20 x0 x1 x2 x3) (kernelRun0_A.sl.HS1_8 c arg5 harg5 arg13 x3) (kernelRun0_A.sl.HS2_8 c arg5 harg5 arg13 x3) (kernelRun0_A.sl.HS4_1 c arg2 harg2 arg3 harg3 arg16 x0 x1) (kernelRun0_A.sl.H9_32 c arg2 harg2 arg3 harg3 arg16 arg18 x0 x1) := rfl
theorem w_vsA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.1 =
    vsL (envA arg2 harg2 arg3 harg3 arg4 harg4 arg5 harg5 arg9 arg11 arg13 arg14 arg15 arg16 arg17 arg18 arg19 arg20 x0 x1 x2 x3) (kernelRun0_A.sl.HS1_8 c arg5 harg5 arg13 x3) (kernelRun0_A.sl.HS2_8 c arg5 harg5 arg13 x3) := rfl
theorem w_oA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1 =
    oL (envA arg2 harg2 arg3 harg3 arg4 harg4 arg5 harg5 arg9 arg11 arg13 arg14 arg15 arg16 arg17 arg18 arg19 arg20 x0 x1 x2 x3) (kernelRun0_A.sl.HS1_8 c arg5 harg5 arg13 x3) (kernelRun0_A.sl.HS2_8 c arg5 harg5 arg13 x3) (kernelRun0_A.sl.HS4_1 c arg2 harg2 arg3 harg3 arg16 x0 x1) (kernelRun0_A.sl.H7_64 c arg2 harg2 arg3 harg3 arg16 arg18 x0 x1) (kernelRun0_A.sl.H9_32 c arg2 harg2 arg3 harg3 arg16 arg18 x0 x1) (kernelRun0_A.sl.HS6_32 c arg2 harg2 arg3 harg3 arg5 harg5 arg11 arg13 arg14 arg15 arg16 arg17 arg18 x0 x1 x3) (kernelRun0_A.sl.HS7_32 c arg4 harg4 arg5 harg5 arg13 arg14 arg15 x2 x3) := rfl

/-- The outputs stored. -/
theorem runA_o : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).1 = oP (envA arg2 harg2 arg3 harg3 arg4 harg4 arg5 harg5 arg9 arg11 arg13 arg14 arg15 arg16 arg17 arg18 arg19 arg20 x0 x1 x2 x3) := by
  unfold oP k0P v0P qcP kcP scP ivP
  rw [w_oA, w_k0A, w_v0A, w_qcA, w_kcA, w_scA, w_ivA, w_amaxA, w_ebA, w_uA]
/-- The final key state stored. -/
theorem runA_ks : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.1 = ksP (envA arg2 harg2 arg3 harg3 arg4 harg4 arg5 harg5 arg9 arg11 arg13 arg14 arg15 arg16 arg17 arg18 arg19 arg20 x0 x1 x2 x3) := by
  unfold ksP kcP scP ivP
  rw [w_ksA, w_kcA, w_scA, w_ivA, w_amaxA, w_ebA, w_uA]
/-- The final value state stored. -/
theorem runA_vs : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.1 = vsP (envA arg2 harg2 arg3 harg3 arg4 harg4 arg5 harg5 arg9 arg11 arg13 arg14 arg15 arg16 arg17 arg18 arg19 arg20 x0 x1 x2 x3) := by
  unfold vsP
  rw [w_vsA, w_ebA, w_uA]
theorem w_qsA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.2.2.2.2.2.2.2.1 =
    qRows i (scaleRaw (amax (envA arg2 harg2 arg3 harg3 arg4 harg4 arg5 harg5 arg9 arg11 arg13 arg14 arg15 arg16 arg17 arg18 arg19 arg20 x0 x1 x2 x3) (kernelRun0_A.sl.HS3_96 c arg2 harg2 arg3 harg3 x0 x1))) := rfl
/-- The rows of query scales stored. -/
theorem runA_qs : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.2.2.2.2.2.2.2.1 = qRows i (scaleRaw (amax (envA arg2 harg2 arg3 harg3 arg4 harg4 arg5 harg5 arg9 arg11 arg13 arg14 arg15 arg16 arg17 arg18 arg19 arg20 x0 x1 x2 x3) (amaxL (envA arg2 harg2 arg3 harg3 arg4 harg4 arg5 harg5 arg9 arg11 arg13 arg14 arg15 arg16 arg17 arg18 arg19 arg20 x0 x1 x2 x3)))) := by
  rw [w_qsA, w_amaxA]
theorem w_klA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.2.2.2.2.2.2.2.2.1 =
    kRows i (scaleRaw (amax (envA arg2 harg2 arg3 harg3 arg4 harg4 arg5 harg5 arg9 arg11 arg13 arg14 arg15 arg16 arg17 arg18 arg19 arg20 x0 x1 x2 x3) (kernelRun0_A.sl.HS3_96 c arg2 harg2 arg3 harg3 x0 x1))) := rfl
/-- The rows of key scales stored. -/
theorem runA_kl : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3).2.2.2.2.2.2.2.2.2.2.1 = kRows i (scaleRaw (amax (envA arg2 harg2 arg3 harg3 arg4 harg4 arg5 harg5 arg9 arg11 arg13 arg14 arg15 arg16 arg17 arg18 arg19 arg20 x0 x1 x2 x3) (amaxL (envA arg2 harg2 arg3 harg3 arg4 harg4 arg5 harg5 arg9 arg11 arg13 arg14 arg15 arg16 arg17 arg18 arg19 arg20 x0 x1 x2 x3)))) := by
  rw [w_klA, w_amaxA]

end

/-! ## The other grid points -/

section
variable (hc0 : ¬cond0_0 i)

/-- The environment of the other grid points. -/
@[reducible] def envB : Env F := envOf arg2 harg2 arg3 harg3 arg4 harg4 arg5 harg5 arg9 arg11 arg14 arg15 arg16 arg17 arg18 arg19 arg20 x0 x1 x2 x3 (triB arg13 harg13 xs0)

theorem w_ebB : (kernelRun0_B.sl.HS1_8 c arg5 harg5 arg13 harg13 x3 xs0) =
    ebL (envB arg2 harg2 arg3 harg3 arg4 harg4 arg5 harg5 arg9 arg11 arg13 harg13 arg14 arg15 arg16 arg17 arg18 arg19 arg20 x0 x1 x2 x3 xs0) := rfl
theorem w_uB : (kernelRun0_B.sl.HS2_8 c arg5 harg5 arg13 harg13 x3 xs0) =
    uL (envB arg2 harg2 arg3 harg3 arg4 harg4 arg5 harg5 arg9 arg11 arg13 harg13 arg14 arg15 arg16 arg17 arg18 arg19 arg20 x0 x1 x2 x3 xs0) := rfl
theorem w_amaxB : (kernelRun0_B.sl.HS3_96 c arg2 harg2 arg3 harg3 x0 x1) =
    amaxL (envB arg2 harg2 arg3 harg3 arg4 harg4 arg5 harg5 arg9 arg11 arg13 harg13 arg14 arg15 arg16 arg17 arg18 arg19 arg20 x0 x1 x2 x3 xs0) := rfl
theorem w_scB : (kernelRun0_B.sl.HS4_1 c arg2 harg2 arg3 harg3 arg16 x0 x1) =
    scL (envB arg2 harg2 arg3 harg3 arg4 harg4 arg5 harg5 arg9 arg11 arg13 harg13 arg14 arg15 arg16 arg17 arg18 arg19 arg20 x0 x1 x2 x3 xs0) (kernelRun0_B.sl.HS3_96 c arg2 harg2 arg3 harg3 x0 x1) := rfl
theorem w_ivB : (kernelRun0_B.sl.HS5_1 c arg2 harg2 arg3 harg3 arg16 x0 x1) =
    ivL (envB arg2 harg2 arg3 harg3 arg4 harg4 arg5 harg5 arg9 arg11 arg13 harg13 arg14 arg15 arg16 arg17 arg18 arg19 arg20 x0 x1 x2 x3 xs0) (kernelRun0_B.sl.HS3_96 c arg2 harg2 arg3 harg3 x0 x1) := rfl
theorem w_kcB : (kernelRun0_B.sl.H9_32 c arg2 harg2 arg3 harg3 arg16 arg18 x0 x1) =
    kcL (envB arg2 harg2 arg3 harg3 arg4 harg4 arg5 harg5 arg9 arg11 arg13 harg13 arg14 arg15 arg16 arg17 arg18 arg19 arg20 x0 x1 x2 x3 xs0) (kernelRun0_B.sl.HS5_1 c arg2 harg2 arg3 harg3 arg16 x0 x1) := rfl
theorem w_qcB : (kernelRun0_B.sl.H7_64 c arg2 harg2 arg3 harg3 arg16 arg18 x0 x1) =
    qcL (envB arg2 harg2 arg3 harg3 arg4 harg4 arg5 harg5 arg9 arg11 arg13 harg13 arg14 arg15 arg16 arg17 arg18 arg19 arg20 x0 x1 x2 x3 xs0) (kernelRun0_B.sl.HS5_1 c arg2 harg2 arg3 harg3 arg16 x0 x1) := rfl
theorem w_k0B : (kernelRun0_B.sl.HS6_32 c arg2 harg2 arg3 harg3 arg5 harg5 arg11 arg13 harg13 arg14 arg15 arg16 arg17 arg18 x0 x1 x3 xs0) =
    k0L (envB arg2 harg2 arg3 harg3 arg4 harg4 arg5 harg5 arg9 arg11 arg13 harg13 arg14 arg15 arg16 arg17 arg18 arg19 arg20 x0 x1 x2 x3 xs0) (kernelRun0_B.sl.HS1_8 c arg5 harg5 arg13 harg13 x3 xs0) (kernelRun0_B.sl.HS2_8 c arg5 harg5 arg13 harg13 x3 xs0) (kernelRun0_B.sl.HS4_1 c arg2 harg2 arg3 harg3 arg16 x0 x1) (kernelRun0_B.sl.H9_32 c arg2 harg2 arg3 harg3 arg16 arg18 x0 x1) := rfl
theorem w_v0B : (kernelRun0_B.sl.HS7_32 c arg4 harg4 arg5 harg5 arg13 harg13 arg14 arg15 x2 x3 xs0) =
    v0L (envB arg2 harg2 arg3 harg3 arg4 harg4 arg5 harg5 arg9 arg11 arg13 harg13 arg14 arg15 arg16 arg17 arg18 arg19 arg20 x0 x1 x2 x3 xs0) (kernelRun0_B.sl.HS1_8 c arg5 harg5 arg13 harg13 x3 xs0) (kernelRun0_B.sl.HS2_8 c arg5 harg5 arg13 harg13 x3 xs0) := rfl
theorem w_ksB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.1 =
    ksL (envB arg2 harg2 arg3 harg3 arg4 harg4 arg5 harg5 arg9 arg11 arg13 harg13 arg14 arg15 arg16 arg17 arg18 arg19 arg20 x0 x1 x2 x3 xs0) (kernelRun0_B.sl.HS1_8 c arg5 harg5 arg13 harg13 x3 xs0) (kernelRun0_B.sl.HS2_8 c arg5 harg5 arg13 harg13 x3 xs0) (kernelRun0_B.sl.HS4_1 c arg2 harg2 arg3 harg3 arg16 x0 x1) (kernelRun0_B.sl.H9_32 c arg2 harg2 arg3 harg3 arg16 arg18 x0 x1) := rfl
theorem w_vsB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.1 =
    vsL (envB arg2 harg2 arg3 harg3 arg4 harg4 arg5 harg5 arg9 arg11 arg13 harg13 arg14 arg15 arg16 arg17 arg18 arg19 arg20 x0 x1 x2 x3 xs0) (kernelRun0_B.sl.HS1_8 c arg5 harg5 arg13 harg13 x3 xs0) (kernelRun0_B.sl.HS2_8 c arg5 harg5 arg13 harg13 x3 xs0) := rfl
theorem w_oB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).1 =
    oL (envB arg2 harg2 arg3 harg3 arg4 harg4 arg5 harg5 arg9 arg11 arg13 harg13 arg14 arg15 arg16 arg17 arg18 arg19 arg20 x0 x1 x2 x3 xs0) (kernelRun0_B.sl.HS1_8 c arg5 harg5 arg13 harg13 x3 xs0) (kernelRun0_B.sl.HS2_8 c arg5 harg5 arg13 harg13 x3 xs0) (kernelRun0_B.sl.HS4_1 c arg2 harg2 arg3 harg3 arg16 x0 x1) (kernelRun0_B.sl.H7_64 c arg2 harg2 arg3 harg3 arg16 arg18 x0 x1) (kernelRun0_B.sl.H9_32 c arg2 harg2 arg3 harg3 arg16 arg18 x0 x1) (kernelRun0_B.sl.HS6_32 c arg2 harg2 arg3 harg3 arg5 harg5 arg11 arg13 harg13 arg14 arg15 arg16 arg17 arg18 x0 x1 x3 xs0) (kernelRun0_B.sl.HS7_32 c arg4 harg4 arg5 harg5 arg13 harg13 arg14 arg15 x2 x3 xs0) := rfl

/-- The outputs stored. -/
theorem runB_o : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).1 = oP (envB arg2 harg2 arg3 harg3 arg4 harg4 arg5 harg5 arg9 arg11 arg13 harg13 arg14 arg15 arg16 arg17 arg18 arg19 arg20 x0 x1 x2 x3 xs0) := by
  unfold oP k0P v0P qcP kcP scP ivP
  rw [w_oB, w_k0B, w_v0B, w_qcB, w_kcB, w_scB, w_ivB, w_amaxB, w_ebB, w_uB]
/-- The final key state stored. -/
theorem runB_ks : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.1 = ksP (envB arg2 harg2 arg3 harg3 arg4 harg4 arg5 harg5 arg9 arg11 arg13 harg13 arg14 arg15 arg16 arg17 arg18 arg19 arg20 x0 x1 x2 x3 xs0) := by
  unfold ksP kcP scP ivP
  rw [w_ksB, w_kcB, w_scB, w_ivB, w_amaxB, w_ebB, w_uB]
/-- The final value state stored. -/
theorem runB_vs : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.1 = vsP (envB arg2 harg2 arg3 harg3 arg4 harg4 arg5 harg5 arg9 arg11 arg13 harg13 arg14 arg15 arg16 arg17 arg18 arg19 arg20 x0 x1 x2 x3 xs0) := by
  unfold vsP
  rw [w_vsB, w_ebB, w_uB]
theorem w_qsB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.2.2.2.2.2.2.2.1 =
    qRows i (scaleRaw (amax (envB arg2 harg2 arg3 harg3 arg4 harg4 arg5 harg5 arg9 arg11 arg13 harg13 arg14 arg15 arg16 arg17 arg18 arg19 arg20 x0 x1 x2 x3 xs0) (kernelRun0_B.sl.HS3_96 c arg2 harg2 arg3 harg3 x0 x1))) := rfl
/-- The rows of query scales stored. -/
theorem runB_qs : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.2.2.2.2.2.2.2.1 = qRows i (scaleRaw (amax (envB arg2 harg2 arg3 harg3 arg4 harg4 arg5 harg5 arg9 arg11 arg13 harg13 arg14 arg15 arg16 arg17 arg18 arg19 arg20 x0 x1 x2 x3 xs0) (amaxL (envB arg2 harg2 arg3 harg3 arg4 harg4 arg5 harg5 arg9 arg11 arg13 harg13 arg14 arg15 arg16 arg17 arg18 arg19 arg20 x0 x1 x2 x3 xs0)))) := by
  rw [w_qsB, w_amaxB]
theorem w_klB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.2.2.2.2.2.2.2.2.1 =
    kRows i (scaleRaw (amax (envB arg2 harg2 arg3 harg3 arg4 harg4 arg5 harg5 arg9 arg11 arg13 harg13 arg14 arg15 arg16 arg17 arg18 arg19 arg20 x0 x1 x2 x3 xs0) (kernelRun0_B.sl.HS3_96 c arg2 harg2 arg3 harg3 x0 x1))) := rfl
/-- The rows of key scales stored. -/
theorem runB_kl : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0).2.2.2.2.2.2.2.2.2.2.1 = kRows i (scaleRaw (amax (envB arg2 harg2 arg3 harg3 arg4 harg4 arg5 harg5 arg9 arg11 arg13 harg13 arg14 arg15 arg16 arg17 arg18 arg19 arg20 x0 x1 x2 x3 xs0) (amaxL (envB arg2 harg2 arg3 harg3 arg4 harg4 arg5 harg5 arg9 arg11 arg13 harg13 arg14 arg15 arg16 arg17 arg18 arg19 arg20 x0 x1 x2 x3 xs0)))) := by
  rw [w_klB, w_amaxB]

end

end Cert.KernelIdeal.Model

end
-- ==== Proof.Kern.Chunks.lean ====
/- The reference's mathematics over the reals — masked sums over all steps before — and that the chunks of `Spec`
   compute it. -/
module

public import proofs.«01_k».proof.Proof.Kern.Spec

@[expose] public section

noncomputable section

namespace Cert.KernelIdeal.Model

open Finset

/-- The sum of the log gates over the steps before `t`. -/
def preS (f : ℕ → ℕ → ℝ) (j t : ℕ) : ℝ := ∑ s ∈ range t, laS f j s
/-- The weight, at step `t`, of the row written at step `s`: the decay since then times the write gate. -/
def weS (f : ℕ → ℕ → ℝ) (j t s : ℕ) : ℝ :=
  if s ≤ t then Real.exp (preS f j (t + 1) - preS f j (s + 1)) * wS f j s else 0
/-- The logit: the query against slot `j`'s key. -/
def zR (f k : ℕ → ℕ → ℝ) (q : ℕ → ℝ) (t j : ℕ) : ℝ :=
  (∑ s ∈ range 2048, (∑ d ∈ range 128, q d * k s d) * weS f j t s) / Real.sqrt 128
/-- The softmax over the slots. -/
def pS (f k : ℕ → ℕ → ℝ) (q : ℕ → ℝ) (t j : ℕ) : ℝ :=
  Real.exp (zR f k q t j) / ∑ i ∈ range 40, Real.exp (zR f k q t i)
/-- The output as the reference states it. -/
def outS (f k v : ℕ → ℕ → ℝ) (q : ℕ → ℝ) (t d : ℕ) : ℝ :=
  ∑ s ∈ range 2048, (∑ j ∈ range 40, pS f k q t j * weS f j t s) * v s d

/-- The running sum at a step is the sum before its chunk plus the sum inside it. -/
theorem pre_chunk (f : ℕ → ℕ → ℝ) (j c τ : ℕ) (hτ : τ < 64) :
    preS f j (64 * c + τ + 1) = preS f j (64 * c) + cumS f j (64 * c + τ) := by
  unfold preS cumS
  rw [show 64 * c + τ + 1 = 64 * c + (τ + 1) by omega, sum_range_add, show (64 * c + τ) % 64 = τ by omega, show (64 * c + τ) / 64 = c by omega]

/-- The weight inside a chunk. -/
theorem we_chunk (f : ℕ → ℕ → ℝ) (j c τ s : ℕ) (hτ : τ < 64) (hs : s < 64) :
    weS f j (64 * c + τ) (64 * c + s) = if s ≤ τ then ebS f j (64 * c + τ) * uS f j (64 * c + s) else 0 := by
  unfold weS ebS uS
  by_cases h : s ≤ τ
  · rw [if_pos (by omega), if_pos h, pre_chunk f j c τ hτ, pre_chunk f j c s hs, ← mul_assoc, ← Real.exp_add]
    congr 2
    ring
  · rw [if_neg (by omega), if_neg h]

/-- The weight of a row written before the chunk. -/
theorem we_before (f : ℕ → ℕ → ℝ) (j c τ s : ℕ) (hτ : τ < 64) (hs : s < 64 * c) :
    weS f j (64 * c + τ) s = ebS f j (64 * c + τ) * weS f j (64 * c - 1) s := by
  unfold weS ebS
  rw [if_pos (by omega), if_pos (by omega), pre_chunk f j c τ hτ, show 64 * c - 1 + 1 = 64 * c by omega, ← mul_assoc, ← Real.exp_add]
  congr 2
  ring

/-- The state before chunk `c` is the weighted sum of the rows written before it. -/
theorem st_sum (f x : ℕ → ℕ → ℝ) (c j d : ℕ) :
    stS f x c j d = ∑ s ∈ range (64 * c), weS f j (64 * c - 1) s * x s d := by
  induction c with
  | zero => simp [stS]
  | succ c ih =>
    rw [stS, ih, show 64 * (c + 1) = 64 * c + 64 by ring, sum_range_add, mul_add, mul_sum, mul_sum, show 64 * c + 64 - 1 = 64 * c + 63 by omega]
    congr 1
    · refine sum_congr rfl fun s hs => ?_
      rw [we_before f j c 63 s (by norm_num) (mem_range.1 hs), mul_assoc]
    · refine sum_congr rfl fun s hs => ?_
      have h := mem_range.1 hs
      rw [we_chunk f j c 63 s (by norm_num) h, if_pos (by omega), mul_assoc]

/-- A weighted sum over all steps, at step `64 c + τ`: the chunk's own part and the state's. -/
theorem sum_chunk (f : ℕ → ℕ → ℝ) (j c τ : ℕ) (hτ : τ < 64) (hc : c < 32) (y : ℕ → ℝ) :
    ∑ s ∈ range 2048, y s * weS f j (64 * c + τ) s =
      ebS f j (64 * c + τ) * (∑ s ∈ range 64, uS f j (64 * c + s) * (if s ≤ τ then y (64 * c + s) else 0) +
        ∑ s ∈ range (64 * c), weS f j (64 * c - 1) s * y s) := by
  rw [show 2048 = 64 * c + (64 + (2048 - 64 * c - 64)) by omega, sum_range_add, sum_range_add]
  have h0 : ∑ x ∈ range (2048 - 64 * c - 64), y (64 * c + (64 + x)) * weS f j (64 * c + τ) (64 * c + (64 + x)) = 0 :=
    sum_eq_zero fun s hs => by rw [weS, if_neg (by omega), mul_zero]
  rw [h0, add_zero, add_comm, mul_add, mul_sum, mul_sum]
  congr 1
  · refine sum_congr rfl fun s hs => ?_
    rw [we_chunk f j c τ s hτ (mem_range.1 hs)]
    by_cases h : s ≤ τ
    · rw [if_pos h, if_pos h]; ring
    · rw [if_neg h, if_neg h]; ring
  · refine sum_congr rfl fun s hs => ?_
    rw [we_before f j c τ s hτ (mem_range.1 hs)]
    ring

/-- The last state is the weighted sum over all steps. -/
theorem st_last (f x : ℕ → ℕ → ℝ) (j d : ℕ) : stS f x 32 j d = ∑ s ∈ range 2048, weS f j 2047 s * x s d := st_sum f x 32 j d

/-- The logit, chunk by chunk. -/
theorem z_chunk (f k : ℕ → ℕ → ℝ) (q : ℕ → ℝ) (c τ j : ℕ) (hτ : τ < 64) (hc : c < 32) :
    zR f k q (64 * c + τ) j = ebS f j (64 * c + τ) * zS' f k q c τ j / Real.sqrt 128 := by
  unfold zR zS'
  rw [sum_chunk f j c τ hτ hc]
  congr 3
  · refine sum_congr rfl fun s _ => ?_
    by_cases h : s ≤ τ
    · rw [if_pos h, if_pos h]
      exact congrArg _ (sum_congr rfl fun d _ => mul_comm _ _)
    · rw [if_neg h, if_neg h]
  · simp only [st_sum, mul_sum, sum_mul]
    rw [sum_comm]
    exact sum_congr rfl fun d _ => sum_congr rfl fun s _ => by ring

/-- Two to the base-two logit is the exponential of the logit. -/
theorem two_lg (f k : ℕ → ℕ → ℝ) (q : ℕ → ℝ) (c τ j : ℕ) (hτ : τ < 64) (hc : c < 32) :
    (2 : ℝ) ^ lgS f k q c τ j = Real.exp (zR f k q (64 * c + τ) j) := by
  have hl : Real.log 2 ≠ 0 := (Real.log_pos (by norm_num)).ne'
  rw [Real.rpow_def_of_pos (by norm_num), z_chunk f k q c τ j hτ hc, lgS]
  congr 1
  field_simp

/-- The softmax weight times the decay. -/
theorem pe_eq (f k : ℕ → ℕ → ℝ) (q : ℕ → ℝ) (c τ j : ℕ) (hτ : τ < 64) (hc : c < 32) :
    peS f k q c τ j = pS f k q (64 * c + τ) j * ebS f j (64 * c + τ) := by
  unfold peS pS
  simp only [two_lg f k q c τ _ hτ hc]

/-- The kernel's output is the reference's. -/
theorem o_eq (f k v : ℕ → ℕ → ℝ) (q : ℕ → ℝ) (c τ d : ℕ) (hτ : τ < 64) (hc : c < 32) :
    oS f k v q c τ d = outS f k v q (64 * c + τ) d := by
  unfold oS outS
  simp only [pe_eq f k q c τ _ hτ hc]
  have h : ∀ j, ∑ s ∈ range 2048, v s d * weS f j (64 * c + τ) s = _ := fun j => sum_chunk f j c τ hτ hc (fun s => v s d)
  have e : ∑ s ∈ range 2048, (∑ j ∈ range 40, pS f k q (64 * c + τ) j * weS f j (64 * c + τ) s) * v s d =
      ∑ j ∈ range 40, pS f k q (64 * c + τ) j * ∑ s ∈ range 2048, v s d * weS f j (64 * c + τ) s := by
    simp only [sum_mul, mul_sum]
    rw [sum_comm]
    exact sum_congr rfl fun d _ => sum_congr rfl fun s _ => by ring
  rw [e]
  simp only [h, mul_add, sum_add_distrib]
  congr 1
  · simp only [mul_sum]
    rw [sum_comm]
    refine sum_congr rfl fun s _ => ?_
    by_cases hs : s ≤ τ
    · rw [if_pos hs, sum_mul]
      exact sum_congr rfl fun j _ => by rw [if_pos hs]; ring
    · rw [if_neg hs, zero_mul]
      exact (sum_eq_zero fun j _ => by rw [if_neg hs]; ring).symm
  · refine sum_congr rfl fun j _ => ?_
    rw [st_sum, mul_assoc]

end Cert.KernelIdeal.Model

end
-- ==== Proof.Kern.Point.lean ====
/- What one grid point leaves in the three outputs, whatever the point and the buffers. -/
module

public import proofs.«01_k».proof.Proof.Kern.Result
public import proofs.«01_k».proof.Proof.Kern.Chunks
public import proofs.«01_k».proof.Proof.Kern.Words
public import proofs.«01_k».proof.Proof.Run.KernelIdeal.Frame
public import Idealize.ShloMosaic.Lib.Pipeline.ValueKit.Basic

@[expose] public section

set_option maxRecDepth 16384

noncomputable section

namespace Cert.KernelIdeal.Model

open Idealize.ShloMosaic Cert.KernelIdeal Cert.KernelIdeal.Gen

/-- The triangle: at or below its own step, inside its own chunk. -/
@[reducible] def triS : ℕ → ℕ → ℝ := fun r c => if r ≤ c ∧ r / 64 = c / 64 then 1 else 0

/-- The real arrays behind the input blocks of a grid point, and their bounds. -/
structure Block (x0 : Vec Ideal S1x2x2048x128 .bf16) (x1 x2 : Vec Ideal S1x1x2048x128 .bf16) (x3 : Vec Ideal S1x1x40x2048 .bf16) where
  q : ℕ → ℕ → ℕ → ℝ
  k : ℕ → ℕ → ℝ
  v : ℕ → ℕ → ℝ
  f : ℕ → ℕ → ℝ
  hq : ∀ (h : Fin 2) (t : Fin 2048) (d : Fin 128), x0 (ix4 0 h t d) = ((q h t d : ℝ) : EReal)
  hk : ∀ (t : Fin 2048) (d : Fin 128), x1 (ix4 0 0 t d) = ((k t d : ℝ) : EReal)
  hv : ∀ (t : Fin 2048) (d : Fin 128), x2 (ix4 0 0 t d) = ((v t d : ℝ) : EReal)
  hf : ∀ (j : Fin 40) (t : Fin 2048), x3 (ix4 0 0 j t) = ((f j t : ℝ) : EReal)
  bq : ∀ h t d, h < 2 → t < 2048 → d < 128 → |q h t d| ≤ (2 : ℝ) ^ 128
  bk : ∀ t d, t < 2048 → d < 128 → |k t d| ≤ (2 : ℝ) ^ 128
  bf : ∀ j t, j < 40 → t < 2048 → |f j t| ≤ 147 / 16

/-- The outputs of any environment with real inputs, by step. -/
theorem o_out {E : Env Ideal} (I : Inputs E) (h : Fin 2) (t : Fin 2048) (d : Fin 128) :
    View.canon (oP E) (ix4 0 h t d) = ((outS I.f I.k I.v (I.q h t) t d : ℝ) : EReal) := by
  obtain ⟨S⟩ := scales_exist I
  refine (o_is I S h t d).trans ?_
  rw [o_eq _ _ _ _ _ _ _ (by omega) (by omega), Nat.div_add_mod]

/-- The final key state of any environment with real inputs. -/
theorem ks_out {E : Env Ideal} (I : Inputs E) : Is4 (View.canon (ksP E)) (fun j d => stS I.f I.k 32 j d) := by
  obtain ⟨S⟩ := scales_exist I
  exact ks_is S

/-- The final value state of any environment with real inputs. -/
theorem vs_out {E : Env Ideal} (I : Inputs E) : Is4 (View.canon (vsP E)) (fun j d => stS I.f I.v 32 j d) := vs_is I

/-- The scales of any environment with real inputs. -/
theorem scales_out {E : Env Ideal} (I : Inputs E) : ∃ s : ℕ → ℝ, Is (scaleRaw (amax E (amaxL E))) (fun r _ => s r) ∧
    (∀ h c, h < 2 → c < 32 → IsScale (fun r l => I.q h (64 * c + r) l) (s (32 * h + c))) ∧
    ∀ c, c < 32 → IsScale (fun r l => I.k (64 * c + r) l) (s (64 + c)) := by
  obtain ⟨S⟩ := scales_exist I
  exact ⟨S.s, raw_is S.all, S.scq, S.sck⟩

variable (c : Dev nD) (i : grid0.Coords) (arg2 : Memref sig .tc .vmem S1x2x2048x128 .bf16) (harg2 : arg2.IsWhole)
  (arg3 : Memref sig .tc .vmem S1x1x2048x128 .bf16) (harg3 : arg3.IsWhole) (arg4 : Memref sig .tc .vmem S1x1x2048x128 .bf16) (harg4 : arg4.IsWhole)
  (arg5 : Memref sig .tc .vmem S1x1x40x2048 .bf16) (harg5 : arg5.IsWhole) (arg6 : Memref sig .tc .vmem S1x2x2048x128 .bf16) (harg6 : arg6.IsWhole)
  (arg7 : Memref sig .tc .vmem S1x1x40x128 .f32) (harg7 : arg7.IsWhole) (arg8 : Memref sig .tc .vmem S1x1x40x128 .f32) (harg8 : arg8.IsWhole)
  (arg9 : Memref sig .tc .vmem S1x2x2048x128 .fp8e4m3) (harg9 : arg9.IsWhole) (arg10 : Memref sig .tc .vmem S12x20x32 .f32) (harg10 : arg10.IsWhole)
  (arg11 : Memref sig .tc .vmem S1x1x2048x128 .fp8e4m3) (harg11 : arg11.IsWhole) (arg12 : Memref sig .tc .vmem S10x12x32 .f32) (harg12 : arg12.IsWhole)
  (arg13 : Memref sig .tc .vmem S256x256 .bf16) (harg13 : arg13.IsWhole) (arg14 : Memref sig .tc .vmem S40x2048 .f32) (harg14 : arg14.IsWhole)
  (arg15 : Memref sig .tc .vmem S40x2048 .f32) (harg15 : arg15.IsWhole) (arg16 : Memref sig .tc .vmem S96x128 .f32) (harg16 : arg16.IsWhole)
  (arg17 : Memref sig .tc .vmem S96x128 .f32) (harg17 : arg17.IsWhole) (arg18 : Memref sig .tc .vmem S96x128 .f32) (harg18 : arg18.IsWhole)
  (arg19 : Memref sig .tc .vmem S32x120x128 .bf16) (harg19 : arg19.IsWhole) (arg20 : Memref sig .tc .vmem S32x240x128 .bf16) (harg20 : arg20.IsWhole)
  (x0 : Vec Ideal S1x2x2048x128 .bf16) (x1 : Vec Ideal S1x1x2048x128 .bf16) (x2 : Vec Ideal S1x1x2048x128 .bf16) (x3 : Vec Ideal S1x1x40x2048 .bf16) (xs0 : Vec Ideal S256x256 .bf16)

variable {x0 x1 x2 x3 xs0}

/-- The triangle the first grid point reads back. -/
theorem triA_is : Is (triA (F := Ideal) arg13) triS := by
  unfold triA triL rTri
  rw [View.readCov_unit_zero arg13.view (View.eq_zero_of_forall (by intro a; fin_cases a <;> rfl))]
  exact triW_is

/-- The triangle the other grid points read. -/
theorem triB_is (h : Is xs0 triS) : Is (triB (F := Ideal) arg13 harg13 xs0) triS := by
  unfold triB rTri
  rw [View.readAt_eq_ld, harg13.read_unread, View.ld_unit_zero (View.eq_zero_of_forall (by intro a; fin_cases a <;> rfl))]
  exact h

variable (B : Block x0 x1 x2 x3)

/-- The inputs of the first grid point. -/
@[reducible] def inA : Inputs (envA arg2 harg2 arg3 harg3 arg4 harg4 arg5 harg5 arg9 arg11 arg13 arg14 arg15 arg16 arg17 arg18 arg19 arg20 x0 x1 x2 x3) :=
  { q := B.q, k := B.k, v := B.v, f := B.f, hq := B.hq, hk := B.hk, hv := B.hv, hf := B.hf, bq := B.bq, bk := B.bk, bf := B.bf, tri := triA_is arg13 }

/-- The inputs of the other grid points. -/
@[reducible] def inB (h : Is xs0 triS) : Inputs (envB arg2 harg2 arg3 harg3 arg4 harg4 arg5 harg5 arg9 arg11 arg13 harg13 arg14 arg15 arg16 arg17 arg18 arg19 arg20 x0 x1 x2 x3 xs0) :=
  { q := B.q, k := B.k, v := B.v, f := B.f, hq := B.hq, hk := B.hk, hv := B.hv, hf := B.hf, bq := B.bq, bk := B.bk, bf := B.bf, tri := triB_is arg13 harg13 h }

section
variable (hc0 : cond0_0 i)

/-- The outputs of the first grid point. -/
theorem outA_o (hd : Fin 2) (t : Fin 2048) (d : Fin 128) : (out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3) (ix4 0 hd t d) = ((outS B.f B.k B.v (B.q hd t) t d : ℝ) : EReal) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3), runA_o]
  exact o_out (inA arg2 harg2 arg3 harg3 arg4 harg4 arg5 harg5 arg9 arg11 arg13 arg14 arg15 arg16 arg17 arg18 arg19 arg20 B) hd t d

/-- The final key state of the first grid point. -/
theorem outA_ks : Is4 (out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3) (fun j d => stS B.f B.k 32 j d) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3), runA_ks]
  exact ks_out (inA arg2 harg2 arg3 harg3 arg4 harg4 arg5 harg5 arg9 arg11 arg13 arg14 arg15 arg16 arg17 arg18 arg19 arg20 B)

/-- The final value state of the first grid point. -/
theorem outA_vs : Is4 (out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3) (fun j d => stS B.f B.v 32 j d) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3), runA_vs]
  exact vs_out (inA arg2 harg2 arg3 harg3 arg4 harg4 arg5 harg5 arg9 arg11 arg13 arg14 arg15 arg16 arg17 arg18 arg19 arg20 B)

/-- The triangle the first grid point leaves. -/
theorem soutA_tri : Is (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3) triS := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3)]
  show Is (View.canon (Val := Elt Ideal) (triL (F := Ideal))) triS
  unfold triL rTri
  rw [View.canon_unit_zero (View.eq_zero_of_forall (by intro a; fin_cases a <;> rfl))]
  exact triW_is
end

section
variable (hc0 : ¬cond0_0 i) (h : Is xs0 triS)

include h in
/-- The outputs of the other grid points. -/
theorem outB_o (hd : Fin 2) (t : Fin 2048) (d : Fin 128) : (out0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0) (ix4 0 hd t d) = ((outS B.f B.k B.v (B.q hd t) t d : ℝ) : EReal) := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0), runB_o]
  exact o_out (inB arg2 harg2 arg3 harg3 arg4 harg4 arg5 harg5 arg9 arg11 arg13 harg13 arg14 arg15 arg16 arg17 arg18 arg19 arg20 B h) hd t d

include h in
/-- The final key state of the other grid points. -/
theorem outB_ks : Is4 (out0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0) (fun j d => stS B.f B.k 32 j d) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0), runB_ks]
  exact ks_out (inB arg2 harg2 arg3 harg3 arg4 harg4 arg5 harg5 arg9 arg11 arg13 harg13 arg14 arg15 arg16 arg17 arg18 arg19 arg20 B h)

include h in
/-- The final value state of the other grid points. -/
theorem outB_vs : Is4 (out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0) (fun j d => stS B.f B.v 32 j d) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 xs0), runB_vs]
  exact vs_out (inB arg2 harg2 arg3 harg3 arg4 harg4 arg5 harg5 arg9 arg11 arg13 harg13 arg14 arg15 arg16 arg17 arg18 arg19 arg20 B h)

end

end Cert.KernelIdeal.Model

end
-- ==== Proof.Ref.Scalar.lean ====
/- The reference's steps on single real numbers: the largest element of a set, the power-of-two scale and what dividing
   and multiplying by it does, the log gate. -/
module

public import proofs.«01_k».proof.Proof.Kern.Chunks
public import proofs.«01_k».proof.Proof.Kern.Power
public import Idealize.ShloMosaic.PureOps.Ideal.Laws
public import Idealize.ShloMosaic.Lib.IdealHost

@[expose] public section

noncomputable section

namespace Cert.ReferenceIdeal.Model

open Idealize.ShloMosaic

/-- The host's maximum over some axes, of real elements: a real number that bounds them and is one of them. -/
theorem reduce_max {s t u : Shape} {axes : List (Fin s.rank)} (x : s.Idx → EReal) (y : s.Idx → ℝ) (hx : ∀ i, x i = (y i : EReal))
    (init : u.Idx → EReal) (hi : ∀ i, init i = ⊥) (h : s.ReducesTo axes t) (hu : 0 < u.numel) (j : t.Idx) (i₀ : s.Idx) (h₀ : h.drop i₀ = j) :
    ∃ M : ℝ, Host.reduce (FloatOps.maximumf (F := Ideal) (φ := .f32)) x init h hu j = (M : EReal) ∧
      (∀ i, h.drop i = j → y i ≤ M) ∧ ∃ i, h.drop i = j ∧ y i = M := by
  rw [Host.reduce_eq_fold]
  have e : ∀ S : Finset s.Idx, S.fold (FloatOps.maximumf (F := Ideal) (φ := .f32)) (init (Shape.Idx.first hu)) x = S.fold max (⊥ : EReal) x := fun S => by
    rw [hi]; rfl
  rw [e]
  set m := (Finset.univ.filter fun i => h.drop i = j).fold max (⊥ : EReal) x with hm
  have le : ∀ i, h.drop i = j → x i ≤ m := fun i hd => (Finset.le_fold_max _).2 (Or.inr ⟨i, by simp [hd], le_rfl⟩)
  have lt : m < ⊤ := (Finset.fold_max_lt _).2 ⟨bot_lt_top, fun i _ => by rw [hx]; exact EReal.coe_lt_top _⟩
  have gt : ⊥ < m := lt_of_lt_of_le (by rw [hx]; exact EReal.bot_lt_coe _) (le i₀ h₀)
  have le' : ∀ i, h.drop i = j → y i ≤ m.toReal := fun i hd => by
    have := le i hd
    rw [hx, ← EReal.coe_toReal lt.ne gt.ne'] at this
    exact EReal.coe_le_coe_iff.1 this
  obtain ⟨i₁, h₁, hmax⟩ := Finset.exists_max_image (Finset.univ.filter fun i => h.drop i = j) y ⟨i₀, by simp [h₀]⟩
  have hd₁ : h.drop i₁ = j := (Finset.mem_filter.1 h₁).2
  refine ⟨m.toReal, (EReal.coe_toReal lt.ne gt.ne').symm, le', i₁, hd₁, le_antisymm (le' i₁ hd₁) ?_⟩
  have : m ≤ x i₁ := (Finset.fold_max_le _).2 ⟨bot_le, fun i hi' => by rw [hx, hx]; exact EReal.coe_le_coe_iff.2 (hmax i hi')⟩
  rw [hx, ← EReal.coe_toReal lt.ne gt.ne'] at this
  exact EReal.coe_le_coe_iff.1 this

/-- One over 448, as an f32 rounds it. -/
theorem ofBits_inv448 : Ideal.ofBits .f32 0x3B124925#32 = ((9586981 / 2 ^ 32 : ℝ) : EReal) := by
  simp [Ideal.ofBits, Ideal.ieee, -EReal.coe_mul]; norm_num

/-- The least normal f32. -/
theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_m448 : Ideal.ofBits .f32 0xC3E00000#32 = ((-448 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_ninf : Ideal.ofBits .f32 0xFF800000#32 = ⊥ := by
  simp [Ideal.ofBits, Ideal.ieee]

/-- A selection on a comparison is an `if`. -/
theorem select_lt (a b x y : EReal) : Scalar.select (Ideal.cmp .olt a b) x y = if a < b then x else y := by
  unfold Scalar.select Ideal.cmp
  by_cases h : a < b <;> simp [h]

theorem ofBits_least : Ideal.ofBits .f32 0x00800000#32 = (((2 : ℝ) ^ (-126 : ℤ) : ℝ) : EReal) := by
  simp [Ideal.ofBits, Ideal.ieee, -EReal.coe_mul]; norm_num

open KernelIdeal.Model in
/-- The scale as the reference computes it from the block's largest magnitude: positive, and no magnitude is more than
    448 times it. -/
theorem scale_spec (A : ℝ) (hA : 0 ≤ A) :
    0 < scaleOf A ∧ A ≤ 448 * scaleOf A ∧
      Scalar.select (Ideal.cmp .olt ((A : EReal) * Ideal.ofBits .f32 0x3B124925#32) (Ideal.ofBits .f32 0x00800000#32)) (Ideal.ofBits .f32 0x3F800000#32)
        (Ideal.pow (Ideal.ofBits .f32 0x40000000#32) (Ideal.liftRound Int.floor (Ideal.div (Ideal.log ((A : EReal) * Ideal.ofBits .f32 0x3B124925#32))
          (Ideal.log (Ideal.ofBits .f32 0x40000000#32))) + Ideal.ofBits .f32 0x3F800000#32)) = (scaleOf A : EReal) := by
  have hpart : A * (9586981 / 2 ^ 32) = part A := by unfold part; norm_num
  have h3 : A ≤ 448 * part A := by rw [← hpart]; norm_num; linarith
  rw [ofBits_inv448, ofBits_least, ofBits_two, ofBits_one, select_lt, ← EReal.coe_mul, hpart]
  by_cases h : part A < (2 : ℝ) ^ (-126 : ℤ)
  · rw [if_pos (EReal.coe_lt_coe_iff.2 h), scaleOf_low h]
    refine ⟨one_pos, ?_, rfl⟩
    have : (2 : ℝ) ^ (-126 : ℤ) ≤ 1 := zpow_le_one_of_nonpos₀ (by norm_num) (by norm_num)
    linarith
  · have hpos : 0 < part A := lt_of_lt_of_le (by positivity) (not_lt.1 h)
    have hl : 0 < Real.log 2 := Real.log_pos (by norm_num)
    rw [if_neg (fun h' => h (EReal.coe_lt_coe_iff.1 h')), Ideal.log_coe, if_neg (not_le.2 hpos), Ideal.log_coe, if_neg (by norm_num),
      Ideal.div_coe hl.ne', ← EReal.coe_mul, Ideal.liftRound_coe, ← EReal.coe_add, Ideal.pow_coe_coe, mul_one_div]
    have hs : scaleOf A = (2 : ℝ) ^ ((⌊Real.log (part A) / Real.log 2⌋ : ℝ) + 1) := by
      rw [scaleOf, if_neg h, ← Real.rpow_intCast]; push_cast; rfl
    rw [hs]
    refine ⟨Real.rpow_pos_of_pos (by norm_num) _, h3.trans (mul_le_mul_of_nonneg_left (le_of_lt ?_) (by norm_num)), rfl⟩
    rw [← Real.log_lt_log_iff hpos (Real.rpow_pos_of_pos (by norm_num) _), Real.log_rpow (by norm_num)]
    exact (div_lt_iff₀ hl).1 (Int.lt_floor_add_one _)

/-- Dividing by such a scale, clipping at 448 and multiplying back is the identity. -/
theorem clip_spec (x s : ℝ) (hs : 0 < s) (hx : |x| ≤ 448 * s) :
    min (Ideal.ofBits .f32 0x43E00000#32) (max (Ideal.ofBits .f32 0xC3E00000#32) (Ideal.div (x : EReal) (s : EReal))) * (s : EReal) = (x : EReal) := by
  have h1 : x * (1 / s) ≤ 448 := by rw [mul_one_div, div_le_iff₀ hs]; exact (le_abs_self x).trans hx
  have h2 : -448 ≤ x * (1 / s) := by rw [mul_one_div, le_div_iff₀ hs]; linarith [neg_abs_le x]
  rw [ofBits_448, ofBits_m448, Ideal.div_coe hs.ne', ← EReal.coe_mul, max_eq_right (EReal.coe_le_coe_iff.2 h2), min_eq_right (EReal.coe_le_coe_iff.2 h1),
    ← EReal.coe_mul, mul_assoc, one_div_mul_cancel hs.ne', mul_one]

/-- The log gate as the reference computes it. -/
theorem gate_spec (f : ℝ) :
    Ideal.div (-(Scalar.select (Ideal.cmp .une (-(f : EReal) - Ideal.ofBits .f32 0x00000000#32) (-(f : EReal) - Ideal.ofBits .f32 0x00000000#32))
      (-(f : EReal) + Ideal.ofBits .f32 0x00000000#32)
      (max (-(f : EReal)) (Ideal.ofBits .f32 0x00000000#32) + Ideal.log1p (Ideal.exp (-(max (-(f : EReal) - Ideal.ofBits .f32 0x00000000#32)
        (-(-(f : EReal) - Ideal.ofBits .f32 0x00000000#32)))))))) (Ideal.ofBits .f32 0x41000000#32) = ((KernelIdeal.Model.gate f : ℝ) : EReal) := by
  have hsel : ∀ a x y : EReal, Scalar.select (Ideal.cmp .une a a) x y = y := fun a x y => by
    unfold Scalar.select Ideal.cmp; simp
  have hmax : ∀ a b : ℝ, max (a : EReal) (b : EReal) = ((max a b : ℝ) : EReal) := fun a b => (EReal.coe_strictMono.monotone.map_max).symm
  rw [hsel, ofBits_zero, ofBits_eight, Ideal.div_coe (by norm_num)]
  simp only [← EReal.coe_neg, ← EReal.coe_sub, hmax, Ideal.exp_coe, Ideal.log1p]
  rw [← EReal.coe_one, ← EReal.coe_add, Ideal.log_coe, if_neg (by have := Real.exp_pos (-max (-f - 0) (-(-f - 0))); linarith), ← EReal.coe_add,
    ← EReal.coe_neg, ← EReal.coe_mul]
  congr 1
  unfold KernelIdeal.Model.gate
  have : max (-f - 0) (-(-f - 0)) = |f| := by rw [sub_zero, neg_neg, max_comm]; rfl
  rw [this, zero_sub]
  ring

end Cert.ReferenceIdeal.Model

end
-- ==== Proof.Ref.Deq.lean ====
/- The reference's dequantised queries and keys are the queries and the keys: whatever the scale, the codes times it are
   the block. -/
module

public import proofs.«01_k».proof.Proof.Ref.Scalar
public import proofs.«01_k».proof.Proof.Gen.ReferenceIdeal.Read

@[expose] public section

set_option maxRecDepth 16384

noncomputable section

namespace Cert.ReferenceIdeal.Model

open Idealize.ShloMosaic Cert.ReferenceIdeal Cert.ReferenceIdeal.Gen Cert.ReferenceIdeal.Read

/-- The queries' blocks, as reals. -/
def blkQ (q : S12x2048x20x128.Idx → ℝ) (i : S12x32x64x20x128.Idx) : ℝ := q (idx_main_v1 i)
/-- The keys' blocks, as reals. -/
def blkK (k : S12x2048x10x128.Idx → ℝ) (i : S12x32x64x10x128.Idx) : ℝ := k (idx_main_v29 i)

theorem v1_is {x0 : S12x2048x20x128.Idx → EReal} {q : S12x2048x20x128.Idx → ℝ} (hq : ∀ i, x0 i = (q i : EReal)) (i : S12x32x64x20x128.Idx) :
    val_main_v1 (F := Ideal) x0 i = (blkQ q i : EReal) := by
  rw [val_main_v1_apply, val_main_v0_apply]; exact hq _

theorem v29_is {x1 : S12x2048x10x128.Idx → EReal} {k : S12x2048x10x128.Idx → ℝ} (hk : ∀ i, x1 i = (k i : EReal)) (i : S12x32x64x10x128.Idx) :
    val_main_v29 (F := Ideal) x1 i = (blkK k i : EReal) := by
  rw [val_main_v29_apply, val_main_v28_apply]; exact hk _

/-- The scale of a queries' block: it bounds the block's magnitudes. -/
theorem v19_is {x0 : S12x2048x20x128.Idx → EReal} {q : S12x2048x20x128.Idx → ℝ} (hq : ∀ i, x0 i = (q i : EReal)) (j : S12x32x20.Idx) :
    ∃ s A : ℝ, 0 < s ∧ val_main_v19 (F := Ideal) x0 j = (s : EReal) ∧
      (∀ i : S12x32x64x20x128.Idx, (i 0).val = (j 0).val → (i 1).val = (j 1).val → (i 3).val = (j 2).val → |blkQ q i| ≤ 448 * s) ∧
      s = KernelIdeal.Model.scaleOf A ∧ (∀ i : S12x32x64x20x128.Idx, (i 0).val = (j 0).val → (i 1).val = (j 1).val → (i 3).val = (j 2).val → |blkQ q i| ≤ A) ∧
      ∃ i : S12x32x64x20x128.Idx, (i 0).val = (j 0).val ∧ (i 1).val = (j 1).val ∧ (i 3).val = (j 2).val ∧ |blkQ q i| = A := by
  have hd : ∀ i : S12x32x64x20x128.Idx, (i 0).val = (j 0).val → (i 1).val = (j 1).val → (i 3).val = (j 2).val →
      reducesTo_S12x32x64x20x128_S12x32x20_d2_4.drop i = j := fun i h0 h1 h2 => by
    funext a
    fin_cases a
    · exact Fin.ext ((Shape.ReducesTo.drop_apply_val_of_eq _ i 0 0).trans h0)
    · exact Fin.ext ((Shape.ReducesTo.drop_apply_val_of_eq _ i 1 1).trans h1)
    · exact Fin.ext ((Shape.ReducesTo.drop_apply_val_of_eq _ i 2 3).trans h2)
  let i₀ : S12x32x64x20x128.Idx := fun a => match a with
    | ⟨0, _⟩ => j 0 | ⟨1, _⟩ => j 1 | ⟨2, _⟩ => (0 : Fin 64) | ⟨3, _⟩ => j 2 | ⟨4, _⟩ => (0 : Fin 128)
  obtain ⟨A, hA, hle, i₁, hi₁, hA₁⟩ := reduce_max (val_main_v2 (F := Ideal) x0) (fun i => |blkQ q i|)
    (fun i => by
      rw [val_main_v2_apply, v1_is hq]
      exact (EReal.coe_strictMono.monotone.map_max (a := blkQ q i) (b := -blkQ q i)).symm)
    (val_main_cst (F := Ideal)) (fun i => ofBits_ninf) reducesTo_S12x32x64x20x128_S12x32x20_d2_4 h_S_ j i₀ (hd i₀ rfl rfl rfl)
  obtain ⟨hs, hAs, e⟩ := scale_spec A ((abs_nonneg _).trans (hle i₀ (hd i₀ rfl rfl rfl)))
  refine ⟨_, A, hs, ?_, fun i h0 h1 h2 => (hle i (hd i h0 h1 h2)).trans hAs, rfl, fun i h0 h1 h2 => hle i (hd i h0 h1 h2), i₁, ?_, ?_, ?_, hA₁⟩
  · have h3 : val_main_v3 (F := Ideal) x0 j = (A : EReal) := hA
    rw [val_main_v19_apply, val_main_v16_apply, val_main_v14_apply, h3, val_main_v18_apply, val_main_v12_apply, val_main_v10_apply,
      val_main_v9_apply, val_main_v6_apply, val_main_v5_apply, h3]
    exact e
  · exact (Shape.ReducesTo.drop_apply_val_of_eq reducesTo_S12x32x64x20x128_S12x32x20_d2_4 i₁ 0 0).symm.trans (congrArg (fun j' : S12x32x20.Idx => (j' 0).val) hi₁)
  · exact (Shape.ReducesTo.drop_apply_val_of_eq reducesTo_S12x32x64x20x128_S12x32x20_d2_4 i₁ 1 1).symm.trans (congrArg (fun j' : S12x32x20.Idx => (j' 1).val) hi₁)
  · exact (Shape.ReducesTo.drop_apply_val_of_eq reducesTo_S12x32x64x20x128_S12x32x20_d2_4 i₁ 2 3).symm.trans (congrArg (fun j' : S12x32x20.Idx => (j' 2).val) hi₁)

/-- The scale of a keys' block. -/
theorem v47_is {x1 : S12x2048x10x128.Idx → EReal} {k : S12x2048x10x128.Idx → ℝ} (hk : ∀ i, x1 i = (k i : EReal)) (j : S12x32x10.Idx) :
    ∃ s A : ℝ, 0 < s ∧ val_main_v47 (F := Ideal) x1 j = (s : EReal) ∧
      (∀ i : S12x32x64x10x128.Idx, (i 0).val = (j 0).val → (i 1).val = (j 1).val → (i 3).val = (j 2).val → |blkK k i| ≤ 448 * s) ∧
      s = KernelIdeal.Model.scaleOf A ∧ (∀ i : S12x32x64x10x128.Idx, (i 0).val = (j 0).val → (i 1).val = (j 1).val → (i 3).val = (j 2).val → |blkK k i| ≤ A) ∧
      ∃ i : S12x32x64x10x128.Idx, (i 0).val = (j 0).val ∧ (i 1).val = (j 1).val ∧ (i 3).val = (j 2).val ∧ |blkK k i| = A := by
  have hd : ∀ i : S12x32x64x10x128.Idx, (i 0).val = (j 0).val → (i 1).val = (j 1).val → (i 3).val = (j 2).val →
      reducesTo_S12x32x64x10x128_S12x32x10_d2_4.drop i = j := fun i h0 h1 h2 => by
    funext a
    fin_cases a
    · exact Fin.ext ((Shape.ReducesTo.drop_apply_val_of_eq _ i 0 0).trans h0)
    · exact Fin.ext ((Shape.ReducesTo.drop_apply_val_of_eq _ i 1 1).trans h1)
    · exact Fin.ext ((Shape.ReducesTo.drop_apply_val_of_eq _ i 2 3).trans h2)
  let i₀ : S12x32x64x10x128.Idx := fun a => match a with
    | ⟨0, _⟩ => j 0 | ⟨1, _⟩ => j 1 | ⟨2, _⟩ => (0 : Fin 64) | ⟨3, _⟩ => j 2 | ⟨4, _⟩ => (0 : Fin 128)
  obtain ⟨A, hA, hle, i₁, hi₁, hA₁⟩ := reduce_max (val_main_v30 (F := Ideal) x1) (fun i => |blkK k i|)
    (fun i => by
      rw [val_main_v30_apply, v29_is hk]
      exact (EReal.coe_strictMono.monotone.map_max (a := blkK k i) (b := -blkK k i)).symm)
    (val_main_cst_9 (F := Ideal)) (fun i => ofBits_ninf) reducesTo_S12x32x64x10x128_S12x32x10_d2_4 h_S_ j i₀ (hd i₀ rfl rfl rfl)
  obtain ⟨hs, hAs, e⟩ := scale_spec A ((abs_nonneg _).trans (hle i₀ (hd i₀ rfl rfl rfl)))
  refine ⟨_, A, hs, ?_, fun i h0 h1 h2 => (hle i (hd i h0 h1 h2)).trans hAs, rfl, fun i h0 h1 h2 => hle i (hd i h0 h1 h2), i₁, ?_, ?_, ?_, hA₁⟩
  · have h3 : val_main_v31 (F := Ideal) x1 j = (A : EReal) := hA
    rw [val_main_v47_apply, val_main_v44_apply, val_main_v42_apply, h3, val_main_v46_apply, val_main_v40_apply, val_main_v38_apply,
      val_main_v37_apply, val_main_v34_apply, val_main_v33_apply, h3]
    exact e
  · exact (Shape.ReducesTo.drop_apply_val_of_eq reducesTo_S12x32x64x10x128_S12x32x10_d2_4 i₁ 0 0).symm.trans (congrArg (fun j' : S12x32x10.Idx => (j' 0).val) hi₁)
  · exact (Shape.ReducesTo.drop_apply_val_of_eq reducesTo_S12x32x64x10x128_S12x32x10_d2_4 i₁ 1 1).symm.trans (congrArg (fun j' : S12x32x10.Idx => (j' 1).val) hi₁)
  · exact (Shape.ReducesTo.drop_apply_val_of_eq reducesTo_S12x32x64x10x128_S12x32x10_d2_4 i₁ 2 3).symm.trans (congrArg (fun j' : S12x32x10.Idx => (j' 2).val) hi₁)

/-- A block's codes times its scale are the block. -/
theorem v26_is {x0 : S12x2048x20x128.Idx → EReal} {q : S12x2048x20x128.Idx → ℝ} (hq : ∀ i, x0 i = (q i : EReal)) (i : S12x32x64x20x128.Idx) :
    val_main_v26 (F := Ideal) x0 i = (blkQ q i : EReal) := by
  obtain ⟨s, A, hs, e, hle, _⟩ := v19_is hq (idx_main_v20 (idx_main_v21 i))
  rw [val_main_v26_apply, val_main_v23_apply, val_main_call1_v2_apply, val_main_v22_apply, val_main_v21_apply, val_main_v20_apply, val_main_v25_apply,
    val_main_v24_apply, e, v1_is hq]
  exact clip_spec (blkQ q i) s hs (hle i rfl rfl rfl)

theorem v54_is {x1 : S12x2048x10x128.Idx → EReal} {k : S12x2048x10x128.Idx → ℝ} (hk : ∀ i, x1 i = (k i : EReal)) (i : S12x32x64x10x128.Idx) :
    val_main_v54 (F := Ideal) x1 i = (blkK k i : EReal) := by
  obtain ⟨s, A, hs, e, hle, _⟩ := v47_is hk (idx_main_v48 (idx_main_v49 i))
  rw [val_main_v54_apply, val_main_v51_apply, val_main_call3_v2_apply, val_main_v50_apply, val_main_v49_apply, val_main_v48_apply, val_main_v53_apply,
    val_main_v52_apply, e, v29_is hk]
  exact clip_spec (blkK k i) s hs (hle i rfl rfl rfl)

/-- The dequantised keys are the keys. -/
theorem v55_is {x1 : S12x2048x10x128.Idx → EReal} {k : S12x2048x10x128.Idx → ℝ} (hk : ∀ i, x1 i = (k i : EReal)) (i : S12x2048x10x128.Idx) :
    val_main_v55 (F := Ideal) x1 i = (k i : EReal) := by
  rw [val_main_v55_apply, v54_is hk, blkK]
  congr 2
  have h0 : (i 0).val < 12 := (i 0).isLt
  have h1 : (i 1).val < 2048 := (i 1).isLt
  have h2 : (i 2).val < 10 := (i 2).isLt
  have h3 : (i 3).val < 128 := (i 3).isLt
  funext a
  fin_cases a <;> refine Fin.ext ?_ <;> dsimp <;> omega

/-- The dequantised queries, by group and head of the group, are the queries. -/
theorem v56_is {x0 : S12x2048x20x128.Idx → EReal} {q : ℕ → ℕ → ℕ → ℕ → ℝ}
    (hq : ∀ i, x0 i = (q (i 0).val (i 1).val (i 2).val (i 3).val : EReal)) (i : S12x2048x10x2x128.Idx) :
    val_main_v56 (F := Ideal) x0 i = (q (i 0).val (i 1).val (2 * (i 2).val + (i 3).val) (i 4).val : EReal) := by
  rw [val_main_v56_apply, val_main_v27_apply, v26_is (q := fun i => q (i 0).val (i 1).val (i 2).val (i 3).val) hq, blkQ]
  have h0 : (i 0).val < 12 := (i 0).isLt
  have h1 : (i 1).val < 2048 := (i 1).isLt
  have h2 : (i 2).val < 10 := (i 2).isLt
  have h3 : (i 3).val < 2 := (i 3).isLt
  have h4 : (i 4).val < 128 := (i 4).isLt
  congr 2 <;> dsimp <;> omega

end Cert.ReferenceIdeal.Model

end
-- ==== Proof.Ref.Weights.lean ====
/- The reference's gates, running sums and weights, and the final states. -/
module

public import proofs.«01_k».proof.Proof.Ref.Deq
public import Idealize.ShloMosaic.Lib.WordCmp

@[expose] public section

set_option maxRecDepth 16384

noncomputable section

namespace Cert.ReferenceIdeal.Model

open Idealize.ShloMosaic Cert.ReferenceIdeal Cert.ReferenceIdeal.Gen Cert.ReferenceIdeal.Read Cert.KernelIdeal.Model

/-- The reference's arguments are real numbers: `q` by batch, step, head and feature, `k` and `v` by batch, step, group
    and feature, `f` by batch, step, group and slot. -/
structure Args (x0 : S12x2048x20x128.Idx → EReal) (x1 x2 : S12x2048x10x128.Idx → EReal) (x3 : S12x2048x10x40.Idx → EReal) where
  q : ℕ → ℕ → ℕ → ℕ → ℝ
  k : ℕ → ℕ → ℕ → ℕ → ℝ
  v : ℕ → ℕ → ℕ → ℕ → ℝ
  f : ℕ → ℕ → ℕ → ℕ → ℝ
  hq : ∀ i, x0 i = (q (i 0).val (i 1).val (i 2).val (i 3).val : EReal)
  hk : ∀ i, x1 i = (k (i 0).val (i 1).val (i 2).val (i 3).val : EReal)
  hv : ∀ i, x2 i = (v (i 0).val (i 1).val (i 2).val (i 3).val : EReal)
  hf : ∀ i, x3 i = (f (i 0).val (i 1).val (i 2).val (i 3).val : EReal)

variable {x0 : S12x2048x20x128.Idx → EReal} {x1 x2 : S12x2048x10x128.Idx → EReal} {x3 : S12x2048x10x40.Idx → EReal}

namespace Args

variable (A : Args x0 x1 x2 x3)

/-- The gates of batch `b`, group `g`, by slot and step. -/
def fB (b g : ℕ) : ℕ → ℕ → ℝ := fun j t => A.f b t g j
def kB (b g : ℕ) : ℕ → ℕ → ℝ := fun t d => A.k b t g d
def vB (b g : ℕ) : ℕ → ℕ → ℝ := fun t d => A.v b t g d
def qB (b g r t : ℕ) : ℕ → ℝ := fun d => A.q b t (2 * g + r) d

end Args

variable (A : Args x0 x1 x2 x3)

/-- The log gates. -/
theorem v61_is (i : S12x2048x10x40.Idx) : val_main_v61 (F := Ideal) x3 i = (laS (A.fB (i 0).val (i 2).val) (i 3).val (i 1).val : EReal) := by
  rw [val_main_v61_apply, val_main_v59_apply, val_main_call4_v1_apply, val_main_call4_call0_v4_apply, val_main_call4_call0_v6_apply, val_main_call4_call0_v11_apply,
    val_main_call4_call0_v1_apply, val_main_call4_call0_v10_apply, val_main_call4_call0_v9_apply, val_main_call4_call0_v8_apply, val_main_call4_call0_v7_apply,
    val_main_call4_call0_v3_apply, val_main_call4_v0_apply, val_main_v58_apply, A.hf]
  exact gate_spec (A.f (i 0).val (i 1).val (i 2).val (i 3).val)

/-- The write gates. -/
theorem v63_is (i : S12x2048x10x40.Idx) : val_main_v63 (F := Ideal) x3 i = (wS (A.fB (i 0).val (i 2).val) (i 3).val (i 1).val : EReal) := by
  rw [val_main_v63_apply, val_main_v62_apply, v61_is A]
  show -(Ideal.exp _ - 1) = _
  rw [Ideal.exp_coe, ← EReal.coe_one, ← EReal.coe_sub, ← EReal.coe_neg, neg_sub]
  rfl

/-- A selection on "step `s` is not after step `t`". -/
theorem select_past {t s : ℕ} (ht : t < 2048) (hs : s < 2048) (x y : EReal) :
    Scalar.select (IntOp.cmpi .sge (BitVec.ofNat 32 t) (BitVec.ofNat 32 s)) x y = if s ≤ t then x else y := by
  rw [WordCmp.cmpi_sge_of_lt (by rw [BitVec.toNat_ofNat]; omega) (by rw [BitVec.toNat_ofNat]; omega), BitVec.toNat_ofNat, BitVec.toNat_ofNat,
    Nat.mod_eq_of_lt (by omega), Nat.mod_eq_of_lt (by omega)]
  unfold Scalar.select
  by_cases h : s ≤ t <;> simp [h]

theorem v73_is (i : S12x2048x2048x10x40.Idx) : val_main_v73 (F := Ideal) x3 i =
    if (i 2).val ≤ (i 1).val then (laS (A.fB (i 0).val (i 3).val) (i 4).val (i 2).val : EReal) else (0 : ℝ) := by
  rw [val_main_v73_apply, val_main_call5_v1_apply, val_main_v71_apply, val_main_v70_apply, val_main_v68_apply, val_main_v65_apply, val_main_v64_apply,
    val_main_v69_apply, val_main_v67_apply, val_main_v66_apply, val_main_call5_v2_apply, val_main_v72_apply, v61_is A, val_main_call5_v3_apply,
    val_main_call5_v0_apply, val_main_cst_20_apply]
  refine (select_past (t := (i 1).val) (s := (i 2).val) (i 1).isLt (i 2).isLt _ _).trans ?_
  rw [← ofBits_zero]
  rfl

/-- A sum over the steps not after `t`. -/
theorem sum_past (a : ℕ → ℝ) (t : ℕ) (ht : t < 2048) : ∑ s ∈ Finset.range 2048, (if s ≤ t then a s else 0) = ∑ s ∈ Finset.range (t + 1), a s := by
  rw [← Finset.sum_filter]
  refine Finset.sum_congr ?_ fun _ _ => rfl
  ext s
  simp only [Finset.mem_filter, Finset.mem_range]
  omega

/-- The running sums. -/
theorem v74_is (i : S12x2048x10x40.Idx) : val_main_v74 (F := Ideal) x3 i = (preS (A.fB (i 0).val (i 2).val) (i 3).val ((i 1).val + 1) : EReal) := by
  rw [val_main_v74_apply]
  have h0 : val_main_cst_21 (F := Ideal) (Shape.Idx.first h_S_) = ((0 : ℝ) : EReal) := ofBits_zero
  have h1 : ∀ k : Fin 2048, val_main_v73 (F := Ideal) x3 (idx_main_v74 i k) =
      ((if k.val ≤ (i 1).val then laS (A.fB (i 0).val (i 2).val) (i 3).val k.val else 0 : ℝ) : EReal) := fun k => by
    rw [v73_is A, apply_ite (Real.toEReal)]
  rw [h0, EReal.coe_zero, zero_add, Finset.sum_congr rfl fun k _ => h1 k, coe_sum]
  congr 1
  rw [preS, ← sum_past _ _ (i 1).isLt, ← Fin.sum_univ_eq_sum_range (fun s => if s ≤ (i 1).val then laS (A.fB (i 0).val (i 2).val) (i 3).val s else 0)]

/-- The weights. -/
theorem v84_is (i : S12x2048x2048x10x40.Idx) : val_main_v84 (F := Ideal) x3 i =
    (weS (A.fB (i 0).val (i 3).val) (i 4).val (i 1).val (i 2).val : EReal) := by
  rw [val_main_v84_apply, val_main_call6_v1_apply, val_main_v71_apply, val_main_v70_apply, val_main_v68_apply, val_main_v65_apply, val_main_v64_apply,
    val_main_v69_apply, val_main_v67_apply, val_main_v66_apply, val_main_call6_v2_apply, val_main_call6_v0_apply, val_main_cst_22_apply,
    val_main_v83_apply, val_main_v80_apply, val_main_v79_apply, val_main_v77_apply, val_main_v75_apply, val_main_v78_apply, val_main_v76_apply,
    val_main_v82_apply, val_main_v81_apply, v63_is A, v74_is A, v74_is A]
  refine (select_past (t := (i 1).val) (s := (i 2).val) (i 1).isLt (i 2).isLt _ _).trans ?_
  rw [weS, apply_ite (Real.toEReal), EReal.coe_mul, ← Ideal.exp_coe, EReal.coe_sub, ← ofBits_zero]
  rfl

theorem v86_is (i : S12x2048x10x40.Idx) : val_main_v86 (F := Ideal) x3 i = (weS (A.fB (i 0).val (i 2).val) (i 3).val 2047 (i 1).val : EReal) := by
  rw [val_main_v86_apply, val_main_v85_apply, v84_is A]
  have h0 : (i 0).val < 12 := (i 0).isLt
  have h1 : (i 1).val < 2048 := (i 1).isLt
  have h2 : (i 2).val < 10 := (i 2).isLt
  have h3 : (i 3).val < 40 := (i 3).isLt
  congr 2 <;> first | (dsimp; omega) | (congr 1 <;> dsimp <;> omega)

theorem v89_is (i : S12x2048x10x40.Idx) : val_main_v89 (F := Ideal) x3 i = (weS (A.fB (i 0).val (i 2).val) (i 3).val 2047 (i 1).val : EReal) := v86_is A i

/-- The values, widened. -/
theorem v57_is (i : S12x2048x10x128.Idx) : val_main_v57 (F := Ideal) x2 i = (A.v (i 0).val (i 1).val (i 2).val (i 3).val : EReal) := by
  rw [val_main_v57_apply]; exact A.hv _

/-- The final key state. -/
theorem v87_is (i : S12x10x40x128.Idx) : val_main_v87 (F := Ideal) x1 x3 i =
    (stS (A.fB (i 0).val (i 1).val) (A.kB (i 0).val (i 1).val) 32 (i 2).val (i 3).val : EReal) := by
  rw [val_main_v87_apply, st_last, Finset.sum_range, ← coe_sum]
  refine Finset.sum_congr rfl fun s _ => ?_
  rw [v86_is A, v55_is A.hk, EReal.coe_mul]
  rfl

/-- The final value state. -/
theorem v90_is (i : S12x10x40x128.Idx) : val_main_v90 (F := Ideal) x2 x3 i =
    (stS (A.fB (i 0).val (i 1).val) (A.vB (i 0).val (i 1).val) 32 (i 2).val (i 3).val : EReal) := by
  rw [val_main_v90_apply, st_last, Finset.sum_range, ← coe_sum]
  refine Finset.sum_congr rfl fun s _ => ?_
  rw [v89_is A, v57_is A, EReal.coe_mul]
  rfl

end Cert.ReferenceIdeal.Model

end
-- ==== Proof.Ref.Out.lean ====
/- The reference's logits, softmax and outputs. -/
module

public import proofs.«01_k».proof.Proof.Ref.Weights

@[expose] public section

set_option maxRecDepth 16384

noncomputable section

namespace Cert.ReferenceIdeal.Model

open Idealize.ShloMosaic Cert.ReferenceIdeal Cert.ReferenceIdeal.Gen Cert.ReferenceIdeal.Read Cert.KernelIdeal.Model

variable {x0 : S12x2048x20x128.Idx → EReal} {x1 x2 : S12x2048x10x128.Idx → EReal} {x3 : S12x2048x10x40.Idx → EReal}
variable (A : Args x0 x1 x2 x3)

/-- The products of queries and keys. -/
theorem v92_is (i : S12x10x2x2048x2048.Idx) : val_main_v92 (F := Ideal) x0 x1 i =
    (∑ d ∈ Finset.range 128, A.qB (i 0).val (i 1).val (i 2).val (i 3).val d * A.kB (i 0).val (i 1).val (i 4).val d : ℝ) := by
  rw [val_main_v92_apply, val_main_v91_apply, Finset.sum_range, ← coe_sum]
  refine Finset.sum_congr rfl fun d _ => ?_
  rw [v55_is A.hk, v56_is A.hq, mul_comm, EReal.coe_mul]
  rfl

/-- The logits. -/
theorem v97_is (i : S12x10x2x2048x40.Idx) : val_main_v97 (F := Ideal) x0 x1 x3 i =
    (zR (A.fB (i 0).val (i 1).val) (A.kB (i 0).val (i 1).val) (A.qB (i 0).val (i 1).val (i 2).val (i 3).val) (i 3).val (i 4).val : EReal) := by
  have h1 : val_main_v96 (F := Ideal) i = ((Real.sqrt 128 : ℝ) : EReal) := by
    rw [val_main_v96_apply, val_main_v95_apply, val_main_cst_23_apply]
    show Ideal.sqrt (Ideal.ofBits .f32 0x43000000#32) = _
    rw [ofBits_128, Ideal.sqrt_coe, if_neg (by norm_num)]
  have h2 : val_main_v94 (F := Ideal) x0 x1 x3 i = (∑ s ∈ Finset.range 2048, (∑ d ∈ Finset.range 128,
      A.qB (i 0).val (i 1).val (i 2).val (i 3).val d * A.kB (i 0).val (i 1).val s d) * weS (A.fB (i 0).val (i 1).val) (i 4).val (i 3).val s : ℝ) := by
    rw [val_main_v94_apply, val_main_v93_apply, Finset.sum_range, ← coe_sum]
    refine Finset.sum_congr rfl fun s _ => ?_
    rw [v84_is A, v92_is A, mul_comm, EReal.coe_mul]
  rw [val_main_v97_apply, h1, h2]
  show Ideal.div _ _ = _
  rw [Ideal.div_coe (Real.sqrt_pos.2 (by norm_num)).ne', ← EReal.coe_mul, mul_one_div]
  rfl

/-- The softmax over the slots: the shift by the largest logit cancels. -/
theorem v108_is (i : S12x10x2x2048x40.Idx) : val_main_v108 (F := Ideal) x0 x1 x3 i =
    (pS (A.fB (i 0).val (i 1).val) (A.kB (i 0).val (i 1).val) (A.qB (i 0).val (i 1).val (i 2).val (i 3).val) (i 3).val (i 4).val : EReal) := by
  let j : S12x10x2x2048.Idx := idx_main_v101 (idx_main_v102 i)
  let z : ℕ → ℝ := zR (A.fB (i 0).val (i 1).val) (A.kB (i 0).val (i 1).val) (A.qB (i 0).val (i 1).val (i 2).val (i 3).val) (i 3).val
  have hd : reducesTo_S12x10x2x2048x40_S12x10x2x2048_d4.drop i = j := by
    funext a
    fin_cases a
    · exact Fin.ext (Shape.ReducesTo.drop_apply_val_of_eq _ i 0 0)
    · exact Fin.ext (Shape.ReducesTo.drop_apply_val_of_eq _ i 1 1)
    · exact Fin.ext (Shape.ReducesTo.drop_apply_val_of_eq _ i 2 2)
    · exact Fin.ext (Shape.ReducesTo.drop_apply_val_of_eq _ i 3 3)
  obtain ⟨M, hM, -⟩ := reduce_max (val_main_v97 (F := Ideal) x0 x1 x3) _ (v97_is A) (val_main_cst_24 (F := Ideal)) (fun i => ofBits_ninf)
    reducesTo_S12x10x2x2048x40_S12x10x2x2048_d4 h_S_ j i hd
  have h96 : val_main_v100 (F := Ideal) x0 x1 x3 j = (M : EReal) := by
    rw [val_main_v100_apply, val_main_v99_apply, val_main_cst_25_apply]
    have h94 : val_main_v98 (F := Ideal) x0 x1 x3 j = (M : EReal) := hM
    rw [h94]
    show max (Ideal.ofBits .f32 0xFF800000#32) (M : EReal) = _
    rw [ofBits_ninf, max_eq_right bot_le]
  have h100 : ∀ i' : S12x10x2x2048x40.Idx, idx_main_v101 (idx_main_v102 i') = j → val_main_v97 (F := Ideal) x0 x1 x3 i' = (z (i' 4).val : EReal) →
      val_main_v104 (F := Ideal) x0 x1 x3 i' = (Real.exp (z (i' 4).val - M) : EReal) := fun i' hj hz => by
    rw [val_main_v104_apply, val_main_v103_apply, val_main_v102_apply, val_main_v101_apply, hj, h96, hz]
    rw [Ideal.hostUnary_exp_def, Ideal.subf_def, ← EReal.coe_sub, Ideal.exp_coe]
  have h101 : val_main_v105 (F := Ideal) x0 x1 x3 (idx_main_v106 (idx_main_v107 i)) = (∑ l ∈ Finset.range 40, Real.exp (z l - M) : ℝ) := by
    have h0 : val_main_cst_26 (F := Ideal) (Shape.Idx.first h_S_) = ((0 : ℝ) : EReal) := ofBits_zero
    rw [val_main_v105_apply, h0, EReal.coe_zero, zero_add, Finset.sum_range, ← coe_sum]
    exact Finset.sum_congr rfl fun l _ => h100 _ rfl (v97_is A _)
  have hpos : 0 < ∑ l ∈ Finset.range 40, Real.exp (z l - M) := Finset.sum_pos (fun _ _ => Real.exp_pos _) ⟨0, by simp⟩
  rw [val_main_v108_apply, val_main_v107_apply, val_main_v106_apply, h101, h100 i rfl (v97_is A i), Ideal.hostDivf_def]
  rw [Ideal.div_coe hpos.ne', ← EReal.coe_mul, mul_one_div]
  refine congrArg Real.toEReal ?_
  have hs : ∀ l, Real.exp (z l - M) = Real.exp (z l) * Real.exp (-M) := fun l => by rw [sub_eq_add_neg, Real.exp_add]
  rw [Finset.sum_congr rfl fun l _ => hs l, hs, ← Finset.sum_mul, mul_div_mul_right _ _ (Real.exp_pos _).ne', pS]

/-- The outputs, in the layout they are returned in. -/
theorem v115_is (i : S12x20x2048x128.Idx) : val_main_v115 (F := Ideal) x0 x1 x2 x3 i =
    (outS (A.fB (i 0).val ((i 1).val / 2)) (A.kB (i 0).val ((i 1).val / 2)) (A.vB (i 0).val ((i 1).val / 2))
      (A.qB (i 0).val ((i 1).val / 2) ((i 1).val % 2) (i 2).val) (i 2).val (i 3).val : EReal) := by
  have h106 : ∀ i : S12x10x2x2048x2048.Idx, val_main_v110 (F := Ideal) x0 x1 x3 i = (∑ j ∈ Finset.range 40,
      pS (A.fB (i 0).val (i 1).val) (A.kB (i 0).val (i 1).val) (A.qB (i 0).val (i 1).val (i 2).val (i 3).val) (i 3).val j *
        weS (A.fB (i 0).val (i 1).val) j (i 3).val (i 4).val : ℝ) := fun i => by
    rw [val_main_v110_apply, val_main_v109_apply, Finset.sum_range, ← coe_sum]
    refine Finset.sum_congr rfl fun j _ => ?_
    rw [v84_is A, v108_is A, mul_comm, EReal.coe_mul]
  have h108 : ∀ i : S12x2048x10x2x128.Idx, val_main_v112 (F := Ideal) x0 x1 x2 x3 i =
      (outS (A.fB (i 0).val (i 2).val) (A.kB (i 0).val (i 2).val) (A.vB (i 0).val (i 2).val)
        (A.qB (i 0).val (i 2).val (i 3).val (i 1).val) (i 1).val (i 4).val : EReal) := fun i => by
    rw [val_main_v112_apply, val_main_v111_apply, outS, Finset.sum_range, ← coe_sum]
    refine Finset.sum_congr rfl fun s _ => ?_
    rw [v57_is A, h106, mul_comm, EReal.coe_mul]
    rfl
  rw [val_main_v115_apply, val_main_v114_apply, val_main_v113_apply]
  refine (h108 _).trans ?_
  have h0 : (i 0).val < 12 := (i 0).isLt
  have h1 : (i 1).val < 20 := (i 1).isLt
  have h2 : (i 2).val < 2048 := (i 2).isLt
  have h3 : (i 3).val < 128 := (i 3).isLt
  generalize hm : idx_main_v113 (idx_main_v115 i) = m
  have e0 : (m 0).val = (i 0).val := by subst hm; dsimp; omega
  have e1 : (m 1).val = (i 2).val := by subst hm; dsimp; omega
  have e2 : (m 2).val = (i 1).val / 2 := by subst hm; dsimp; omega
  have e3 : (m 3).val = (i 1).val % 2 := by subst hm; dsimp; omega
  have e4 : (m 4).val = (i 3).val := by subst hm; dsimp; omega
  rw [e0, e1, e2, e3, e4]

end Cert.ReferenceIdeal.Model

end
-- ==== Proof.Kern.Blocks.lean ====
/- The input blocks of every grid point, in terms of the kernel's arguments. -/
module

public import proofs.«01_k».proof.Proof.Kern.Point
public import proofs.«01_k».proof.Proof.Ref.Out
public import Idealize.ShloMosaic.Lib.StableHlo.Run
public import Idealize.ShloMosaic.Lib.Tactic

@[expose] public section

set_option maxRecDepth 16384

noncomputable section

namespace Cert.KernelIdeal.Model

open Idealize.ShloMosaic Idealize.ShloMosaic.TcCoe Cert.KernelIdeal Cert.KernelIdeal.Gen

/-- Functions of four numbers agree at equal numbers. -/
theorem ap4 (f : ℕ → ℕ → ℕ → ℕ → ℝ) {a b c d a' b' c' d' : ℕ} (ha : a = a') (hb : b = b') (hc : c = c') (hd : d = d') :
    f a b c d = f a' b' c' d' := by subst ha hb hc hd; rfl

variable (m : (ℓ : Loc nD τ sig) → Buf (Elt Ideal) ℓ) (c : Dev nD)

/-- The kernel's arguments, as arrays. -/
abbrev arg0 : S12x2048x20x128.Idx → EReal := m ((c : Thread nD τ).loc main_arg0)
abbrev arg1 : S12x2048x10x128.Idx → EReal := m ((c : Thread nD τ).loc main_arg1)
abbrev arg2 : S12x2048x10x128.Idx → EReal := m ((c : Thread nD τ).loc main_arg2)
abbrev arg3 : S12x2048x10x40.Idx → EReal := m ((c : Thread nD τ).loc main_arg3)

/-- The queries with the heads before the steps. -/
theorem V_main_v0 : V m c main_v0 = transpose S12x20x2048x128 [0, 2, 1, 3] (arg0 m c) transposes_S12x2048x20x128_S12x20x2048x128_0_2_1_3 := by
  show StableHlo.after hostOps0 _ (Proc.devRef .tc main_v0) = _
  after_results
/-- The keys with the groups before the steps. -/
theorem V_main_v1 : V m c main_v1 = transpose S12x10x2048x128 [0, 2, 1, 3] (arg1 m c) transposes_S12x2048x10x128_S12x10x2048x128_0_2_1_3 := by
  show StableHlo.after hostOps0 _ (Proc.devRef .tc main_v1) = _
  after_results
/-- The values likewise. -/
theorem V_main_v2 : V m c main_v2 = transpose S12x10x2048x128 [0, 2, 1, 3] (arg2 m c) transposes_S12x2048x10x128_S12x10x2048x128_0_2_1_3 := by
  show StableHlo.after hostOps0 _ (Proc.devRef .tc main_v2) = _
  after_results
/-- The gate logits with the groups and slots before the steps. -/
theorem V_main_v3 : V m c main_v3 = transpose S12x10x40x2048 [0, 2, 3, 1] (arg3 m c) transposes_S12x2048x10x40_S12x10x40x2048_0_2_3_1 := by
  show StableHlo.after hostOps0 _ (Proc.devRef .tc main_v3) = _
  after_results

/-- The blocks of the four inputs at a grid point: batch `t / 10`, group `t % 10`. -/
theorem idx_in : ∀ t : Fin cfg0.N,
    (win0_0.index t 0 = t.val / 10 ∧ win0_0.index t 1 = t.val % 10 ∧ win0_0.index t 2 = 0 ∧ win0_0.index t 3 = 0)
    ∧ (win0_1.index t 0 = t.val / 10 ∧ win0_1.index t 1 = t.val % 10 ∧ win0_1.index t 2 = 0 ∧ win0_1.index t 3 = 0)
    ∧ (win0_2.index t 0 = t.val / 10 ∧ win0_2.index t 1 = t.val % 10 ∧ win0_2.index t 2 = 0 ∧ win0_2.index t 3 = 0)
    ∧ (win0_3.index t 0 = t.val / 10 ∧ win0_3.index t 1 = t.val % 10 ∧ win0_3.index t 2 = 0 ∧ win0_3.index t 3 = 0) :=
  (by decide +kernel : ∀ t : Fin grid0.N, _)

variable {m c}

/-- The bounds the arguments are held to. -/
structure Bounded (A : Cert.ReferenceIdeal.Model.Args (arg0 m c) (arg1 m c) (arg2 m c) (arg3 m c)) : Prop where
  q : ∀ b t h d, b < 12 → t < 2048 → h < 20 → d < 128 → |A.q b t h d| ≤ (2 : ℝ) ^ 128
  k : ∀ b t g d, b < 12 → t < 2048 → g < 10 → d < 128 → |A.k b t g d| ≤ (2 : ℝ) ^ 128
  f : ∀ b t g j, b < 12 → t < 2048 → g < 10 → j < 40 → |A.f b t g j| ≤ 147 / 16

variable (A : Cert.ReferenceIdeal.Model.Args (arg0 m c) (arg1 m c) (arg2 m c) (arg3 m c)) (hA : Bounded A)

/-- The input blocks of grid point `t`. -/
def block (t : Fin cfg0.N) : Block (iblk m c 0 t) (iblk m c 1 t) (iblk m c 2 t) (iblk m c 3 t) where
  q h s d := A.qB (t.val / 10) (t.val % 10) h s d
  k := A.kB (t.val / 10) (t.val % 10)
  v := A.vB (t.val / 10) (t.val % 10)
  f := A.fB (t.val / 10) (t.val % 10)
  hq h s d := by
    obtain ⟨⟨e0, e1, e2, e3⟩, -, -, -⟩ := idx_in t
    unfold iblk
    rw [View.read_apply]
    show V m c main_v0 _ = _
    rw [V_main_v0]
    refine (A.hq _).trans (congrArg Real.toEReal (ap4 A.q ?_ ?_ ?_ ?_))
    · show win0_0.index t 0 * 1 + 1 * 0 = _; omega
    · show win0_0.index t 2 * 2048 + 1 * s.val = _; omega
    · show win0_0.index t 1 * 2 + 1 * h.val = _; omega
    · show win0_0.index t 3 * 128 + 1 * d.val = _; omega
  hk s d := by
    obtain ⟨-, ⟨e0, e1, e2, e3⟩, -, -⟩ := idx_in t
    unfold iblk
    rw [View.read_apply]
    show V m c main_v1 _ = _
    rw [V_main_v1]
    refine (A.hk _).trans (congrArg Real.toEReal (ap4 A.k ?_ ?_ ?_ ?_))
    · show win0_1.index t 0 * 1 + 1 * 0 = _; omega
    · show win0_1.index t 2 * 2048 + 1 * s.val = _; omega
    · show win0_1.index t 1 * 1 + 1 * 0 = _; omega
    · show win0_1.index t 3 * 128 + 1 * d.val = _; omega
  hv s d := by
    obtain ⟨-, -, ⟨e0, e1, e2, e3⟩, -⟩ := idx_in t
    unfold iblk
    rw [View.read_apply]
    show V m c main_v2 _ = _
    rw [V_main_v2]
    refine (A.hv _).trans (congrArg Real.toEReal (ap4 A.v ?_ ?_ ?_ ?_))
    · show win0_2.index t 0 * 1 + 1 * 0 = _; omega
    · show win0_2.index t 2 * 2048 + 1 * s.val = _; omega
    · show win0_2.index t 1 * 1 + 1 * 0 = _; omega
    · show win0_2.index t 3 * 128 + 1 * d.val = _; omega
  hf j s := by
    obtain ⟨-, -, -, ⟨e0, e1, e2, e3⟩⟩ := idx_in t
    unfold iblk
    rw [View.read_apply]
    show V m c main_v3 _ = _
    rw [V_main_v3]
    refine (A.hf _).trans (congrArg Real.toEReal (ap4 A.f ?_ ?_ ?_ ?_))
    · show win0_3.index t 0 * 1 + 1 * 0 = _; omega
    · show win0_3.index t 3 * 2048 + 1 * s.val = _; omega
    · show win0_3.index t 1 * 1 + 1 * 0 = _; omega
    · show win0_3.index t 2 * 40 + 1 * j.val = _; omega
  bq h s d hh hs hd := hA.q _ _ _ _ (by have := lt_of_lt_of_eq t.isLt N_0; omega) hs (by omega) hd
  bk s d hs hd := hA.k _ _ _ _ (by have := lt_of_lt_of_eq t.isLt N_0; omega) hs (by omega) hd
  bf j s hj hs := hA.f _ _ _ _ (by have := lt_of_lt_of_eq t.isLt N_0; omega) hs (by omega) hj

end Cert.KernelIdeal.Model

end
-- ==== Proof.Kern.Final.lean ====
/- The three results of the kernel, as functions of its arguments. -/
module

public import proofs.«01_k».proof.Proof.Kern.Blocks
public import proofs.«01_k».proof.Proof.Run.KernelIdeal.Value

@[expose] public section

set_option maxRecDepth 16384

noncomputable section

namespace Cert.KernelIdeal.Model

open Idealize.ShloMosaic Idealize.ShloMosaic.TcCoe Cert.KernelIdeal Cert.KernelIdeal.Gen Cert.KernelIdeal.Value

variable {m : (ℓ : Loc nD τ sig) → Buf (Elt Ideal) ℓ} {c : Dev nD}

/-- Every grid point leaves the triangle in the carried scratch: the first stores it, the others leave it be. -/
theorem tri_is : ∀ (n : ℕ) (hn : n < cfg0.N), Is (outsAt0 m c n hn).2.2.2 triS
  | 0, hn => by
    rw [outsAt0_A m c ⟨0, hn⟩ rfl]
    dsimp only
    intro r l
    exact soutA_tri ..
  | n + 1, hn => by
    have hN := lt_of_lt_of_eq hn N_0
    rw [outsAt0_B m c ⟨n + 1, hn⟩ (by dsimp only; omega)]
    dsimp only
    exact tri_is n _

variable (A : Cert.ReferenceIdeal.Model.Args (arg0 m c) (arg1 m c) (arg2 m c) (arg3 m c)) (hA : Bounded A)

include hA in
/-- The outputs a grid point leaves. -/
theorem at_o (t : Fin cfg0.N) (h : Fin 2) (s : Fin 2048) (d : Fin 128) : (outsAt0 m c t.val t.isLt).1 (ix4 0 h s d) =
    ((outS (A.fB (t.val / 10) (t.val % 10)) (A.kB (t.val / 10) (t.val % 10)) (A.vB (t.val / 10) (t.val % 10))
      (A.qB (t.val / 10) (t.val % 10) h s) s d : ℝ) : EReal) := by
  by_cases h0 : t.val % 120 = 0
  · rw [outsAt0_A m c t h0]
    dsimp only
    exact outA_o (B := block A hA t) ..
  · rw [outsAt0_B m c t h0]
    dsimp only
    exact outB_o (B := block A hA t) (h := tri_is (t.val - 1) _) ..

include hA in
/-- The key state a grid point leaves. -/
theorem at_ks (t : Fin cfg0.N) : Is4 (outsAt0 m c t.val t.isLt).2.1
    (fun j d => stS (A.fB (t.val / 10) (t.val % 10)) (A.kB (t.val / 10) (t.val % 10)) 32 j d) := by
  by_cases h0 : t.val % 120 = 0
  · rw [outsAt0_A m c t h0]
    dsimp only
    intro j d
    exact outA_ks (B := block A hA t) ..
  · rw [outsAt0_B m c t h0]
    dsimp only
    intro j d
    exact outB_ks (B := block A hA t) (h := tri_is (t.val - 1) _) ..

include hA in
/-- The value state a grid point leaves. -/
theorem at_vs (t : Fin cfg0.N) : Is4 (outsAt0 m c t.val t.isLt).2.2.1
    (fun j d => stS (A.fB (t.val / 10) (t.val % 10)) (A.vB (t.val / 10) (t.val % 10)) 32 j d) := by
  by_cases h0 : t.val % 120 = 0
  · rw [outsAt0_A m c t h0]
    dsimp only
    intro j d
    exact outA_vs (B := block A hA t) ..
  · rw [outsAt0_B m c t h0]
    dsimp only
    intro j d
    exact outB_vs (B := block A hA t) (h := tri_is (t.val - 1) _) ..

include hA in
/-- The kernel's outputs. -/
theorem G4_is (i : S12x20x2048x128.Idx) : (G4 m c : S12x20x2048x128.Idx → EReal) i =
    (outS (A.fB (i 0).val ((i 1).val / 2)) (A.kB (i 0).val ((i 1).val / 2)) (A.vB (i 0).val ((i 1).val / 2))
      (A.qB (i 0).val ((i 1).val / 2) ((i 1).val % 2) (i 2).val) (i 2).val (i 3).val : EReal) := by
  have h0 : (i 0).val < 12 := (i 0).isLt
  have h1 : (i 1).val < 20 := (i 1).isLt
  have h2 : (i 2).val < 2048 := (i 2).isLt
  have h3 : (i 3).val < 128 := (i 3).isLt
  have hp : pt4Of i < cfg0.N := by rw [show cfg0.N = 120 from N_0]; dsimp only [pt4Of, run4Of]; omega
  have hl : loc4Of i = ix4 0 ⟨(i 1).val % 2, by omega⟩ (i 2) (i 3) := by
    funext a
    fin_cases a
    · exact Fin.ext (show (i 0).val % 1 = 0 by omega)
    · rfl
    · exact Fin.ext (show (i 2).val % 2048 = (i 2).val by omega)
    · exact Fin.ext (show (i 3).val % 128 = (i 3).val by omega)
  unfold G4
  rw [dif_pos hp, ← outsAt0_sweep m c (pt4Of i) hp, hl]
  refine (at_o A hA ⟨pt4Of i, hp⟩ _ _ _).trans ?_
  have eb : pt4Of i / 10 = (i 0).val := by dsimp only [pt4Of, run4Of]; omega
  have eg : pt4Of i % 10 = (i 1).val / 2 := by dsimp only [pt4Of, run4Of]; omega
  dsimp only
  rw [eb, eg]

include hA in
/-- The kernel's final key states. -/
theorem G5_is (i : S12x10x40x128.Idx) : (G5 m c : S12x10x40x128.Idx → EReal) i =
    (stS (A.fB (i 0).val (i 1).val) (A.kB (i 0).val (i 1).val) 32 (i 2).val (i 3).val : EReal) := by
  have h0 : (i 0).val < 12 := (i 0).isLt
  have h1 : (i 1).val < 10 := (i 1).isLt
  have h2 : (i 2).val < 40 := (i 2).isLt
  have h3 : (i 3).val < 128 := (i 3).isLt
  have hp : pt5Of i < cfg0.N := by rw [show cfg0.N = 120 from N_0]; dsimp only [pt5Of, run5Of]; omega
  have hl : loc5Of i = ix4 0 0 (i 2) (i 3) := by
    funext a
    fin_cases a
    · exact Fin.ext (show (i 0).val % 1 = 0 by omega)
    · exact Fin.ext (show (i 1).val % 1 = 0 by omega)
    · exact Fin.ext (show (i 2).val % 40 = (i 2).val by omega)
    · exact Fin.ext (show (i 3).val % 128 = (i 3).val by omega)
  unfold G5
  rw [dif_pos hp, ← outsAt0_sweep m c (pt5Of i) hp, hl]
  refine (at_ks A hA ⟨pt5Of i, hp⟩ _ _).trans ?_
  have eb : pt5Of i / 10 = (i 0).val := by dsimp only [pt5Of, run5Of]; omega
  have eg : pt5Of i % 10 = (i 1).val := by dsimp only [pt5Of, run5Of]; omega
  dsimp only
  rw [eb, eg]

include hA in
/-- The kernel's final value states. -/
theorem G6_is (i : S12x10x40x128.Idx) : (G6 m c : S12x10x40x128.Idx → EReal) i =
    (stS (A.fB (i 0).val (i 1).val) (A.vB (i 0).val (i 1).val) 32 (i 2).val (i 3).val : EReal) := by
  have h0 : (i 0).val < 12 := (i 0).isLt
  have h1 : (i 1).val < 10 := (i 1).isLt
  have h2 : (i 2).val < 40 := (i 2).isLt
  have h3 : (i 3).val < 128 := (i 3).isLt
  have hp : pt6Of i < cfg0.N := by rw [show cfg0.N = 120 from N_0]; dsimp only [pt6Of, run6Of]; omega
  have hl : loc6Of i = ix4 0 0 (i 2) (i 3) := by
    funext a
    fin_cases a
    · exact Fin.ext (show (i 0).val % 1 = 0 by omega)
    · exact Fin.ext (show (i 1).val % 1 = 0 by omega)
    · exact Fin.ext (show (i 2).val % 40 = (i 2).val by omega)
    · exact Fin.ext (show (i 3).val % 128 = (i 3).val by omega)
  unfold G6
  rw [dif_pos hp, ← outsAt0_sweep m c (pt6Of i) hp, hl]
  refine (at_vs A hA ⟨pt6Of i, hp⟩ _ _).trans ?_
  have eb : pt6Of i / 10 = (i 0).val := by dsimp only [pt6Of, run6Of]; omega
  have eg : pt6Of i % 10 = (i 1).val := by dsimp only [pt6Of, run6Of]; omega
  dsimp only
  rw [eb, eg]

end Cert.KernelIdeal.Model

end
-- ==== Proof.Kern.ScaleRows.lean ====
/- The two arrays of scales the kernel returns: what the grid points store row by row is there after the last. -/
module

public import proofs.«01_k».proof.Proof.Kern.Final
public import Idealize.ShloMosaic.Lib.Pipeline.ArrRel

@[expose] public section

set_option maxRecDepth 16384

noncomputable section

namespace Cert.KernelIdeal.Model

open Idealize.ShloMosaic Idealize.ShloMosaic.TcCoe Cert.KernelIdeal Cert.KernelIdeal.Gen Cert.KernelIdeal.Value
open Idealize.ShloMosaic.Pipeline (RDat)

/-- The grid point's coordinates: batch and group. -/
theorem coords_is : ∀ t : Fin cfg0.N, (grid0.coords t 0).val = t.val / 10 ∧ (grid0.coords t 1).val = t.val % 10 :=
  (by decide +kernel : ∀ t : Fin grid0.N, (grid0.coords t 0).val = t.val / 10 ∧ (grid0.coords t 1).val = t.val % 10)

/-- The scales' windows are written back after the last point only. -/
theorem flush_scales : ∀ t : Fin cfg0.N, ((cfg0.win 8).flush t = true → t.val = 119) ∧ ((cfg0.win 10).flush t = true → t.val = 119) :=
  (by decide +kernel : ∀ t : Fin grid0.N, (win0_8.flush t = true → t.val = 119) ∧ (win0_10.flush t = true → t.val = 119))

/-- They are not read in. -/
theorem fetch_scales : ∀ t : Fin cfg0.N, (cfg0.win 8).fetch t = false ∧ (cfg0.win 10).fetch t = false :=
  (by decide +kernel : ∀ t : Fin grid0.N, win0_8.fetch t = false ∧ win0_10.fetch t = false)

/-- The last grid point. -/
def last : Fin cfg0.N := ⟨119, by rw [show cfg0.N = 120 from N_0]; decide⟩

theorem whole8 : (cfg0.win 8).WholeAt last := (by decide +kernel : win0_8.WholeAt (⟨119, by decide⟩ : Fin grid0.N))
theorem whole10 : (cfg0.win 10).WholeAt last := (by decide +kernel : win0_10.WholeAt (⟨119, by decide⟩ : Fin grid0.N))

variable {m : (ℓ : Loc nD τ sig) → Buf (Elt Ideal) ℓ} {c : Dev nD}
variable (A : Cert.ReferenceIdeal.Model.Args (arg0 m c) (arg1 m c) (arg2 m c) (arg3 m c)) (hA : Bounded A)

/-- A query scale: of batch `b`, head `h` and chunk `l`. -/
@[reducible] def IsQ (b h l : ℕ) (s : ℝ) : Prop := IsScale (fun r d => A.qB b (h / 2) (h % 2) (64 * l + r) d) s
/-- A key scale: of batch `b`, group `g` and chunk `l`. -/
@[reducible] def IsK (b g l : ℕ) (s : ℝ) : Prop := IsScale (fun r d => A.kB b g (64 * l + r) d) s

/-! ## The query scales -/

include hA in
/-- What one grid point does to them: its rows are its scales, the others are left alone. -/
theorem step_qs (t : Fin cfg0.N) (Y X : Vec Ideal S12x20x32 .f32) (hX : rel0_8 m c t Y X) :
    (∀ (b : Fin 12) (r : Fin 20) (l : Fin 32), b.val = t.val / 10 ∧ r.val / 2 = t.val % 10 → ∃ s : ℝ, IsQ A b r l s ∧ X (ix3 b r l) = (s : EReal)) ∧
      ∀ (b : Fin 12) (r : Fin 20) (l : Fin 32), ¬(b.val = t.val / 10 ∧ r.val / 2 = t.val % 10) → X (ix3 b r l) = Y (ix3 b r l) := by
  obtain ⟨e0, e1⟩ := coords_is t
  by_cases h0 : t.val % 120 = 0
  · -- the first point
    obtain ⟨s, hs, hq, -⟩ := scales_out (inA (ms0_0 t) (hs0_0 t) (ms0_1 t) (hs0_1 t) (ms0_2 t) (hs0_2 t) (ms0_3 t) (hs0_3 t) (ms0_7 t) (ms0_9 t) scM0_0 scM0_1 scM0_2 scM0_3 scM0_4 scM0_5 scM0_6 scM0_7 (block A hA t))
    rw [hX.1 h0, runA_qs]
    refine ⟨fun b r l h => ⟨s (32 * (r.val % 2) + l), ?_, qRows_hit (grid0.coords t) _ _ hs b r l (h.1.trans e0.symm) (h.2.trans e1.symm)⟩, fun b r l h => ?_⟩
    · have := hq (r.val % 2) l (Nat.mod_lt _ (by norm_num)) l.2
      show IsScale (fun j d => A.qB b (r.val / 2) (r.val % 2) (64 * l + j) d) _
      rw [h.1, h.2]
      exact this
    · refine (qRows_miss (grid0.coords t) _ _ b r l ?_).trans ?_
      · rw [e0, e1]
        exact not_and_or.1 h
      · rw [(hs0_8 t).read_unread]
  · -- the others
    obtain ⟨s, hs, hq, -⟩ := scales_out (inB (ms0_0 t) (hs0_0 t) (ms0_1 t) (hs0_1 t) (ms0_2 t) (hs0_2 t) (ms0_3 t) (hs0_3 t) (ms0_7 t) (ms0_9 t) scM0_0 (Memref.isWhole_whole _) scM0_1 scM0_2 scM0_3 scM0_4 scM0_5 scM0_6 scM0_7 (block A hA t) (tri_is (t.val - 1) _))
    rw [hX.2 h0, runB_qs]
    refine ⟨fun b r l h => ⟨s (32 * (r.val % 2) + l), ?_, qRows_hit (grid0.coords t) _ _ hs b r l (h.1.trans e0.symm) (h.2.trans e1.symm)⟩, fun b r l h => ?_⟩
    · have := hq (r.val % 2) l (Nat.mod_lt _ (by norm_num)) l.2
      show IsScale (fun j d => A.qB b (r.val / 2) (r.val % 2) (64 * l + j) d) _
      rw [h.1, h.2]
      exact this
    · refine (qRows_miss (grid0.coords t) _ _ b r l ?_).trans ?_
      · rw [e0, e1]
        exact not_and_or.1 h
      · rw [(hs0_8 t).read_unread]

include hA in
/-- After point `n` the rows of the points up to it are there. -/
theorem upto_qs : ∀ (n : ℕ) (hn : n < cfg0.N) (X : Vec Ideal S12x20x32 .f32), (rdat0 m c).Leaves 8 ⟨n, hn⟩ X →
    ∀ (b : Fin 12) (r : Fin 20) (l : Fin 32), 10 * b.val + r.val / 2 ≤ n → ∃ s : ℝ, IsQ A b r l s ∧ X (ix3 b r l) = (s : EReal)
  | n, hn, X, ⟨Y, hY, hX⟩, b, r, l, hle => by
    obtain ⟨hit, miss⟩ := step_qs A hA ⟨n, hn⟩ Y X hX
    have hg : r.val / 2 < 10 := by have := r.2; omega
    by_cases h : b.val = n / 10 ∧ r.val / 2 = n % 10
    · exact hit b r l h
    · rw [miss b r l h]
      have hpos : n ≠ 0 := by omega
      rcases (RDat.finds_of_pos _ (fetch_scales ⟨n, hn⟩).1 hpos Y).1 hY with hf | hL
      · have := (flush_scales _).1 hf
        have hN := lt_of_lt_of_eq hn N_0
        dsimp only at this
        omega
      · exact upto_qs (n - 1) _ Y hL b r l (by omega)
termination_by n => n

include hA in
/-- The array after the run. -/
theorem final_qs (r : PUnit × MemSt nD τ sig (Elt Ideal)) (h : RDat.FramePost (cfgs 0) (rdat0 m) (V m) r) (i : S12x20x32.Idx) :
    ∃ s : ℝ, IsQ A (i 0).val (i 1).val (i 2).val s ∧ (r.2.mem ((c : Thread nD τ).loc main_v4_4) : S12x20x32.Idx → EReal) i = (s : EReal) := by
  obtain ⟨X, hL, hG⟩ := RDat.ArrAt.emb_eq_of_wholeAt ((h c).1 8) whole8
  have hb : (i 0).val < 12 := (i 0).isLt
  have hr : (i 1).val < 20 := (i 1).isLt
  obtain ⟨s, hs, e⟩ := upto_qs A hA 119 last.2 X hL (i 0) (i 1) (i 2) (by omega)
  refine ⟨s, hs, (hG i).trans (Eq.trans ?_ e)⟩
  refine congrArg (X : S12x20x32.Idx → EReal) ?_
  funext a
  fin_cases a <;> rfl

/-! ## The key scales -/

include hA in
/-- What one grid point does to them: its rows are its scales, the others are left alone. -/
theorem step_kl (t : Fin cfg0.N) (Y X : Vec Ideal S10x12x32 .f32) (hX : rel0_10 m c t Y X) :
    (∀ (g : Fin 10) (b : Fin 12) (l : Fin 32), b.val = t.val / 10 ∧ g.val = t.val % 10 → ∃ s : ℝ, IsK A b g l s ∧ X (ix3 g b l) = (s : EReal)) ∧
      ∀ (g : Fin 10) (b : Fin 12) (l : Fin 32), ¬(b.val = t.val / 10 ∧ g.val = t.val % 10) → X (ix3 g b l) = Y (ix3 g b l) := by
  obtain ⟨e0, e1⟩ := coords_is t
  by_cases h0 : t.val % 120 = 0
  · -- the first point
    obtain ⟨s, hs, -, hq⟩ := scales_out (inA (ms0_0 t) (hs0_0 t) (ms0_1 t) (hs0_1 t) (ms0_2 t) (hs0_2 t) (ms0_3 t) (hs0_3 t) (ms0_7 t) (ms0_9 t) scM0_0 scM0_1 scM0_2 scM0_3 scM0_4 scM0_5 scM0_6 scM0_7 (block A hA t))
    rw [hX.1 h0, runA_kl]
    refine ⟨fun g b l h => ⟨s (64 + l), ?_, kRows_hit (grid0.coords t) _ _ hs g b l (h.2.trans e1.symm) (h.1.trans e0.symm)⟩, fun g b l h => ?_⟩
    · show IsScale (fun j d => A.kB b g (64 * l + j) d) _
      rw [h.1, h.2]
      exact hq l l.2
    · refine (kRows_miss (grid0.coords t) _ _ g b l ?_).trans ?_
      · rw [e0, e1]
        exact not_and_or.1 h
      · rw [(hs0_10 t).read_unread]
  · -- the others
    obtain ⟨s, hs, -, hq⟩ := scales_out (inB (ms0_0 t) (hs0_0 t) (ms0_1 t) (hs0_1 t) (ms0_2 t) (hs0_2 t) (ms0_3 t) (hs0_3 t) (ms0_7 t) (ms0_9 t) scM0_0 (Memref.isWhole_whole _) scM0_1 scM0_2 scM0_3 scM0_4 scM0_5 scM0_6 scM0_7 (block A hA t) (tri_is (t.val - 1) _))
    rw [hX.2 h0, runB_kl]
    refine ⟨fun g b l h => ⟨s (64 + l), ?_, kRows_hit (grid0.coords t) _ _ hs g b l (h.2.trans e1.symm) (h.1.trans e0.symm)⟩, fun g b l h => ?_⟩
    · show IsScale (fun j d => A.kB b g (64 * l + j) d) _
      rw [h.1, h.2]
      exact hq l l.2
    · refine (kRows_miss (grid0.coords t) _ _ g b l ?_).trans ?_
      · rw [e0, e1]
        exact not_and_or.1 h
      · rw [(hs0_10 t).read_unread]

include hA in
/-- After point `n` the rows of the points up to it are there. -/
theorem upto_kl : ∀ (n : ℕ) (hn : n < cfg0.N) (X : Vec Ideal S10x12x32 .f32), (rdat0 m c).Leaves 10 ⟨n, hn⟩ X →
    ∀ (g : Fin 10) (b : Fin 12) (l : Fin 32), 10 * b.val + g.val ≤ n → ∃ s : ℝ, IsK A b g l s ∧ X (ix3 g b l) = (s : EReal)
  | n, hn, X, ⟨Y, hY, hX⟩, g, b, l, hle => by
    obtain ⟨hit, miss⟩ := step_kl A hA ⟨n, hn⟩ Y X hX
    have hg : g.val < 10 := by have := g.2; omega
    by_cases h : b.val = n / 10 ∧ g.val = n % 10
    · exact hit g b l h
    · rw [miss g b l h]
      have hpos : n ≠ 0 := by omega
      rcases (RDat.finds_of_pos _ (fetch_scales ⟨n, hn⟩).2 hpos Y).1 hY with hf | hL
      · have := (flush_scales _).2 hf
        have hN := lt_of_lt_of_eq hn N_0
        dsimp only at this
        omega
      · exact upto_kl (n - 1) _ Y hL g b l (by omega)
termination_by n => n

include hA in
/-- The array after the run. -/
theorem final_kl (r : PUnit × MemSt nD τ sig (Elt Ideal)) (h : RDat.FramePost (cfgs 0) (rdat0 m) (V m) r) (i : S10x12x32.Idx) :
    ∃ s : ℝ, IsK A (i 1).val (i 0).val (i 2).val s ∧ (r.2.mem ((c : Thread nD τ).loc main_v4_6) : S10x12x32.Idx → EReal) i = (s : EReal) := by
  obtain ⟨X, hL, hG⟩ := RDat.ArrAt.emb_eq_of_wholeAt ((h c).1 10) whole10
  have hb : (i 1).val < 12 := (i 1).isLt
  have hr : (i 0).val < 10 := (i 0).isLt
  obtain ⟨s, hs, e⟩ := upto_kl A hA 119 last.2 X hL (i 0) (i 1) (i 2) (by omega)
  refine ⟨s, hs, (hG i).trans (Eq.trans ?_ e)⟩
  refine congrArg (X : S10x12x32.Idx → EReal) ?_
  funext a
  fin_cases a <;> rfl

end Cert.KernelIdeal.Model

end
-- ==== Proof.Ref.Scales.lean ====
/- The reference's scales, in the layouts they are returned in. -/
module

public import proofs.«01_k».proof.Proof.Ref.Weights

@[expose] public section

set_option maxRecDepth 16384

noncomputable section

namespace Cert.ReferenceIdeal.Model

open Idealize.ShloMosaic Cert.ReferenceIdeal Cert.ReferenceIdeal.Gen Cert.ReferenceIdeal.Read Cert.KernelIdeal.Model

/-- An entry of a block of the queries, by batch, chunk, step in the chunk, head and feature. -/
theorem blkQ_eq (q : ℕ → ℕ → ℕ → ℕ → ℝ) (i : S12x32x64x20x128.Idx) :
    blkQ (fun i => q (i 0).val (i 1).val (i 2).val (i 3).val) i = q (i 0).val (64 * (i 1).val + (i 2).val) (i 3).val (i 4).val := by
  have h0 : (i 0).val < 12 := (i 0).isLt
  have h1 : (i 1).val < 32 := (i 1).isLt
  have h2 : (i 2).val < 64 := (i 2).isLt
  have h3 : (i 3).val < 20 := (i 3).isLt
  have h4 : (i 4).val < 128 := (i 4).isLt
  unfold blkQ
  show q _ _ _ _ = _
  congr 1 <;> dsimp <;> omega

/-- An entry of a block of the keys. -/
theorem blkK_eq (k : ℕ → ℕ → ℕ → ℕ → ℝ) (i : S12x32x64x10x128.Idx) :
    blkK (fun i => k (i 0).val (i 1).val (i 2).val (i 3).val) i = k (i 0).val (64 * (i 1).val + (i 2).val) (i 3).val (i 4).val := by
  have h0 : (i 0).val < 12 := (i 0).isLt
  have h1 : (i 1).val < 32 := (i 1).isLt
  have h2 : (i 2).val < 64 := (i 2).isLt
  have h3 : (i 3).val < 10 := (i 3).isLt
  have h4 : (i 4).val < 128 := (i 4).isLt
  unfold blkK
  show k _ _ _ _ = _
  congr 1 <;> dsimp <;> omega

variable {x0 : S12x2048x20x128.Idx → EReal} {x1 x2 : S12x2048x10x128.Idx → EReal} {x3 : S12x2048x10x40.Idx → EReal}
variable (A : Args x0 x1 x2 x3)

/-- The scales of the queries, by batch, head and chunk. -/
theorem v116_is (i : S12x20x32.Idx) : ∃ s : ℝ,
    IsScale (fun r d => A.qB (i 0).val ((i 1).val / 2) ((i 1).val % 2) (64 * (i 2).val + r) d) s ∧ val_main_v116 (F := Ideal) x0 i = (s : EReal) := by
  obtain ⟨s, M, -, e, -, hs, hle, i₁, a0, a1, a2, hM⟩ := v19_is (q := fun i => A.q (i 0).val (i 1).val (i 2).val (i 3).val) A.hq (idx_main_v116 i)
  have hh : 2 * ((i 1).val / 2) + (i 1).val % 2 = (i 1).val := Nat.div_add_mod _ _
  have b2 : (i₁ 2).val < 64 := (i₁ 2).isLt
  have b4 : (i₁ 4).val < 128 := (i₁ 4).isLt
  refine ⟨s, ⟨M, ⟨fun r d hr hd => ?_, ?_⟩, hs⟩, by rw [val_main_v116_apply]; exact e⟩
  · have := hle (fun a => match a with
      | ⟨0, _⟩ => i 0 | ⟨1, _⟩ => i 2 | ⟨2, _⟩ => (⟨r, hr⟩ : Fin 64) | ⟨3, _⟩ => i 1 | ⟨4, _⟩ => (⟨d, hd⟩ : Fin 128)) rfl rfl rfl
    rw [blkQ_eq] at this
    unfold Args.qB
    dsimp only
    rw [hh]
    exact this
  · rw [blkQ_eq, a0, a1, a2] at hM
    refine ⟨(i₁ 2).val, (i₁ 4).val, b2, b4, ?_⟩
    unfold Args.qB
    dsimp only
    rw [hh]
    exact hM

/-- The scales of the keys, by group, batch and chunk. -/
theorem v117_is (i : S10x12x32.Idx) : ∃ s : ℝ,
    IsScale (fun r d => A.kB (i 1).val (i 0).val (64 * (i 2).val + r) d) s ∧ val_main_v117 (F := Ideal) x1 i = (s : EReal) := by
  obtain ⟨s, M, -, e, -, hs, hle, i₁, a0, a1, a2, hM⟩ := v47_is (k := fun i => A.k (i 0).val (i 1).val (i 2).val (i 3).val) A.hk (idx_main_v117 i)
  have b2 : (i₁ 2).val < 64 := (i₁ 2).isLt
  have b4 : (i₁ 4).val < 128 := (i₁ 4).isLt
  refine ⟨s, ⟨M, ⟨fun r d hr hd => ?_, ?_⟩, hs⟩, by rw [val_main_v117_apply]; exact e⟩
  · have := hle (fun a => match a with
      | ⟨0, _⟩ => i 1 | ⟨1, _⟩ => i 2 | ⟨2, _⟩ => (⟨r, hr⟩ : Fin 64) | ⟨3, _⟩ => i 0 | ⟨4, _⟩ => (⟨d, hd⟩ : Fin 128)) rfl rfl rfl
    rw [blkK_eq] at this
    exact this
  · rw [blkK_eq, a0, a1, a2] at hM
    refine ⟨(i₁ 2).val, (i₁ 4).val, b2, b4, ?_⟩
    exact hM

end Cert.ReferenceIdeal.Model

end
-- ==== Proof.Tame.lean ====
/- What the precondition says of the arguments: real numbers, within bounds. -/
module

public import proofs.«01_k».proof.Pre_tame
public import proofs.«01_k».proof.Proof.Gen.Pre_tame
public import proofs.«01_k».proof.Proof.Kern.Blocks
public import Idealize.ShloMosaic.Lib.ReduceAll

@[expose] public section

noncomputable section

namespace Cert.Tame

open Idealize.ShloMosaic Idealize.ShloMosaic.TcCoe

local instance : Subsingleton Cert.Pre_tame.S_.Idx := ⟨fun _ _ => funext fun a => a.elim0⟩

/-- The largest finite bf16, written as an f32. -/
theorem ofBits_max : Ideal.ofBits .f32 0x7F7F0000#32 = (((2 : ℝ) ^ 128 - 2 ^ 120 : ℝ) : EReal) := by
  rw [show (2 : ℝ) ^ 128 - 2 ^ 120 = 338953138925153547590470800371487866880 by norm_num]
  simp [Ideal.ofBits, Ideal.ieee, -EReal.coe_mul]; norm_num

/-- The bound on the gate logits. -/
theorem ofBits_logit : Ideal.ofBits .f32 0x41130000#32 = ((147 / 16 : ℝ) : EReal) := by
  simp [Ideal.ofBits, Ideal.ieee, -EReal.coe_mul]; norm_num

/-- A magnitude compared below a real is that of a real number. -/
theorem bounded_of_cmp (x : EReal) (B : ℝ) (h : Ideal.cmp .ole (max x (-x)) (B : EReal) = 1#1) : x = (x.toReal : EReal) ∧ |x.toReal| ≤ B := by
  have h' : max x (-x) ≤ (B : EReal) := by
    by_contra hn
    rw [show Ideal.cmp .ole (max x (-x)) (B : EReal) = BitVec.ofBool (decide (max x (-x) ≤ (B : EReal))) from rfl, decide_eq_false hn] at h
    exact absurd h (by decide)
  obtain ⟨h1, h2⟩ := max_le_iff.1 h'
  induction x with
  | bot => exact absurd h2 (by simp)
  | top => exact absurd h1 (by simp)
  | coe r =>
    refine ⟨by rw [EReal.toReal_coe], ?_⟩
    rw [EReal.toReal_coe]
    exact abs_le.2 ⟨by linarith [EReal.coe_le_coe_iff.1 (by rw [EReal.coe_neg]; exact h2 : ((-r : ℝ) : EReal) ≤ (B : EReal))],
      EReal.coe_le_coe_iff.1 h1⟩

local instance : Cert.Pre_tame.Facts := Cert.Pre_tame.Gen.facts

/-- The precondition, element by element. -/
theorem elems (x0 : Cert.Pre_tame.S12x2048x20x128.Idx → EReal) (x1 x2 : Cert.Pre_tame.S12x2048x10x128.Idx → EReal)
    (x3 : Cert.Pre_tame.S12x2048x10x40.Idx → EReal)
    (h : Cert.Pre_tame.fn (F := Ideal) x0 x1 x2 x3 = fun _ => 1#1) :
    (∀ i, x0 i = ((x0 i).toReal : EReal) ∧ |(x0 i).toReal| ≤ 2 ^ 128 - 2 ^ 120) ∧
    (∀ i, x1 i = ((x1 i).toReal : EReal) ∧ |(x1 i).toReal| ≤ 2 ^ 128 - 2 ^ 120) ∧
    (∀ i, x2 i = ((x2 i).toReal : EReal) ∧ |(x2 i).toReal| ≤ 2 ^ 128 - 2 ^ 120) ∧
    (∀ i, x3 i = ((x3 i).toReal : EReal) ∧ |(x3 i).toReal| ≤ 147 / 16) := by
  have h' := congrFun h (fun a => a.elim0)
  unfold Cert.Pre_tame.fn Cert.Pre_tame.fn_part1 at h'
  obtain ⟨h012, h3⟩ := IntOp.andi_eq_one.1 h'
  obtain ⟨h01, h2⟩ := IntOp.andi_eq_one.1 h012
  obtain ⟨h0, h1⟩ := IntOp.andi_eq_one.1 h01
  refine ⟨fun i => bounded_of_cmp _ _ ?_, fun i => bounded_of_cmp _ _ ?_, fun i => bounded_of_cmp _ _ ?_, fun i => bounded_of_cmp _ _ ?_⟩
  · rw [← ofBits_max]; exact Host.reduce_andi_all _ _ _ _ _ h0 i
  · rw [← ofBits_max]; exact Host.reduce_andi_all _ _ _ _ _ h1 i
  · rw [← ofBits_max]; exact Host.reduce_andi_all _ _ _ _ _ h2 i
  · rw [← ofBits_logit]; exact Host.reduce_andi_all _ _ _ _ _ h3 i

/-- An array of rank four as a function of four numbers. -/
def real4 {n0 n1 n2 n3 : ℕ} [NeZero n0] [NeZero n1] [NeZero n2] [NeZero n3] (x : (⟨4, ![n0, n1, n2, n3]⟩ : Shape).Idx → EReal)
    (a b c d : ℕ) : ℝ := (x (ix4 (Fin.ofNat n0 a) (Fin.ofNat n1 b) (Fin.ofNat n2 c) (Fin.ofNat n3 d))).toReal

/-- It has the elements of the array. -/
theorem real4_eq {n0 n1 n2 n3 : ℕ} [NeZero n0] [NeZero n1] [NeZero n2] [NeZero n3] (x : (⟨4, ![n0, n1, n2, n3]⟩ : Shape).Idx → EReal)
    (hx : ∀ i, x i = ((x i).toReal : EReal)) (i) : x i = (real4 x (i 0).val (i 1).val (i 2).val (i 3).val : EReal) := by
  have e : ix4 (Fin.ofNat n0 (i 0).val) (Fin.ofNat n1 (i 1).val) (Fin.ofNat n2 (i 2).val) (Fin.ofNat n3 (i 3).val) = i := by
    refine Eq.trans ?_ (ix4_eta i)
    congr 1
    · exact Fin.ext (Nat.mod_eq_of_lt (i 0).isLt)
    · exact Fin.ext (Nat.mod_eq_of_lt (i 1).isLt)
    · exact Fin.ext (Nat.mod_eq_of_lt (i 2).isLt)
    · exact Fin.ext (Nat.mod_eq_of_lt (i 3).isLt)
  unfold real4
  rw [e]
  exact hx i

open Cert.KernelIdeal.Model in
/-- Tame arguments are arrays of real numbers, bounded as the proof needs. -/
theorem args {m : (ℓ : Loc Cert.KernelIdeal.nD Cert.KernelIdeal.τ Cert.KernelIdeal.sig) → Buf (Elt Ideal) ℓ} {c : Dev Cert.KernelIdeal.nD}
    (h : Cert.Pre_tame.fn (F := Ideal) (arg0 m c) (arg1 m c) (arg2 m c) (arg3 m c) = fun _ => 1#1) :
    ∃ A : Cert.ReferenceIdeal.Model.Args (arg0 m c) (arg1 m c) (arg2 m c) (arg3 m c), Bounded A := by
  obtain ⟨h0, h1, h2, h3⟩ := elems _ _ _ _ h
  refine ⟨⟨real4 (arg0 m c), real4 (arg1 m c), real4 (arg2 m c), real4 (arg3 m c), real4_eq _ fun i => (h0 i).1, real4_eq _ fun i => (h1 i).1,
    real4_eq _ fun i => (h2 i).1, real4_eq _ fun i => (h3 i).1⟩, ?_, ?_, ?_⟩
  · exact fun b t h d _ _ _ _ => ((h0 _).2).trans (by norm_num)
  · exact fun b t h d _ _ _ _ => ((h1 _).2).trans (by norm_num)
  · exact fun b t h d _ _ _ _ => (h3 _).2

end Cert.Tame

end
-- ==== Proof.lean ====
/- The claims of the certificate: the frames of the three programs, the ledger of the idealization, and the values. -/
module

public import proofs.«01_k».proof.Defs
public import proofs.«01_k».proof.Proof.Run.Kernel.Frame
public import proofs.«01_k».proof.Proof.Run.KernelIdeal.Value
public import proofs.«01_k».proof.Proof.Kern.Result
public import proofs.«01_k».proof.Proof.Kern.Words
public import proofs.«01_k».proof.Proof.Gen.ReferenceIdeal.Read
public import proofs.«01_k».proof.Proof.Kern.Final
public import proofs.«01_k».proof.Proof.Kern.ScaleRows
public import proofs.«01_k».proof.Proof.Ref.Scales
public import proofs.«01_k».proof.Proof.Tame

@[expose] public section

noncomputable section

namespace Cert.Proof

open Idealize.ShloMosaic Idealize.SL.Sem

/-- The kernel as printed ends with its arguments unchanged and its semaphores at zero. -/
theorem frame_p : Cert.quiescent_Kernel (hKernel := Cert.Kernel.Gen.facts) := fun m ρ _ => Cert.Kernel.Gen.frame m ρ

/-- The idealized kernel likewise. -/
theorem frame_pi : Cert.quiescent_KernelIdeal (hKernelIdeal := Cert.KernelIdeal.Gen.facts) := fun m ρ _ =>
  Cert.KernelIdeal.Gen.frame m ρ

/-- The reference likewise: a host program without semaphores. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The five statements of the ledger: the splits of an f32 into bf16 parts, at their shapes, and the constant
    `log2(e) / sqrt 128`. -/
theorem preserves : Cert.preserves_Kernel_KernelIdeal :=
  ⟨IdealRules.bf16_pack.statement Cert.KernelIdeal.S40x256,
   IdealRules.bf16_pack.statement Cert.KernelIdeal.S40x128,
   IdealRules.bf16_pack.statement Cert.KernelIdeal.S64x128,
   IdealRules.named_const.statement Cert.KernelIdeal.κ "log2e_scale" .f32 0x3E0293EE#32
     (((Real.log 2)⁻¹ * (Real.sqrt 128)⁻¹ : ℝ) : EReal) rfl,
   IdealRules.bf16_pack.statement Cert.KernelIdeal.S128x128⟩

/-- The idealized kernel's frame does not need the precondition. -/
theorem frame_pi_tame : Cert.quiescent_KernelIdeal_pre_tame (hKernelIdeal := Cert.KernelIdeal.Gen.facts) (hPre_tame := Cert.Pre_tame.Gen.facts) :=
  fun m ρ _ => frame_pi m ρ trivial

/-- Nor does the reference's. -/
theorem frame_ri_tame : Cert.quiescent_ReferenceIdeal_pre_tame (hReferenceIdeal := Cert.ReferenceIdeal.Gen.facts)
    (hPre_tame := Cert.Pre_tame.Gen.facts) := fun m ρ _ => frame_ri m ρ trivial

/-- The output, the two final states and the two arrays of scales of the idealized kernel are the reference's. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m ρ m' ρ' hpre hagree
  refine ⟨Cert.KernelIdeal.Value.G4 m, Cert.KernelIdeal.Value.G5 m, Cert.KernelIdeal.Value.G6 m,
    fun c => Cert.ReferenceIdeal.Read.val_main_v116 (F := Ideal) (m ((c.tc : Thread Cert.KernelIdeal.nD Cert.KernelIdeal.τ).loc Cert.KernelIdeal.main_arg0)),
    fun c => Cert.ReferenceIdeal.Read.val_main_v117 (F := Ideal) (m ((c.tc : Thread Cert.KernelIdeal.nD Cert.KernelIdeal.τ).loc Cert.KernelIdeal.main_arg1)), ?_, ?_⟩
  · refine (θ_run Cert.KernelIdeal.defs _ _).mono (fun r h c => ⟨(Cert.KernelIdeal.Value.post4 m r h c).trans (Cert.KernelIdeal.Value.final4 m c),
      (Cert.KernelIdeal.Value.post5 m r h c).trans (Cert.KernelIdeal.Value.final5 m c),
      (Cert.KernelIdeal.Value.post6 m r h c).trans (Cert.KernelIdeal.Value.final6 m c), ?_, ?_,
      Cert.KernelIdeal.Value.kept_main_arg0 m r h c, Cert.KernelIdeal.Value.kept_main_arg1 m r h c,
      Cert.KernelIdeal.Value.kept_main_arg2 m r h c, Cert.KernelIdeal.Value.kept_main_arg3 m r h c⟩)
      (Cert.KernelIdeal.Gen.run_main m ρ)
    all_goals obtain ⟨A, hA⟩ := Cert.Tame.args (hpre c)
    · funext i
      obtain ⟨s, hs, e⟩ := Cert.KernelIdeal.Model.final_qs A hA r h i
      obtain ⟨s', hs', e'⟩ := Cert.ReferenceIdeal.Model.v116_is A i
      exact e.trans ((congrArg _ (hs.unique hs')).trans e'.symm)
    · funext i
      obtain ⟨s, hs, e⟩ := Cert.KernelIdeal.Model.final_kl A hA r h i
      obtain ⟨s', hs', e'⟩ := Cert.ReferenceIdeal.Model.v117_is A i
      exact e.trans ((congrArg _ (hs.unique hs')).trans e'.symm)
  · refine (θ_run Cert.ReferenceIdeal.defs _ _).mono (fun _ h c => ⟨(h c).1.trans ?_, (h c).2.1.trans ?_, (h c).2.2.1.trans ?_,
      (h c).2.2.2.1.trans ?_, (h c).2.2.2.2.1.trans ?_, (h c).2.2.2.2.2⟩)
      (Cert.ReferenceIdeal.Value.run (F := Ideal) m' ρ')
    all_goals obtain ⟨A, hA⟩ := Cert.Tame.args (hpre c)
    · refine (Cert.ReferenceIdeal.Read.val_main_v115_eq _).trans ((congr (congr (congrArg₂ (Cert.ReferenceIdeal.Read.val_main_v115 (F := Ideal)) (hagree c).1 (hagree c).2.1) (hagree c).2.2.1) (hagree c).2.2.2).trans ?_)
      exact funext fun i => (Cert.ReferenceIdeal.Model.v115_is A i).trans (Cert.KernelIdeal.Model.G4_is A hA i).symm
    · refine (Cert.ReferenceIdeal.Read.val_main_v87_eq _).trans ((congrArg₂ (Cert.ReferenceIdeal.Read.val_main_v87 (F := Ideal)) (hagree c).2.1 (hagree c).2.2.2).trans ?_)
      exact funext fun i => (Cert.ReferenceIdeal.Model.v87_is A i).trans (Cert.KernelIdeal.Model.G5_is A hA i).symm
    · refine (Cert.ReferenceIdeal.Read.val_main_v90_eq _).trans ((congrArg₂ (Cert.ReferenceIdeal.Read.val_main_v90 (F := Ideal)) (hagree c).2.2.1 (hagree c).2.2.2).trans ?_)
      exact funext fun i => (Cert.ReferenceIdeal.Model.v90_is A i).trans (Cert.KernelIdeal.Model.G6_is A hA i).symm
    · exact (Cert.ReferenceIdeal.Read.val_main_v116_eq _).trans (congrArg (Cert.ReferenceIdeal.Read.val_main_v116 (F := Ideal)) (hagree c).1)
    · exact (Cert.ReferenceIdeal.Read.val_main_v117_eq _).trans (congrArg (Cert.ReferenceIdeal.Read.val_main_v117 (F := Ideal)) (hagree c).2.1)

/-- The claims, assembled. -/
theorem claim : Cert.Claim :=
  ⟨Cert.Kernel.Gen.facts, Cert.KernelIdeal.Gen.facts, Cert.ReferenceIdeal.Gen.facts, Cert.Pre_tame.Gen.facts, frame_p, frame_pi,
    frame_pi_tame, frame_ri, frame_ri_tame, preserves, algebraic⟩

end Cert.Proof

end
